-- ==== Defs.lean ====
def Pre_Kernel [hPre_work_items : Cert.Pre_work_items.Facts] (m : (ℓ : Loc Cert.Kernel.nD Cert.Kernel.τ Cert.Kernel.sig) → Buf (Elt Bits) ℓ) : Prop :=
  ∀ c : Dev Cert.Kernel.nD,
    (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.1 = (fun _ => 1#1)
    ∧ (Cert.Pre_work_items.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.2 = (fun _ => 1#1)

def Pre_KernelIdeal [hPre_work_items : Cert.Pre_work_items.Facts] (m : (ℓ : Loc Cert.KernelIdeal.nD Cert.KernelIdeal.τ Cert.KernelIdeal.sig) → Buf (Elt Ideal) ℓ) : Prop :=
  ∀ c : Dev Cert.KernelIdeal.nD,
    (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_work_items.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal [hPre_work_items : Cert.Pre_work_items.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_work_items.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_positions : Cert.Pre_positions.Facts] (m : (ℓ : Loc Cert.Kernel3.nD Cert.Kernel3.τ Cert.Kernel3.sig) → Buf (Elt Bits) ℓ) : Prop :=
  ∀ c : Dev Cert.Kernel3.nD,
    (Cert.Pre_positions.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))) = (fun _ => 1#1)

def Pre_Kernel3Ideal [hPre_positions : Cert.Pre_positions.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_positions.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal [hPre_positions : Cert.Pre_positions.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_positions.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] [hPre_work_items : Cert.Pre_work_items.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_work_items : Cert.Pre_work_items.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_work_items : Cert.Pre_work_items.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_positions : Cert.Pre_positions.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] [hPre_positions : Cert.Pre_positions.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] [hPre_positions : Cert.Pre_positions.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_work_items : Cert.Pre_work_items.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_positions : Cert.Pre_positions.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hPre_work_items : Cert.Pre_work_items.Facts) (hPre_positions : Cert.Pre_positions.Facts),
    quiescent_Kernel (hKernel := hKernel) (hPre_work_items := hPre_work_items)
    ∧ quiescent_KernelIdeal (hKernelIdeal := hKernelIdeal) (hPre_work_items := hPre_work_items)
    ∧ quiescent_ReferenceIdeal (hReferenceIdeal := hReferenceIdeal) (hPre_work_items := hPre_work_items)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_positions := hPre_positions)
    ∧ quiescent_Kernel3Ideal (hKernel3Ideal := hKernel3Ideal) (hPre_positions := hPre_positions)
    ∧ quiescent_Reference3Ideal (hReference3Ideal := hReference3Ideal) (hPre_positions := hPre_positions)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal) (hPre_work_items := hPre_work_items)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_positions := hPre_positions)
    ∧ preserves_Kernel4_Kernel4Ideal
    ∧ preserves_Kernel5_Kernel5Ideal
-- ==== Pre_positions.lean ====
abbrev S32768 : Shape := ⟨1, ![32768]⟩
abbrev S294912x128 : Shape := ⟨2, ![294912, 128]⟩
abbrev S1024 : Shape := ⟨1, ![1024]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S32768 32) (main_arg1 : FVec F S294912x128 .f32) (main_arg2 : FVec F S1024 .f32) : IVec S32768 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 32768#32
  let main_v2 : IVec S32768 32 := broadcastInDim S32768 ![] bcast_S_S32768 main_c_0
  let main_v3 : IVec S32768 1 := cmpi .slt main_arg0 main_v2
  let main_v4 : IVec S32768 1 := andi main_v1 main_v3
  main_v4
-- ==== Pre_work_items.lean ====
abbrev S240 : Shape := ⟨1, ![240]⟩
abbrev S294912x128 : Shape := ⟨2, ![294912, 128]⟩
abbrev S1x1024 : Shape := ⟨2, ![1, 1024]⟩
abbrev S32x1024x256 : Shape := ⟨3, ![32, 1024, 256]⟩
abbrev S32x256x1024 : Shape := ⟨3, ![32, 256, 1024]⟩
abbrev S32768x9x128 : Shape := ⟨3, ![32768, 9, 128]⟩
abbrev S32768x1x2 : Shape := ⟨3, ![32768, 1, 2]⟩
abbrev S32768x2 : Shape := ⟨2, ![32768, 2]⟩
abbrev S1 : Shape := ⟨1, ![1]⟩
abbrev S_ : Shape := ⟨0, ![]⟩
abbrev S239 : Shape := ⟨1, ![239]⟩

class Facts : Prop where
  shapeCasts_S294912x128_S32768x9x128 : S294912x128.ShapeCasts S32768x9x128
  slices_S32768x9x128_S32768x1x2_0_8_0 : S32768x9x128.Slices ![0, 8, 0] S32768x1x2
  shapeCasts_S32768x1x2_S32768x2 : S32768x1x2.ShapeCasts S32768x2
  slices_S240_S1_0 : S240.Slices ![0] S1
  bcast_S_S1 : S_.BroadcastsInDim S1 (![] : Fin 0 → Fin S1.rank)
  slices_S240_S1_239 : S240.Slices ![239] S1
  slices_S240_S239_0 : S240.Slices ![0] S239
  slices_S240_S239_1 : S240.Slices ![1] S239
  bcast_S_S240 : S_.BroadcastsInDim S240 (![] : Fin 0 → Fin S240.rank)
  bcast_S_S32768x2 : S_.BroadcastsInDim S32768x2 (![] : Fin 0 → Fin S32768x2.rank)

variable [Facts]

def fn_part2 {F : FTy → Type} [FloatOps F] (main_arg2 : IVec S240 32) (main_v2 : FVec F S32768x2 .f32) (main_v5 : IVec S1 1) (main_v8 : IVec S1 1) (main_v11 : IVec S239 1) (main_v12 : IVec S240 1) (main_v17 : IVec S240 1) (main_v20 : IVec S239 1) (main_v29 : IVec S240 1) (main_v34 : IVec S240 1) (main_v36 : IVec S240 1) (main_c_9 : IVec S_ 32) : IVec S1 1 × IVec S1 1 × IVec S239 1 × IVec S240 1 × IVec S240 1 × IVec S239 1 × IVec S240 1 × IVec S240 1 × IVec S240 1 × IVec S32768x2 1 :=
  let main_v37 : IVec S240 32 := broadcastInDim S240 ![] bcast_S_S240 main_c_9
  let main_v38 : IVec S240 1 := cmpi .slt main_arg2 main_v37
  let main_v39 : IVec S240 1 := andi main_v36 main_v38
  let main_cst : FVec F S_ .f32 := constant S_ .f32 0x00000000#32
  let main_v40 : FVec F S32768x2 .f32 := broadcastInDim S32768x2 ![] bcast_S_S32768x2 main_cst
  let main_v41 : IVec S32768x2 1 := cmpf .oge main_v2 main_v40
  let main_cst_10 : FVec F S_ .f32 := constant S_ .f32 0x7F800000#32
  let main_v42 : FVec F S32768x2 .f32 := broadcastInDim S32768x2 ![] bcast_S_S32768x2 main_cst_10
  let main_v43 : IVec S32768x2 1 := cmpf .olt main_v2 main_v42
  let main_v44 : IVec S32768x2 1 := andi main_v41 main_v43
  (main_v5, main_v8, main_v11, main_v12, main_v17, main_v20, main_v29, main_v34, main_v39, main_v44)

def fn_part1 {F : FTy → Type} [FloatOps F] (main_arg0 : IVec S240 32) (main_arg1 : IVec S240 32) (main_arg2 : IVec S240 32) (main_arg3 : IVec S240 32) (main_arg4 : IVec S240 32) (main_v2 : FVec F S32768x2 .f32) (main_v5 : IVec S1 1) (main_v8 : IVec S1 1) (main_v11 : IVec S239 1) (main_v12 : IVec S240 1) (main_v17 : IVec S240 1) (main_v18 : IVec S239 32) (main_v19 : IVec S239 32) : IVec S1 1 × IVec S1 1 × IVec S239 1 × IVec S240 1 × IVec S240 1 × IVec S239 1 × IVec S240 1 × IVec S240 1 × IVec S240 1 × IVec S32768x2 1 :=
  let main_v20 : IVec S239 1 := cmpi .sle main_v18 main_v19
  let main_c_3 : IVec S_ 32 := constantI S_ 32 256#32
  let main_v21 : IVec S240 32 := broadcastInDim S240 ![] bcast_S_S240 main_c_3
  let main_v22 : IVec S240 32 := muli main_arg0 main_v21
  let main_v23 : IVec S240 1 := cmpi .sle main_v22 main_arg3
  let main_c_4 : IVec S_ 32 := constantI S_ 32 256#32
  let main_v24 : IVec S240 32 := broadcastInDim S240 ![] bcast_S_S240 main_c_4
  let main_v25 : IVec S240 32 := muli main_arg0 main_v24
  let main_c_5 : IVec S_ 32 := constantI S_ 32 256#32
  let main_v26 : IVec S240 32 := broadcastInDim S240 ![] bcast_S_S240 main_c_5
  let main_v27 : IVec S240 32 := addi main_v25 main_v26
  let main_v28 : IVec S240 1 := cmpi .sle main_arg4 main_v27
  let main_v29 : IVec S240 1 := andi main_v23 main_v28
  let main_c_6 : IVec S_ 32 := constantI S_ 32 0#32
  let main_v30 : IVec S240 32 := broadcastInDim S240 ![] bcast_S_S240 main_c_6
  let main_v31 : IVec S240 1 := cmpi .sge main_arg1 main_v30
  let main_c_7 : IVec S_ 32 := constantI S_ 32 32#32
  let main_v32 : IVec S240 32 := broadcastInDim S240 ![] bcast_S_S240 main_c_7
  let main_v33 : IVec S240 1 := cmpi .slt main_arg1 main_v32
  let main_v34 : IVec S240 1 := andi main_v31 main_v33
  let main_c_8 : IVec S_ 32 := constantI S_ 32 0#32
  let main_v35 : IVec S240 32 := broadcastInDim S240 ![] bcast_S_S240 main_c_8
  let main_v36 : IVec S240 1 := cmpi .sge main_arg2 main_v35
  let main_c_9 : IVec S_ 32 := constantI S_ 32 32#32
  fn_part2 (F := F) main_arg2 main_v2 main_v5 main_v8 main_v11 main_v12 main_v17 main_v20 main_v29 main_v34 main_v36 main_c_9

def fn {F : FTy → Type} [FloatOps F] (main_arg0 : IVec S240 32) (main_arg1 : IVec S240 32) (main_arg2 : IVec S240 32) (main_arg3 : IVec S240 32) (main_arg4 : IVec S240 32) (main_arg5 : FVec F S294912x128 .f32) (main_arg6 : FVec F S1x1024 .f32) (main_arg7 : FVec F S32x1024x256 .f32) (main_arg8 : FVec F S32x1024x256 .f32) (main_arg9 : FVec F S32x256x1024 .f32) : IVec S1 1 × IVec S1 1 × IVec S239 1 × IVec S240 1 × IVec S240 1 × IVec S239 1 × IVec S240 1 × IVec S240 1 × IVec S240 1 × IVec S32768x2 1 :=
  let main_v0 : FVec F S32768x9x128 .f32 := shapeCast S32768x9x128 main_arg5 shapeCasts_S294912x128_S32768x9x128
  let main_v1 : FVec F S32768x1x2 .f32 := (extractStridedSlice S32768x1x2 ![0, 8, 0] · slices_S32768x9x128_S32768x1x2_0_8_0) main_v0
  let main_v2 : FVec F S32768x2 .f32 := shapeCast S32768x2 main_v1 shapeCasts_S32768x1x2_S32768x2
  let main_v3 : IVec S1 32 := (extractStridedSlice S1 ![0] · slices_S240_S1_0) main_arg3
  let main_c : IVec S_ 32 := constantI S_ 32 0#32
  let main_v4 : IVec S1 32 := broadcastInDim S1 ![] bcast_S_S1 main_c
  let main_v5 : IVec S1 1 := cmpi .eq main_v3 main_v4
  let main_v6 : IVec S1 32 := (extractStridedSlice S1 ![239] · slices_S240_S1_239) main_arg4
  let main_c_0 : IVec S_ 32 := constantI S_ 32 32768#32
  let main_v7 : IVec S1 32 := broadcastInDim S1 ![] bcast_S_S1 main_c_0
  let main_v8 : IVec S1 1 := cmpi .eq main_v6 main_v7
  let main_v9 : IVec S239 32 := (extractStridedSlice S239 ![0] · slices_S240_S239_0) main_arg4
  let main_v10 : IVec S239 32 := (extractStridedSlice S239 ![1] · slices_S240_S239_1) main_arg3
  let main_v11 : IVec S239 1 := cmpi .eq main_v9 main_v10
  let main_v12 : IVec S240 1 := cmpi .sle main_arg3 main_arg4
  let main_c_1 : IVec S_ 32 := constantI S_ 32 0#32
  let main_v13 : IVec S240 32 := broadcastInDim S240 ![] bcast_S_S240 main_c_1
  let main_v14 : IVec S240 1 := cmpi .sge main_arg0 main_v13
  let main_c_2 : IVec S_ 32 := constantI S_ 32 128#32
  let main_v15 : IVec S240 32 := broadcastInDim S240 ![] bcast_S_S240 main_c_2
  let main_v16 : IVec S240 1 := cmpi .slt main_arg0 main_v15
  let main_v17 : IVec S240 1 := andi main_v14 main_v16
  let main_v18 : IVec S239 32 := (extractStridedSlice S239 ![0] · slices_S240_S239_0) main_arg0
  let main_v19 : IVec S239 32 := (extractStridedSlice S239 ![1] · slices_S240_S239_1) main_arg0
  fn_part1 (F := F) main_arg0 main_arg1 main_arg2 main_arg3 main_arg4 main_v2 main_v5 main_v8 main_v11 main_v12 main_v17 main_v18 main_v19
-- ==== Kernel.lean ====
abbrev S240 : Shape := ⟨1, ![240]⟩
abbrev S294912x128 : Shape := ⟨2, ![294912, 128]⟩
abbrev S1x1024 : Shape := ⟨2, ![1, 1024]⟩
abbrev S32x1024x256 : Shape := ⟨3, ![32, 1024, 256]⟩
abbrev S32x256x1024 : Shape := ⟨3, ![32, 256, 1024]⟩
abbrev S2304x128 : Shape := ⟨2, ![2304, 128]⟩
abbrev S1 : Shape := ⟨1, ![1]⟩
abbrev S1x1024x256 : Shape := ⟨3, ![1, 1024, 256]⟩
abbrev S1x256x1024 : Shape := ⟨3, ![1, 256, 1024]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩
abbrev S1024x256 : Shape := ⟨2, ![1024, 256]⟩
abbrev S256x256 : Shape := ⟨2, ![256, 256]⟩

abbrev nBuf : Space → Nat
  | .hbm => 9
  | .vmem => 17
  | .smem => 5
  | _ => 0

abbrev bufTy : (tb : Table) → Fin (tcTables nBuf tb) → BufTy
  | .hbm, ⟨0, _⟩ => ⟨S294912x128, .f32⟩
  | .hbm, ⟨1, _⟩ => ⟨S1x1024, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S32x1024x256, .bf16⟩
  | .hbm, ⟨6, _⟩ => ⟨S32x1024x256, .bf16⟩
  | .hbm, ⟨7, _⟩ => ⟨S32x256x1024, .bf16⟩
  | .hbm, ⟨8, _⟩ => ⟨S294912x128, .f32⟩
  | .local _ .vmem, ⟨0, _⟩ => ⟨S2304x128, .f32⟩
  | .local _ .vmem, ⟨1, _⟩ => ⟨S2304x128, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S2304x128, .f32⟩
  | .local _ .vmem, ⟨16, _⟩ => ⟨S2304x128, .f32⟩
  | .local _ .smem, ⟨0, _⟩ => ⟨S240, .i32⟩
  | .local _ .smem, ⟨1, _⟩ => ⟨S240, .i32⟩
  | .local _ .smem, ⟨2, _⟩ => ⟨S240, .i32⟩
  | .local _ .smem, ⟨3, _⟩ => ⟨S240, .i32⟩
  | .local _ .smem, ⟨4, _⟩ => ⟨S240, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![240], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32_1 : BitVec 32 := 1#32
  let v13 : BitVec 32 := Scalar.subi arg0 c1_i32_1
  let c0_i32_2 : BitVec 32 := 0#32
  let v14 : BitVec 32 := Scalar.maxsi v13 c0_i32_2
  let v15 : Index := Scalar.indexCast v14
  ![v15.toNat]
def k0_cond1 (i : grid0.Coords) (v1 : BitVec 32) (v3 : BitVec 32) (v5 : BitVec 32) (v16 : BitVec 32) : BitVec 1 :=
  let arg0 : BitVec 32 := BitVec.ofNat 32 (i 0).val
  let c0_i32 : BitVec 32 := 0#32
  let v12 : BitVec 1 := Scalar.cmpi .eq arg0 c0_i32
  let v17 : BitVec 1 := Scalar.cmpi .ne v1 v16
  let v18 : BitVec 1 := Scalar.ori v12 v17
  let c256_i32 : BitVec 32 := 256#32
  let v6 : BitVec 32 := Scalar.muli v1 c256_i32
  let v7 : BitVec 1 := Scalar.cmpi .sle v3 v6
  let c1_i32 : BitVec 32 := 1#32
  let v8 : BitVec 32 := Scalar.addi v1 c1_i32
  let c256_i32_0 : BitVec 32 := 256#32
  let v9 : BitVec 32 := Scalar.muli v8 c256_i32_0
  let v10 : BitVec 1 := Scalar.cmpi .sge v5 v9
  let v11 : BitVec 1 := Scalar.andi v7 v10
  let v_true : BitVec 1 := 1#1
  let v19 : BitVec 1 := Scalar.xori v11 v_true
  let v20 : BitVec 1 := Scalar.andi v18 v19
  let v21 : BitVec 32 := Scalar.extui v20
  let c0_i32_3 : BitVec 32 := 0#32
  let v22 : BitVec 1 := Scalar.cmpi .ne v21 c0_i32_3
  v22

def k0_cond2 (v3 : BitVec 32) (v5 : BitVec 32) : BitVec 1 :=
  let v23 : BitVec 1 := Scalar.cmpi .sgt v5 v3
  let v24 : BitVec 32 := Scalar.extui v23
  let c0_i32_4 : BitVec 32 := 0#32
  let v25 : BitVec 1 := Scalar.cmpi .ne v24 c0_i32_4
  v25

def k0_cond3 (v1 : BitVec 32) (v3 : BitVec 32) (v5 : BitVec 32) : BitVec 1 :=
  let c256_i32 : BitVec 32 := 256#32
  let v6 : BitVec 32 := Scalar.muli v1 c256_i32
  let v7 : BitVec 1 := Scalar.cmpi .sle v3 v6
  let c1_i32 : BitVec 32 := 1#32
  let v8 : BitVec 32 := Scalar.addi v1 c1_i32
  let c256_i32_0 : BitVec 32 := 256#32
  let v9 : BitVec 32 := Scalar.muli v8 c256_i32_0
  let v10 : BitVec 1 := Scalar.cmpi .sge v5 v9
  let v11 : BitVec 1 := Scalar.andi v7 v10
  let v96 : BitVec 32 := Scalar.extui v11
  let c0_i32_48 : BitVec 32 := 0#32
  let v97 : BitVec 1 := Scalar.cmpi .ne v96 c0_i32_48
  v97

def k0_cond4 (v1 : BitVec 32) (v3 : BitVec 32) (v5 : BitVec 32) : BitVec 1 :=
  let c256_i32 : BitVec 32 := 256#32
  let v6 : BitVec 32 := Scalar.muli v1 c256_i32
  let v7 : BitVec 1 := Scalar.cmpi .sle v3 v6
  let c1_i32 : BitVec 32 := 1#32
  let v8 : BitVec 32 := Scalar.addi v1 c1_i32
  let c256_i32_0 : BitVec 32 := 256#32
  let v9 : BitVec 32 := Scalar.muli v8 c256_i32_0
  let v10 : BitVec 1 := Scalar.cmpi .sge v5 v9
  let v11 : BitVec 1 := Scalar.andi v7 v10
  let true_49 : BitVec 1 := 1#1
  let v98 : BitVec 1 := Scalar.xori v11 true_49
  let v99 : BitVec 32 := Scalar.extui v98
  let c0_i32_50 : BitVec 32 := 0#32
  let v100 : BitVec 1 := Scalar.cmpi .ne v99 c0_i32_50
  v100

def cc0_transform_0 (k0_off1_inb : ∀ i : grid0.Coords, ∀ a, (k0_off1 i) a + S1.size a ≤ S240.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S240.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S240 : Shape := ⟨1, ![240]⟩
abbrev S294912x128 : Shape := ⟨2, ![294912, 128]⟩
abbrev S1x1024 : Shape := ⟨2, ![1, 1024]⟩
abbrev S32x1024x256 : Shape := ⟨3, ![32, 1024, 256]⟩
abbrev S32x256x1024 : Shape := ⟨3, ![32, 256, 1024]⟩
abbrev S32768x9x128 : Shape := ⟨3, ![32768, 9, 128]⟩
abbrev S32768x8x128 : Shape := ⟨3, ![32768, 8, 128]⟩
abbrev S32768x1024 : Shape := ⟨2, ![32768, 1024]⟩
abbrev S32768 : Shape := ⟨1, ![32768]⟩
abbrev S1x240 : Shape := ⟨2, ![1, 240]⟩
abbrev S32768x1 : Shape := ⟨2, ![32768, 1]⟩
abbrev S32768x240 : Shape := ⟨2, ![32768, 240]⟩
abbrev S_ : Shape := ⟨0, ![]⟩
abbrev S32768x2 : Shape := ⟨2, ![32768, 2]⟩
abbrev S32768x1x2 : Shape := ⟨3, ![32768, 1, 2]⟩
abbrev S32768x2x1 : Shape := ⟨3, ![32768, 2, 1]⟩
abbrev S1x1x32 : Shape := ⟨3, ![1, 1, 32]⟩
abbrev S32768x2x32 : Shape := ⟨3, ![32768, 2, 32]⟩
abbrev S32768x32 : Shape := ⟨2, ![32768, 32]⟩
abbrev S32x256x32768 : Shape := ⟨3, ![32, 256, 32768]⟩
abbrev S32x32768x256 : Shape := ⟨3, ![32, 32768, 256]⟩
abbrev S32x32768x1024 : Shape := ⟨3, ![32, 32768, 1024]⟩
abbrev S32x32768 : Shape := ⟨2, ![32, 32768]⟩
abbrev S32x32768x1 : Shape := ⟨3, ![32, 32768, 1]⟩
abbrev S32768x1x128 : Shape := ⟨3, ![32768, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S240, .i32⟩
  | .hbm, ⟨1, _⟩ => ⟨S240, .i32⟩
  | .hbm, ⟨2, _⟩ => ⟨S240, .i32⟩
  | .hbm, ⟨3, _⟩ => ⟨S240, .i32⟩
  | .hbm, ⟨4, _⟩ => ⟨S240, .i32⟩
  | .hbm, ⟨5, _⟩ => ⟨S294912x128, .f32⟩
  | .hbm, ⟨6, _⟩ => ⟨S1x1024, .f32⟩
  | .hbm, ⟨7, _⟩ => ⟨S32x1024x256, .f32⟩
  | .hbm, ⟨8, _⟩ => ⟨S32x1024x256, .f32⟩
  | .hbm, ⟨9, _⟩ => ⟨S32x256x1024, .f32⟩
  | .hbm, ⟨10, _⟩ => ⟨S32768x9x128, .f32⟩
  | .hbm, ⟨11, _⟩ => ⟨S32768x8x128, .f32⟩
  | .hbm, ⟨12, _⟩ => ⟨S32768x1024, .f32⟩
  | .hbm, ⟨13, _⟩ => ⟨S32768, .i32⟩
  | .hbm, ⟨14, _⟩ => ⟨S1x240, .i32⟩
  | .hbm, ⟨15, _⟩ => ⟨S32768x1, .i32⟩
  | .hbm, ⟨16, _⟩ => ⟨S32768x240, .i32⟩
  | .hbm, ⟨17, _⟩ => ⟨S32768x240, .i32⟩
  | .hbm, ⟨18, _⟩ => ⟨S32768x240, .i1⟩
  | .hbm, ⟨19, _⟩ => ⟨S32768x1, .i32⟩
  | .hbm, ⟨20, _⟩ => ⟨S1x240, .i32⟩
  | .hbm, ⟨21, _⟩ => ⟨S32768x240, .i32⟩
  | .hbm, ⟨22, _⟩ => ⟨S32768x240, .i32⟩
  | .hbm, ⟨23, _⟩ => ⟨S32768x240, .i1⟩
  | .hbm, ⟨24, _⟩ => ⟨S32768x240, .i1⟩
  | .hbm, ⟨25, _⟩ => ⟨S1x240, .i32⟩
  | .hbm, ⟨26, _⟩ => ⟨S_, .i32⟩
  | .hbm, ⟨27, _⟩ => ⟨S_, .i32⟩
  | .hbm, ⟨28, _⟩ => ⟨S32768x240, .i32⟩
  | .hbm, ⟨29, _⟩ => ⟨S32768x240, .i32⟩
  | .hbm, ⟨30, _⟩ => ⟨S32768x240, .i32⟩
  | .hbm, ⟨31, _⟩ => ⟨S_, .i32⟩
  | .hbm, ⟨32, _⟩ => ⟨S32768, .i32⟩
  | .hbm, ⟨33, _⟩ => ⟨S1x240, .i32⟩
  | .hbm, ⟨34, _⟩ => ⟨S_, .i32⟩
  | .hbm, ⟨35, _⟩ => ⟨S_, .i32⟩
  | .hbm, ⟨36, _⟩ => ⟨S32768x240, .i32⟩
  | .hbm, ⟨37, _⟩ => ⟨S32768x240, .i32⟩
  | .hbm, ⟨38, _⟩ => ⟨S32768x240, .i32⟩
  | .hbm, ⟨39, _⟩ => ⟨S_, .i32⟩
  | .hbm, ⟨40, _⟩ => ⟨S32768, .i32⟩
  | .hbm, ⟨41, _⟩ => ⟨S32768x1, .i32⟩
  | .hbm, ⟨42, _⟩ => ⟨S32768x1, .i32⟩
  | .hbm, ⟨43, _⟩ => ⟨S32768x2, .i32⟩
  | .hbm, ⟨44, _⟩ => ⟨S32768x1x2, .f32⟩
  | .hbm, ⟨45, _⟩ => ⟨S32768x2, .f32⟩
  | .hbm, ⟨46, _⟩ => ⟨S32768x2x1, .i32⟩
  | .hbm, ⟨47, _⟩ => ⟨S1x1x32, .i32⟩
  | .hbm, ⟨48, _⟩ => ⟨S32768x2x32, .i32⟩
  | .hbm, ⟨49, _⟩ => ⟨S32768x2x32, .i32⟩
  | .hbm, ⟨50, _⟩ => ⟨S32768x2x32, .i1⟩
  | .hbm, ⟨51, _⟩ => ⟨S32768x2x32, .f32⟩
  | .hbm, ⟨52, _⟩ => ⟨S32768x2x1, .f32⟩
  | .hbm, ⟨53, _⟩ => ⟨S32768x2x32, .f32⟩
  | .hbm, ⟨54, _⟩ => ⟨S32768x2x32, .f32⟩
  | .hbm, ⟨55, _⟩ => ⟨S_, .f32⟩
  | .hbm, ⟨56, _⟩ => ⟨S32768x32, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32x256x32768, .f32⟩
  | .hbm, ⟨73, _⟩ => ⟨S32x32768x256, .f32⟩
  | .hbm, ⟨74, _⟩ => ⟨S32x256x32768, .f32⟩
  | .hbm, ⟨75, _⟩ => ⟨S32x32768x256, .f32⟩
  | .hbm, ⟨76, _⟩ => ⟨S32x32768x256, .f32⟩
  | .hbm, ⟨77, _⟩ => ⟨S32x32768x256, .f32⟩
  | .hbm, ⟨78, _⟩ => ⟨S_, .f32⟩
  | .hbm, ⟨79, _⟩ => ⟨S32x32768x256, .f32⟩
  | .hbm, ⟨80, _⟩ => ⟨S32x32768x256, .f32⟩
  | .hbm, ⟨81, _⟩ => ⟨S_, .f32⟩
  | .hbm, ⟨82, _⟩ => ⟨S32x32768x256, .f32⟩
  | .hbm, ⟨83, _⟩ => ⟨S32x32768x256, .f32⟩
  | .hbm, ⟨84, _⟩ => ⟨S32x32768x256, .f32⟩
  | .hbm, ⟨85, _⟩ => ⟨S32x32768x256, .f32⟩
  | .hbm, ⟨86, _⟩ => ⟨S32x32768x1024, .f32⟩
  | .hbm, ⟨87, _⟩ => ⟨S32x32768, .f32⟩
  | .hbm, ⟨88, _⟩ => ⟨S32x32768x1, .f32⟩
  | .hbm, ⟨89, _⟩ => ⟨S32x32768x1024, .f32⟩
  | .hbm, ⟨90, _⟩ => ⟨S32x32768x1024, .f32⟩
  | .hbm, ⟨91, _⟩ => ⟨S_, .f32⟩
  | .hbm, ⟨92, _⟩ => ⟨S32768x1024, .f32⟩
  | .hbm, ⟨93, _⟩ => ⟨S32768x1024, .f32⟩
  | .hbm, ⟨94, _⟩ => ⟨S32768x8x128, .f32⟩
  | .hbm, ⟨95, _⟩ => ⟨S_, .f32⟩
  | .hbm, ⟨96, _⟩ => ⟨S32768x1x128, .f32⟩
  | .hbm, ⟨97, _⟩ => ⟨S32768x9x128, .f32⟩
  | .hbm, ⟨98, _⟩ => ⟨S294912x128, .f32⟩
  | _, _ => ⟨S240, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_7 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S1x1024x3328 : Shape := ⟨3, ![1, 1024, 3328]⟩
abbrev S1024x3328 : Shape := ⟨2, ![1024, 3328]⟩
abbrev S32768x1024 : Shape := ⟨2, ![32768, 1024]⟩
abbrev S1024 : Shape := ⟨1, ![1024]⟩
abbrev S1024x1536 : Shape := ⟨2, ![1024, 1536]⟩
abbrev S1024x1792 : Shape := ⟨2, ![1024, 1792]⟩
abbrev S32768x1536 : Shape := ⟨2, ![32768, 1536]⟩
abbrev S32768x1792 : Shape := ⟨2, ![32768, 1792]⟩
abbrev S1024x1024 : Shape := ⟨2, ![1024, 1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3328, .f32⟩
  | .hbm, ⟨3, _⟩ => ⟨S1024x3328, .f32⟩
  | .hbm, ⟨4, _⟩ => ⟨S1024x3328, .bf16⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x1536, .bf16⟩
  | .hbm, ⟨9, _⟩ => ⟨S1024x1792, .bf16⟩
  | .hbm, ⟨10, _⟩ => ⟨S32768x1536, .bf16⟩
  | .hbm, ⟨11, _⟩ => ⟨S32768x1792, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1792, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1792, .bf16⟩
  | .local _ .vmem, ⟨8, _⟩ => ⟨S1024x1792, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S1x1024 : Shape := ⟨2, ![1, 1024]⟩
abbrev S1x1024x3328 : Shape := ⟨3, ![1, 1024, 3328]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S1024x3328 : Shape := ⟨2, ![1024, 3328]⟩
abbrev S16x2048x3328 : Shape := ⟨3, ![16, 2048, 3328]⟩
abbrev S32768x3328 : Shape := ⟨2, ![32768, 3328]⟩
abbrev S32768x1536 : Shape := ⟨2, ![32768, 1536]⟩
abbrev S32768x1792 : Shape := ⟨2, ![32768, 1792]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3328, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1024x3328, .f32⟩
  | .hbm, ⟨21, _⟩ => ⟨S16x2048x3328, .f32⟩
  | .hbm, ⟨22, _⟩ => ⟨S32768x3328, .f32⟩
  | .hbm, ⟨23, _⟩ => ⟨S32768x1536, .f32⟩
  | .hbm, ⟨24, _⟩ => ⟨S32768x1536, .bf16⟩
  | .hbm, ⟨25, _⟩ => ⟨S32768x1792, .f32⟩
  | .hbm, ⟨26, _⟩ => ⟨S32768x1792, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel3.lean ====
abbrev S32768 : Shape := ⟨1, ![32768]⟩
abbrev S294912x128 : Shape := ⟨2, ![294912, 128]⟩
abbrev S1024 : Shape := ⟨1, ![1024]⟩
abbrev S1x1024 : Shape := ⟨2, ![1, 1024]⟩
abbrev S32x1x1024 : Shape := ⟨3, ![32, 1, 1024]⟩
abbrev S32768x1024 : Shape := ⟨2, ![32768, 1024]⟩
abbrev S1x1x1024 : Shape := ⟨3, ![1, 1, 1024]⟩
abbrev S1024x1024 : Shape := ⟨2, ![1024, 1024]⟩
abbrev S2x8192x128 : Shape := ⟨3, ![2, 8192, 128]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x1024x128 : Shape := ⟨3, ![1, 1024, 128]⟩
abbrev S1024x128 : Shape := ⟨2, ![1024, 128]⟩
abbrev S1024x1 : Shape := ⟨2, ![1024, 1]⟩
abbrev S1x128 : Shape := ⟨2, ![1, 128]⟩

abbrev nBuf : Space → Nat
  | .hbm => 6
  | .vmem => 4
  | .smem => 4
  | _ => 0

abbrev bufTy : (tb : Table) → Fin (tcTables nBuf tb) → BufTy
  | .hbm, ⟨0, _⟩ => ⟨S32768, .i32⟩
  | .hbm, ⟨1, _⟩ => ⟨S294912x128, .f32⟩
  | .hbm, ⟨2, _⟩ => ⟨S1024, .f32⟩
  | .hbm, ⟨3, _⟩ => ⟨S1x1024, .f32⟩
  | .hbm, ⟨4, _⟩ => ⟨S32x1x1024, .i32⟩
  | .hbm, ⟨5, _⟩ => ⟨S32768x1024, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S2x8192x128, .f32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_scratch0 : Ref sig .tc := ⟨.vmem, 3, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_44 : BitVec 32 := 0#32
  let c1024_i32_45 : BitVec 32 := 1024#32
  let v120 : BitVec 32 := Scalar.addi c0_i32_44 c1024_i32_45
  let c1_i32_46 : BitVec 32 := 1#32
  ⟨c0_i32_44, v120, c1_i32_46⟩
def k0_off1 (k0_t1 : Fin k0_t1_loop.trips) : Fin 3 → Nat :=
  let c0_48 : Index := 0#32
  let c0_49 : Index := 0#32
  let c0_i32_44 : BitVec 32 := 0#32
  let c1_i32_46 : BitVec 32 := 1#32
  let arg8 : BitVec 32 := Scf.iv c0_i32_44 c1_i32_46 k0_t1
  let v121 : Index := Scalar.indexCast arg8
  ![0, 0, v121.toNat]
def k0_off2 (k0_t1 : Fin k0_t1_loop.trips) : Fin 3 → Nat :=
  let c0_i32_50 : BitVec 32 := 0#32
  let c0_i32_44 : BitVec 32 := 0#32
  let c1_i32_46 : BitVec 32 := 1#32
  let arg8 : BitVec 32 := Scf.iv c0_i32_44 c1_i32_46 k0_t1
  let c8_i32 : BitVec 32 := 8#32
  let v124 : BitVec 32 := Scalar.muli arg8 c8_i32
  let c0_i32_52 : BitVec 32 := 0#32
  ![0, v124.toNat, 0]
def k0_off3 (v122 : BitVec 32) : Fin 2 → Nat :=
  let c9_i32 : BitVec 32 := 9#32
  let v123 : BitVec 32 := Scalar.muli v122 c9_i32
  let c0_i32_53 : BitVec 32 := 0#32
  ![v123.toNat, 0]

def k0_chk1 (i : grid0.Coords) (v122 : BitVec 32) : Prop :=
  (∀ (k0_h1 : k0_cond1 i = 1#1), ∀ a, (k0_off3 v122) a + S8x128.size a ≤ S294912x128.size a)
theorem k0_off3_inb : ∀ (i : grid0.Coords) (v122 : BitVec 32) (k0_hw1 : k0_chk1 i v122), ∀ (k0_h1 : k0_cond1 i = 1#1), ∀ a, (k0_off3 v122) a + S8x128.size a ≤ S294912x128.size a := fun i v122 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c32_i32 : BitVec 32 := 32#32
  let v14 : BitVec 1 := Scalar.cmpi .slt v13 c32_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_45 : BitVec 32 := 0#32
  let c1024_i32_46 : BitVec 32 := 1024#32
  let v121 : BitVec 32 := Scalar.addi c0_i32_45 c1024_i32_46
  let c1_i32_47 : BitVec 32 := 1#32
  ⟨c0_i32_45, v121, c1_i32_47⟩
def k0_off4 (k0_t2 : Fin k0_t2_loop.trips) : Fin 3 → Nat :=
  let c0_49 : Index := 0#32
  let c0_50 : Index := 0#32
  let c0_i32_45 : BitVec 32 := 0#32
  let c1_i32_47 : BitVec 32 := 1#32
  let arg8 : BitVec 32 := Scf.iv c0_i32_45 c1_i32_47 k0_t2
  let v122 : Index := Scalar.indexCast arg8
  ![0, 0, v122.toNat]
def k0_off5 (i : grid0.Coords) : Fin 1 → Nat :=
  let c1_i32_44 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v120 : BitVec 32 := Scalar.subi c1_i32_44 v9
  ![v120.toNat]
def k0_off6 (i : grid0.Coords) (k0_t2 : Fin k0_t2_loop.trips) : Fin 3 → Nat :=
  let c1_i32_44 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v120 : BitVec 32 := Scalar.subi c1_i32_44 v9
  let c0_i32_45 : BitVec 32 := 0#32
  let c1_i32_47 : BitVec 32 := 1#32
  let arg8 : BitVec 32 := Scf.iv c0_i32_45 c1_i32_47 k0_t2
  let c8_i32 : BitVec 32 := 8#32
  let v125 : BitVec 32 := Scalar.muli arg8 c8_i32
  let c0_i32_51 : BitVec 32 := 0#32
  ![v120.toNat, v125.toNat, 0]
def k0_off7 (v123 : BitVec 32) : Fin 2 → Nat :=
  let c9_i32 : BitVec 32 := 9#32
  let v124 : BitVec 32 := Scalar.muli v123 c9_i32
  let c0_i32_52 : BitVec 32 := 0#32
  ![v124.toNat, 0]

def k0_chk2 (i : grid0.Coords) (v123 : BitVec 32) : Prop :=
  (∀ (k0_h2 : k0_cond2 i = 1#1), ∀ a, (k0_off7 v123) a + S8x128.size a ≤ S294912x128.size a)
theorem k0_off7_inb : ∀ (i : grid0.Coords) (v123 : BitVec 32) (k0_hw2 : k0_chk2 i v123), ∀ (k0_h2 : k0_cond2 i = 1#1), ∀ a, (k0_off7 v123) a + S8x128.size a ≤ S294912x128.size a := fun i v123 k0_hw2 k0_h2 => k0_hw2 k0_h2

@[reducible] def k0_t3_loop : Scf.Loop 32 :=
  let c0_i32_7 : BitVec 32 := 0#32
  let c1024_i32 : BitVec 32 := 1024#32
  let v17 : BitVec 32 := Scalar.addi c0_i32_7 c1024_i32
  let c1_i32_8 : BitVec 32 := 1#32
  ⟨c0_i32_7, v17, c1_i32_8⟩
def k0_off8 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_44 : BitVec 32 := 0#32
  let c0_i32_45 : BitVec 32 := 0#32
  ![v9.toNat, 0, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_9 : Index := 0#32
  ![v18.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c1 : Index := 1#32
  let c0_10 : Index := 0#32
  ![v21.toNat, 1, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : Index := Scalar.indexCast v9
  let c2 : Index := 2#32
  let c0_11 : Index := 0#32
  ![v24.toNat, 2, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : Index := Scalar.indexCast v9
  let c3 : Index := 3#32
  let c0_12 : Index := 0#32
  ![v27.toNat, 3, 0]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c4 : Index := 4#32
  let c0_13 : Index := 0#32
  ![v30.toNat, 4, 0]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c5 : Index := 5#32
  let c0_14 : Index := 0#32
  ![v33.toNat, 5, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  let c6 : Index := 6#32
  let c0_15 : Index := 0#32
  ![v36.toNat, 6, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c7 : Index := 7#32
  let c0_16 : Index := 0#32
  ![v39.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768 : Shape := ⟨1, ![32768]⟩
abbrev S294912x128 : Shape := ⟨2, ![294912, 128]⟩
abbrev S1024 : Shape := ⟨1, ![1024]⟩
abbrev S32768x9x128 : Shape := ⟨3, ![32768, 9, 128]⟩
abbrev S32768x8x128 : Shape := ⟨3, ![32768, 8, 128]⟩
abbrev S32768x1024 : Shape := ⟨2, ![32768, 1024]⟩
abbrev S_ : Shape := ⟨0, ![]⟩
abbrev S32768x1 : Shape := ⟨2, ![32768, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768, .i32⟩
  | .hbm, ⟨1, _⟩ => ⟨S294912x128, .f32⟩
  | .hbm, ⟨2, _⟩ => ⟨S1024, .f32⟩
  | .hbm, ⟨3, _⟩ => ⟨S32768x9x128, .f32⟩
  | .hbm, ⟨4, _⟩ => ⟨S32768x8x128, .f32⟩
  | .hbm, ⟨5, _⟩ => ⟨S32768x1024, .f32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S64x512 : Shape := ⟨2, ![64, 512]⟩
abbrev S_ : Shape := ⟨0, ![]⟩
abbrev S128x512 : Shape := ⟨2, ![128, 512]⟩
abbrev S1792 : Shape := ⟨1, ![1792]⟩
abbrev S512 : Shape := ⟨1, ![512]⟩
abbrev S8x64 : Shape := ⟨2, ![8, 64]⟩
abbrev S16x2048x1792 : Shape := ⟨3, ![16, 2048, 1792]⟩
abbrev S16x2048x512 : Shape := ⟨3, ![16, 2048, 512]⟩
abbrev S4x128x1792 : Shape := ⟨3, ![4, 128, 1792]⟩
abbrev S4x128x512 : Shape := ⟨3, ![4, 128, 512]⟩
abbrev S4x1x1792 : Shape := ⟨3, ![4, 1, 1792]⟩
abbrev S8x256x256 : Shape := ⟨3, ![8, 256, 256]⟩
abbrev S256x256 : Shape := ⟨2, ![256, 256]⟩
abbrev S512x256 : Shape := ⟨2, ![512, 256]⟩
abbrev S1x128 : Shape := ⟨2, ![1, 128]⟩
abbrev S128x128 : Shape := ⟨2, ![128, 128]⟩
abbrev S1x128x1792 : Shape := ⟨3, ![1, 128, 1792]⟩
abbrev S128x1792 : Shape := ⟨2, ![128, 1792]⟩
abbrev S128x1 : Shape := ⟨2, ![128, 1]⟩
abbrev S1x1x1792 : Shape := ⟨3, ![1, 1, 1792]⟩
abbrev S128x256 : Shape := ⟨2, ![128, 256]⟩
abbrev S256x512 : Shape := ⟨2, ![256, 512]⟩
abbrev S112x128 : Shape := ⟨2, ![112, 128]⟩
abbrev S16x128 : Shape := ⟨2, ![16, 128]⟩
abbrev S112x256 : Shape := ⟨2, ![112, 256]⟩
abbrev S96x128 : Shape := ⟨2, ![96, 128]⟩
abbrev S32x128 : Shape := ⟨2, ![32, 128]⟩
abbrev S96x256 : Shape := ⟨2, ![96, 256]⟩
abbrev S64x128 : Shape := ⟨2, ![64, 128]⟩
abbrev S1x256x256 : Shape := ⟨3, ![1, 256, 256]⟩
abbrev S1x256 : Shape := ⟨2, ![1, 256]⟩

abbrev nBuf : Space → Nat
  | .hbm => 44
  | .vmem => 17
  | .smem => 0
  | _ => 0

abbrev bufTy : (tb : Table) → Fin (tcTables nBuf tb) → BufTy
  | .hbm, ⟨0, _⟩ => ⟨S32768x1792, .bf16⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S128x512, .f32⟩
  | .hbm, ⟨17, _⟩ => ⟨S128x512, .bf16⟩
  | .hbm, ⟨18, _⟩ => ⟨S64x512, .f32⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S128x512, .f32⟩
  | .hbm, ⟨23, _⟩ => ⟨S128x512, .bf16⟩
  | .hbm, ⟨24, _⟩ => ⟨S1792, .f32⟩
  | .hbm, ⟨25, _⟩ => ⟨S1x1792, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S128x512, .f32⟩
  | .hbm, ⟨31, _⟩ => ⟨S128x512, .bf16⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S8x64, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S16x2048x1792, .bf16⟩
  | .hbm, ⟨43, _⟩ => ⟨S16x2048x512, .bf16⟩
  | .local _ .vmem, ⟨0, _⟩ => ⟨S4x128x1792, .bf16⟩
  | .local _ .vmem, ⟨1, _⟩ => ⟨S4x128x1792, .bf16⟩
  | .local _ .vmem, ⟨2, _⟩ => ⟨S1x1792, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S4x128x512, .bf16⟩
  | .local _ .vmem, ⟨14, _⟩ => ⟨S4x128x512, .bf16⟩
  | .local _ .vmem, ⟨15, _⟩ => ⟨S4x1x1792, .f32⟩
  | .local _ .vmem, ⟨16, _⟩ => ⟨S8x256x256, .f32⟩
  | _, _ => ⟨S32768x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel5.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x32 : Shape := ⟨2, ![1024, 32]⟩
abbrev S32x1024 : Shape := ⟨2, ![32, 1024]⟩
abbrev S1024x4 : Shape := ⟨2, ![1024, 4]⟩
abbrev S4x1024 : Shape := ⟨2, ![4, 1024]⟩
abbrev S_ : Shape := ⟨0, ![]⟩
abbrev S12x1024 : Shape := ⟨2, ![12, 1024]⟩
abbrev S48x1024 : Shape := ⟨2, ![48, 1024]⟩
abbrev S32 : Shape := ⟨1, ![32]⟩
abbrev S4 : Shape := ⟨1, ![4]⟩
abbrev S12 : Shape := ⟨1, ![12]⟩
abbrev S48 : Shape := ⟨1, ![48]⟩
abbrev S48x1 : Shape := ⟨2, ![48, 1]⟩
abbrev S48x128 : Shape := ⟨2, ![48, 128]⟩
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S96x1024 : Shape := ⟨2, ![96, 1024]⟩
abbrev S294912x128 : Shape := ⟨2, ![294912, 128]⟩
abbrev S32x8x1024 : Shape := ⟨3, ![32, 8, 1024]⟩
abbrev S128x128 : Shape := ⟨2, ![128, 128]⟩
abbrev S1024x512 : Shape := ⟨2, ![1024, 512]⟩
abbrev S9216x128 : Shape := ⟨2, ![9216, 128]⟩
abbrev S1x8x1024 : Shape := ⟨3, ![1, 8, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S96x512 : Shape := ⟨2, ![96, 512]⟩
abbrev S48x512 : Shape := ⟨2, ![48, 512]⟩
abbrev S8x512 : Shape := ⟨2, ![8, 512]⟩
abbrev S1x512 : Shape := ⟨2, ![1, 512]⟩
abbrev S128x512 : Shape := ⟨2, ![128, 512]⟩
abbrev S512x128 : Shape := ⟨2, ![512, 128]⟩
abbrev S6x512 : Shape := ⟨2, ![6, 512]⟩
abbrev S1x8x512 : Shape := ⟨3, ![1, 8, 512]⟩
abbrev S126x512 : Shape := ⟨2, ![126, 512]⟩

abbrev nBuf : Space → Nat
  | .hbm => 38
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x4, .f32⟩
  | .hbm, ⟨7, _⟩ => ⟨S1x1024x32, .f32⟩
  | .hbm, ⟨8, _⟩ => ⟨S1x32, .f32⟩
  | .hbm, ⟨9, _⟩ => ⟨S1024x32, .f32⟩
  | .hbm, ⟨10, _⟩ => ⟨S32x1024, .f32⟩
  | .hbm, ⟨11, _⟩ => ⟨S1024x4, .f32⟩
  | .hbm, ⟨12, _⟩ => ⟨S4x1024, .f32⟩
  | .hbm, ⟨13, _⟩ => ⟨S_, .f32⟩
  | .hbm, ⟨14, _⟩ => ⟨S12x1024, .f32⟩
  | .hbm, ⟨15, _⟩ => ⟨S48x1024, .f32⟩
  | .hbm, ⟨16, _⟩ => ⟨S48x1024, .bf16⟩
  | .hbm, ⟨17, _⟩ => ⟨S48x1024, .f32⟩
  | .hbm, ⟨18, _⟩ => ⟨S48x1024, .f32⟩
  | .hbm, ⟨19, _⟩ => ⟨S48x1024, .bf16⟩
  | .hbm, ⟨20, _⟩ => ⟨S32, .f32⟩
  | .hbm, ⟨21, _⟩ => ⟨S4, .f32⟩
  | .hbm, ⟨22, _⟩ => ⟨S_, .f32⟩
  | .hbm, ⟨23, _⟩ => ⟨S12, .f32⟩
  | .hbm, ⟨24, _⟩ => ⟨S48, .f32⟩
  | .hbm, ⟨25, _⟩ => ⟨S48x1, .f32⟩
  | .hbm, ⟨26, _⟩ => ⟨S48x128, .f32⟩
  | .hbm, ⟨27, _⟩ => ⟨S32768x1024, .f32⟩
  | .hbm, ⟨28, _⟩ => ⟨S32768x512, .bf16⟩
  | .hbm, ⟨29, _⟩ => ⟨S32768x512, .bf16⟩
  | .hbm, ⟨30, _⟩ => ⟨S1024x1024, .f32⟩
  | .hbm, ⟨31, _⟩ => ⟨S1024x1024, .bf16⟩
  | .hbm, ⟨32, _⟩ => ⟨S1024, .f32⟩
  | .hbm, ⟨33, _⟩ => ⟨S1x1024, .f32⟩
  | .hbm, ⟨34, _⟩ => ⟨S96x1024, .bf16⟩
  | .hbm, ⟨35, _⟩ => ⟨S294912x128, .f32⟩
  | .hbm, ⟨36, _⟩ => ⟨S32x8x1024, .i32⟩
  | .hbm, ⟨37, _⟩ => ⟨S128x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S96x1024, .bf16⟩
  | .local _ .vmem, ⟨9, _⟩ => ⟨S48x1024, .bf16⟩
  | .local _ .vmem, ⟨10, _⟩ => ⟨S48x128, .f32⟩
  | .local _ .vmem, ⟨11, _⟩ => ⟨S9216x128, .f32⟩
  | .local _ .vmem, ⟨12, _⟩ => ⟨S9216x128, .f32⟩
  | .local _ .vmem, ⟨13, _⟩ => ⟨S1x8x1024, .i32⟩
  | .local _ .vmem, ⟨14, _⟩ => ⟨S1x8x1024, .i32⟩
  | .local _ .vmem, ⟨15, _⟩ => ⟨S128x128, .f32⟩
  | .local _ .vmem, ⟨16, _⟩ => ⟨S128x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S9216x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Proof.Experts.Base.lean ====
/- The grouped expert call up to its region: what the core's buffers hold when the region is entered (the three weight
   casts have run), the five prefetched tables, the nine windows' blocks, and how the input windows' staging buffers come
   to hold their blocks. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- No host operation before the region allocates. -/
theorem hostOps0_fresh : (hostOps0 : List (HloOp τ sig (Elt F))).Forall fun op => op.fresh = ∅ := ⟨rfl, rfl, rfl⟩

/-- Core `c`'s buffers when the region is entered: the launch memory after the three weight casts. -/
abbrev V (c : Dev nD) (b : Ref sig .tc) : Buf (Elt F) ((c : Thread nD τ).loc b) :=
  StableHlo.after hostOps0 (fun b => m (c, b)) b

/-- @main is those casts, then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl
theorem V_arg9 (c : Dev nD) : V m c main_arg9 = m ((c : Thread nD τ).loc main_arg9) := rfl

/-! ## The tables -/

/-- The tables' contents when the region is entered (the program runs on one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- Every table-read block index lies inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0 : Memref sig .tc .smem S240 .i32 := Memref.whole main_arg0
abbrev tbM1 : Memref sig .tc .smem S240 .i32 := Memref.whole main_arg1
abbrev tbM2 : Memref sig .tc .smem S240 .i32 := Memref.whole main_arg2
abbrev tbM3 : Memref sig .tc .smem S240 .i32 := Memref.whole main_arg3
abbrev tbM4 : Memref sig .tc .smem S240 .i32 := Memref.whole main_arg4

/-- A table's buffer on core `c`, and half of it held at `f`: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the five tables that the region hands the body, one by one. -/
theorem PhiT_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4)) := by
  unfold Pipeline.ΦT Pipeline.prefHeld
  rw [bigSep_univ_eq_bigSepL [(0 : Fin 5), (1 : Fin 5), (2 : Fin 5), (3 : Fin 5), (4 : Fin 5)] (by decide) (by decide)]
  rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section Before

variable (hO : Ok m) {c : Dev nD} (dat : Dat τ (Elt F) Unit ℕ (UR sig nD τ) ℕ (cfgM m hO) c)

/-! An input window's staging buffer holds its block at every point, fetched there or not, for any proof data whose array
    is the region-entry one and whose body leaves the block in place. -/

theorem before_0 (hA : dat.A 0 = V m c (Pipeline.arrRef spec0 0)) (ha : ∀ t, dat.after 0 t = iblk m hO c 0 t)
    (t : Fin (cfgM m hO).N) (d) : dat.before 0 t d = iblk m hO c 0 t :=
  (dat.before_in_eq_fetched 0 rfl (fun _ => rfl) (fun _ _ _ => rfl) (fun t => by rw [ha]; unfold Dat.blockOf iblk; rw [hA]; rfl) t d).trans
    (by unfold Dat.fetched Dat.blockOf iblk; rw [hA]; rfl)
theorem before_1 (hA : dat.A 1 = V m c (Pipeline.arrRef spec0 1)) (ha : ∀ t, dat.after 1 t = iblk m hO c 1 t)
    (t : Fin (cfgM m hO).N) (d) : dat.before 1 t d = iblk m hO c 1 t :=
  (dat.before_in_eq_fetched 1 rfl (fun _ => rfl) (fun _ _ _ => rfl) (fun t => by rw [ha]; unfold Dat.blockOf iblk; rw [hA]; rfl) t d).trans
    (by unfold Dat.fetched Dat.blockOf iblk; rw [hA]; rfl)
theorem before_2 (hA : dat.A 2 = V m c (Pipeline.arrRef spec0 2)) (ha : ∀ t, dat.after 2 t = iblk m hO c 2 t)
    (t : Fin (cfgM m hO).N) (d) : dat.before 2 t d = iblk m hO c 2 t :=
  (dat.before_in_eq_fetched 2 rfl (fun _ => rfl) (fun _ _ _ => rfl) (fun t => by rw [ha]; unfold Dat.blockOf iblk; rw [hA]; rfl) t d).trans
    (by unfold Dat.fetched Dat.blockOf iblk; rw [hA]; rfl)
theorem before_3 (hA : dat.A 3 = V m c (Pipeline.arrRef spec0 3)) (ha : ∀ t, dat.after 3 t = iblk m hO c 3 t)
    (t : Fin (cfgM m hO).N) (d) : dat.before 3 t d = iblk m hO c 3 t :=
  (dat.before_in_eq_fetched 3 rfl (fun _ => rfl) (fun _ _ _ => rfl) (fun t => by rw [ha]; unfold Dat.blockOf iblk; rw [hA]; rfl) t d).trans
    (by unfold Dat.fetched Dat.blockOf iblk; rw [hA]; rfl)
theorem before_4 (hA : dat.A 4 = V m c (Pipeline.arrRef spec0 4)) (ha : ∀ t, dat.after 4 t = iblk m hO c 4 t)
    (t : Fin (cfgM m hO).N) (d) : dat.before 4 t d = iblk m hO c 4 t :=
  (dat.before_in_eq_fetched 4 rfl (fun _ => rfl) (fun _ _ _ => rfl) (fun t => by rw [ha]; unfold Dat.blockOf iblk; rw [hA]; rfl) t d).trans
    (by unfold Dat.fetched Dat.blockOf iblk; rw [hA]; rfl)
theorem before_5 (hA : dat.A 5 = V m c (Pipeline.arrRef spec0 5)) (ha : ∀ t, dat.after 5 t = iblk m hO c 5 t)
    (t : Fin (cfgM m hO).N) (d) : dat.before 5 t d = iblk m hO c 5 t :=
  (dat.before_in_eq_fetched 5 rfl (fun _ => rfl) (fun _ _ _ => rfl) (fun t => by rw [ha]; unfold Dat.blockOf iblk; rw [hA]; rfl) t d).trans
    (by unfold Dat.fetched Dat.blockOf iblk; rw [hA]; rfl)
theorem before_6 (hA : dat.A 6 = V m c (Pipeline.arrRef spec0 6)) (ha : ∀ t, dat.after 6 t = iblk m hO c 6 t)
    (t : Fin (cfgM m hO).N) (d) : dat.before 6 t d = iblk m hO c 6 t :=
  (dat.before_in_eq_fetched 6 rfl (fun _ => rfl) (fun _ _ _ => rfl) (fun t => by rw [ha]; unfold Dat.blockOf iblk; rw [hA]; rfl) t d).trans
    (by unfold Dat.fetched Dat.blockOf iblk; rw [hA]; rfl)
theorem before_7 (hA : dat.A 7 = V m c (Pipeline.arrRef spec0 7)) (ha : ∀ t, dat.after 7 t = iblk m hO c 7 t)
    (t : Fin (cfgM m hO).N) (d) : dat.before 7 t d = iblk m hO c 7 t :=
  (dat.before_in_eq_fetched 7 rfl (fun _ => rfl) (fun _ _ _ => rfl) (fun t => by rw [ha]; unfold Dat.blockOf iblk; rw [hA]; rfl) t d).trans
    (by unfold Dat.fetched Dat.blockOf iblk; rw [hA]; rfl)

end Before

/-! ## What the body is handed at a point -/

abbrev ms0 (hO : Ok m) (t : Fin (cfgM m hO).N) : Memref sig .tc .vmem S2304x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x256 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x256x1024 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x256 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1024x256 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x256x1024 .bf16 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S2304x128 .f32 := spec0_8.stage ((cfgM m hO).slots t 8)
abbrev hs8 (hO : Ok m) (t : Fin (cfgM m hO).N) : (ms8 m hO t).IsWhole := hstage0_8 (((cfgM m hO).slots t 8).cast nbuf0_8)

/-- The kernel body at point `t`, on what the pipeline calls it with. -/
abbrev bodyAt (hO : Ok m) (t : Fin (cfgM m hO).N) : Prog (TpuEff nD τ sig (Elt F) Λ₀ .tc) PUnit :=
  cc0_experts (grid0.coords t) tbM0 (Memref.isWhole_whole _) tbM1 (Memref.isWhole_whole _) tbM2 (Memref.isWhole_whole _)
    tbM3 (Memref.isWhole_whole _) tbM4 (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) (ms6 m hO t) (hs6 m hO t) (ms7 m hO t) (hs7 m hO t)
    (ms8 m hO t) (hs8 m hO t)

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.KernelIdeal.Experts

end
-- ==== Proof.Experts.Rows.lean ====
/- The staged block of 256 tokens as nine interleaved rows per token: token `r`'s chunk `j` is row `9 r + j`. `get j`
   reads chunk `j` of every token, `put j` overwrites it; what a strided load and a strided store through a view do. -/
module

public import proofs.«01_k».proof.Proof.Experts.Base
public import Idealize.ShloMosaic.Lib.ValueIdxCore
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The token of a staged row, and the lane, as an index of one chunk. -/
def tok (y : S2304x128.Idx) : S256x128.Idx :=
  ix2 (n0 := 256) (n1 := 128) ⟨(y 0).val / 9, by have h : (y 0).val < 2304 := (y 0).isLt; omega⟩ (y 1)

/-- Row `9 r + j`. -/
def stg (j : ℕ) (x : S256x128.Idx) : S2304x128.Idx :=
  ix2 (n0 := 2304) (n1 := 128) ⟨9 * (x 0).val + j % 9, by have h : (x 0).val < 256 := (x 0).isLt; omega⟩ (x 1)

/-- Chunk `j` of every token. -/
def get {α : Type} (j : ℕ) (o : S2304x128.Idx → α) : S256x128.Idx → α := fun x => o (stg j x)

/-- The block with chunk `j` of every token overwritten by `w`. -/
def put {α : Type} (j : ℕ) (w : S256x128.Idx → α) (o : S2304x128.Idx → α) : S2304x128.Idx → α :=
  fun y => if (y 0).val % 9 = j then w (tok y) else o y

theorem tok_stg (j : ℕ) (x : S256x128.Idx) : tok (stg j x) = x := by
  funext a
  match a with
  | ⟨0, _⟩ => exact Fin.ext (by show (9 * (x 0).val + j % 9) / 9 = (x 0).val; omega)
  | ⟨1, _⟩ => rfl

theorem stg_mod (j : ℕ) (hj : j < 9) (x : S256x128.Idx) : (stg j x 0).val % 9 = j := by
  show (9 * (x 0).val + j % 9) % 9 = j
  omega

theorem get_put_same {α : Type} (j : ℕ) (hj : j < 9) (w : S256x128.Idx → α) (o : S2304x128.Idx → α) :
    get j (put j w o) = w := by
  funext x
  unfold get put
  rw [if_pos (stg_mod j hj x), tok_stg]

theorem get_put_ne {α : Type} (i j : ℕ) (hi : i < 9) (w : S256x128.Idx → α) (o : S2304x128.Idx → α) (h : i ≠ j) :
    get i (put j w o) = get i o := by
  funext x
  unfold get put
  rw [if_neg (by rw [stg_mod i hi]; exact h)]

/-- Two staged rows of one chunk index are the same place exactly when their tokens are: the row of token `tok y`. -/
theorem stg_tok (j : ℕ) (y : S2304x128.Idx) (h : (y 0).val % 9 = j) : stg j (tok y) = y := by
  funext a
  match a with
  | ⟨0, _⟩ => exact Fin.ext (by show 9 * ((y 0).val / 9) + j % 9 = (y 0).val; omega)
  | ⟨1, _⟩ => rfl

/-- The strided rectangle of chunk `j`: rows `j, j + 9, …` of all lanes. -/
abbrev rowRect (j : ℕ) (inb : ∀ a, S256x128.size a = 0 ∨ (![j, 0] : Fin 2 → ℕ) a + (![9, 1] : Fin 2 → ℕ) a * (S256x128.size a - 1) < S2304x128.size a) :
    LoadRect S2304x128 := ⟨![j, 0], S256x128.size, ![9, 1], inb⟩

section View

variable {sp : Space} (v : View sig .tc sp S2304x128 .f32) (f : v.ty.Contents (Elt F))

/-- A strided load reads its chunk. -/
theorem readAt_row (j : ℕ) (hj : j < 9) (inb) : v.readAt (Elt F) (rowRect j inb) f = get j (v.read (Elt F) f) := by
  funext x
  show v.read (Elt F) f ((rowRect j inb).idx x) = v.read (Elt F) f (stg j x)
  congr 1
  funext a
  match a with
  | ⟨0, _⟩ => exact Fin.ext (by show j + 9 * (x 0).val = 9 * (x 0).val + j % 9; omega)
  | ⟨1, _⟩ => exact Fin.ext (by show 0 + 1 * (x 1).val = (x 1).val; omega)

/-- A strided store overwrites its chunk. -/
theorem read_row_cons (j : ℕ) (hj : j < 9) (inb) (sp') (w : S256x128.Idx → Elt F .f32) (L : List (View.Piece (Elt F) S2304x128 .f32)) :
    v.read (Elt F) (v.writes (Elt F) f (⟨⟨rowRect j inb, sp'⟩, w⟩ :: L)) = put j w (v.read (Elt F) (v.writes (Elt F) f L)) := by
  funext y
  unfold put
  split
  · next h =>
    refine View.read_writes_cons_hit v f ⟨rowRect j inb, sp'⟩ w L (tok y) y ?_
    funext a
    match a with
    | ⟨0, _⟩ => exact Fin.ext (by show j + 9 * ((y 0).val / 9) = (y 0).val; omega)
    | ⟨1, _⟩ => exact Fin.ext (by show 0 + 1 * (y 1).val = (y 1).val; omega)
  · next h =>
    refine View.read_writes_cons_miss v f _ L y fun hm => h ?_
    obtain ⟨x, rfl⟩ := LoadRect.exists_idx_of_mem _ hm
    show (j + 9 * (x 0).val) % 9 = j
    omega

end View

end Cert.KernelIdeal.Experts

end
-- ==== Proof.Experts.Parts.lean ====
/- The three printed parts of the expert body, each run once: reading the block and the gate weights (part 2), reading the
   other weights (part 3), and merging chunks 0 to 3 into the staged block under the row mask (part 1). -/
module

public import proofs.«01_k».proof.Proof.Experts.Rows
public import Idealize.ShloMosaic.Lib.VecWindow
public import Idealize.ShloMosaic.Lib.Pipeline.Value
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg6 : Memref sig .tc .vmem S2304x128 .f32) (harg6 : arg6.IsWhole) (arg7 : Memref sig .tc .vmem S1x1024 .f32) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x256x1024 .bf16) (harg10 : arg10.IsWhole) (arg11 : Memref sig .tc .vmem S1x1024x256 .bf16) (harg11 : arg11.IsWhole)
  (arg12 : Memref sig .tc .vmem S1x1024x256 .bf16) (harg12 : arg12.IsWhole) (arg13 : Memref sig .tc .vmem S1x256x1024 .bf16) (harg13 : arg13.IsWhole)
  (arg14 : Memref sig .tc .vmem S2304x128 .f32) (harg14 : arg14.IsWhole)

/-- A staging buffer held whole at contents `f`. -/
abbrev held {sp : Space} {s : Shape} {e : EltTy} (M : Memref sig .tc sp s e) (f : M.view.ty.Contents (Elt F)) : sProp 𝕄 :=
  M.view.loc (c : Thread nD τ) ↦[M.view.set]{fullShare} f

/-! ## What is computed from the block and the weights -/

section Values

variable (x0 : Vec F S2304x128 .f32) (x1 : Vec F S1x1024 .f32) (x2 x3 : Vec F S1x1024x256 .bf16) (x4 : Vec F S1x256x1024 .bf16)
  (x5 x6 : Vec F S1x1024x256 .bf16) (x7 : Vec F S1x256x1024 .bf16)

/-- The tokens' rows, their two combine weights, their normalised rows, and the first expert's gate products. -/
def hRow : FVec F S256x1024 .f32 :=
  k0_pay22 (get 0 x0) (get 1 x0) (get 2 x0) (get 3 x0) (get 4 x0) (get 5 x0) (get 6 x0) (get 7 x0)
def wLo : FVec F S256x1 .f32 := k0_pay23 (get 8 x0)
def wHi : FVec F S256x1 .f32 := k0_pay24 (get 8 x0)
def xNorm : FVec F S256x1024 .bf16 :=
  k0_pay25 (get 0 x0) (get 1 x0) (get 2 x0) (get 3 x0) (get 4 x0) (get 5 x0) (get 6 x0) (get 7 x0) x1
def gLo : FVec F S256x256 .f32 :=
  k0_pay26 (get 0 x0) (get 1 x0) (get 2 x0) (get 3 x0) (get 4 x0) (get 5 x0) (get 6 x0) (get 7 x0) x1 x2

/-- The tokens' result rows: the row plus both experts' weighted contributions. -/
def resRow : FVec F S256x1024 .f32 :=
  k0_pay2 (k0_pay27 (wHi x0) (xNorm x0 x1) x5 x6) (k0_pay28 (hRow x0) (wLo x0) (xNorm x0 x1) (gLo x0 x1 x2) x3 x4) (k0_pay29 x7)

end Values

/-- Chunk `j` of a block of result rows. -/
def slab (j : ℕ) (r : FVec F S256x1024 .f32) : FVec F S256x128 .f32 :=
  fun x => r (ix2 (n0 := 256) (n1 := 1024) (x 0) ⟨128 * (j % 8) + (x 1).val, by have h : (x 1).val < 128 := (x 1).isLt; omega⟩)

/-- Under a row mask, the new chunk; elsewhere the old one. -/
def pick (k : IVec S256x1 1) (w o : FVec F S256x128 .f32) : FVec F S256x128 .f32 :=
  fun x => if k (ix2 (n0 := 256) (n1 := 1) (x 0) 0) = 1#1 then w x else o x

theorem slice_eq_slab (j d : ℕ) (hj : j < 8) (hd : d = 128 * j) (r : FVec F S256x1024 .f32) (h : S256x1024.Slices ![0, d] S256x128) :
    extractStridedSlice S256x128 ![0, d] r h = slab j r := by
  funext x
  unfold extractStridedSlice slab
  congr 1
  funext a
  match a with
  | ⟨0, _⟩ => exact Fin.ext (by show 0 + (x 0).val = (x 0).val; omega)
  | ⟨1, _⟩ => exact Fin.ext (by show d + (x 1).val = 128 * (j % 8) + (x 1).val; omega)

theorem select_eq_pick (k : IVec S256x1 1) (w o : FVec F S256x128 .f32) (h h' h'') :
    select (broadcastTo S256x128 (shapeCast S256x1 k h) h') w (shapeCast S256x128 o h'') = pick k w o := by
  funext x
  rw [shapeCast_self, shapeCast_self]
  show Scalar.select (broadcastTo S256x128 k h' x) (w x) (o x) = _
  rw [broadcastTo_apply k h' x (ix2 (n0 := 256) (n1 := 1) (x 0) 0) (by
    intro a
    match a with
    | ⟨0, _⟩ => rfl
    | ⟨1, _⟩ => rfl)]
  rfl

/-- A strided load, its rectangle written out. -/
theorem readAt_lit {sp : Space} (v : View sig .tc sp S2304x128 .f32) (f : v.ty.Contents (Elt F)) (j : ℕ) (inb) (hj : j < 9) :
    v.readAt (Elt F) (⟨![j, 0], ![256, 128], ![9, 1], inb⟩ : LoadRect S2304x128) f = get j (v.read (Elt F) f) :=
  readAt_row v f j hj inb

/-- A strided store on top of other writes, its rectangle written out. -/
theorem read_lit_cons {sp : Space} (v : View sig .tc sp S2304x128 .f32) (f : v.ty.Contents (Elt F)) (j : ℕ) (inb sp')
    (w : S256x128.Idx → Elt F .f32) (L : List (View.Piece (Elt F) S2304x128 .f32)) (hj : j < 9) :
    v.read (Elt F) (v.writes (Elt F) f (⟨⟨⟨![j, 0], ![256, 128], ![9, 1], inb⟩, sp'⟩, w⟩ :: L)) = put j w (v.read (Elt F) (v.writes (Elt F) f L)) :=
  read_row_cons v f j hj inb sp' w L

section Payloads

variable (v1 v3 v5 : BitVec 32) (r : FVec F S256x1024 .f32) (o w : FVec F S256x128 .f32) (k : IVec S256x1 1)
  (v87 : FVec F S256x256 .bf16) (v91 : FVec F S256x1024 .f32) (v93 : FVec F S256x1024 .bf16)

theorem pay3 : k0_pay3 v87 v91 v93 = slab 0 (k0_pay2 v87 v91 v93) := slice_eq_slab 0 0 (by decide) rfl _ slices_S256x1024_o0_0_S256x128
theorem pay4 : k0_pay4 v87 v91 v93 = slab 1 (k0_pay2 v87 v91 v93) := slice_eq_slab 1 128 (by decide) rfl _ slices_S256x1024_o0_128_S256x128
theorem pay5 : k0_pay5 v87 v91 v93 = slab 2 (k0_pay2 v87 v91 v93) := slice_eq_slab 2 256 (by decide) rfl _ slices_S256x1024_o0_256_S256x128
theorem pay6 : k0_pay6 v87 v91 v93 = slab 3 (k0_pay2 v87 v91 v93) := slice_eq_slab 3 384 (by decide) rfl _ slices_S256x1024_o0_384_S256x128
theorem pay7 : k0_pay7 v87 v91 v93 = slab 4 (k0_pay2 v87 v91 v93) := slice_eq_slab 4 512 (by decide) rfl _ slices_S256x1024_o0_512_S256x128
theorem pay8 : k0_pay8 v87 v91 v93 = slab 5 (k0_pay2 v87 v91 v93) := slice_eq_slab 5 640 (by decide) rfl _ slices_S256x1024_o0_640_S256x128
theorem pay9 : k0_pay9 v87 v91 v93 = slab 6 (k0_pay2 v87 v91 v93) := slice_eq_slab 6 768 (by decide) rfl _ slices_S256x1024_o0_768_S256x128
theorem pay10 : k0_pay10 v87 v91 v93 = slab 7 (k0_pay2 v87 v91 v93) := slice_eq_slab 7 896 (by decide) rfl _ slices_S256x1024_o0_896_S256x128
theorem pay12 : k0_pay12 k w o = pick k w o := select_eq_pick _ _ _ _ _ _
theorem pay13 : k0_pay13 v87 v91 v93 k o = pick k (slab 5 (k0_pay2 v87 v91 v93)) o :=
  (select_eq_pick _ _ _ _ _ _).trans (congrArg (fun z => pick k z o) (slice_eq_slab 5 640 (by decide) rfl _ slices_S256x1024_o0_640_S256x128))
theorem pay14 : k0_pay14 v87 v91 v93 k o = pick k (slab 6 (k0_pay2 v87 v91 v93)) o :=
  (select_eq_pick _ _ _ _ _ _).trans (congrArg (fun z => pick k z o) (slice_eq_slab 6 768 (by decide) rfl _ slices_S256x1024_o0_768_S256x128))
theorem pay15 : k0_pay15 v87 v91 v93 k o = pick k (slab 7 (k0_pay2 v87 v91 v93)) o :=
  (select_eq_pick _ _ _ _ _ _).trans (congrArg (fun z => pick k z o) (slice_eq_slab 7 896 (by decide) rfl _ slices_S256x1024_o0_896_S256x128))
theorem pay17 : k0_pay17 v1 v3 v5 r o = pick (k0_pay16 (F := F) v1 v3 v5) (slab 0 r) o :=
  (select_eq_pick _ _ _ _ _ _).trans (congrArg (fun z => pick _ z o) (slice_eq_slab 0 0 (by decide) rfl _ slices_S256x1024_o0_0_S256x128))
theorem pay18 : k0_pay18 v1 v3 v5 r o = pick (k0_pay16 (F := F) v1 v3 v5) (slab 1 r) o :=
  (select_eq_pick _ _ _ _ _ _).trans (congrArg (fun z => pick _ z o) (slice_eq_slab 1 128 (by decide) rfl _ slices_S256x1024_o0_128_S256x128))
theorem pay19 : k0_pay19 v1 v3 v5 r o = pick (k0_pay16 (F := F) v1 v3 v5) (slab 2 r) o :=
  (select_eq_pick _ _ _ _ _ _).trans (congrArg (fun z => pick _ z o) (slice_eq_slab 2 256 (by decide) rfl _ slices_S256x1024_o0_256_S256x128))
theorem pay20 : k0_pay20 v1 v3 v5 r o = pick (k0_pay16 (F := F) v1 v3 v5) (slab 3 r) o :=
  (select_eq_pick _ _ _ _ _ _).trans (congrArg (fun z => pick _ z o) (slice_eq_slab 3 384 (by decide) rfl _ slices_S256x1024_o0_384_S256x128))
theorem pay21 : k0_pay21 r = slab 4 r := slice_eq_slab 4 512 (by decide) rfl _ slices_S256x1024_o0_512_S256x128

end Payloads

/-! ## The runs -/

set_option maxHeartbeats 1000000 in
/-- Part 2 reads the nine chunks of the block, the norm weight and the two gate weights. -/
theorem part2_run (f0 : arg6.view.ty.Contents (Elt F)) (f1 : arg7.view.ty.Contents (Elt F)) (f2 : arg8.view.ty.Contents (Elt F))
    (f5 : arg11.view.ty.Contents (Elt F)) (E : Set ℕ) :
    iprop(held c arg6 f0 ∗ held c arg7 f1 ∗ held c arg8 f2 ∗ held c arg11 f5)
      ⊢ wp frame (wpE (defs₀ (F := F)) Variants.none c none) E
          (k0_part2 i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14)
          (fun r => iprop(⌜r = ⟨hRow (arg6.view.read (Elt F) f0), wLo (arg6.view.read (Elt F) f0), wHi (arg6.view.read (Elt F) f0),
              xNorm (arg6.view.read (Elt F) f0) (arg7.view.read (Elt F) f1),
              gLo (arg6.view.read (Elt F) f0) (arg7.view.read (Elt F) f1) (arg8.view.read (Elt F) f2), arg11.view.read (Elt F) f5⟩⌝
            ∗ held c arg6 f0 ∗ held c arg7 f1 ∗ held c arg8 f2 ∗ held c arg11 f5)) := by
  rw [k0_part2_eq_skeleton]
  unfold k0_part2_skel
  iintro ⟨H0, H1, H2, H5⟩
  sl_exec
  sl_step
  isplitr
  · ipureintro
    simp (disch := decide) only [readAt_lit]
    rw [View.readAt_full, View.readAt_full, View.readAt_full]
    rfl
  isplitl [H0]; · iexact H0
  isplitl [H1]; · iexact H1
  isplitl [H2]; · iexact H2
  iexact H5

set_option maxHeartbeats 1000000 in
/-- Part 3 reads the other up and down weights. -/
theorem part3_run (f3 : arg9.view.ty.Contents (Elt F)) (f4 : arg10.view.ty.Contents (Elt F)) (f6 : arg12.view.ty.Contents (Elt F))
    (f7 : arg13.view.ty.Contents (Elt F)) (v34 v36 v37 v51 v54 v55) (E : Set ℕ) :
    iprop(held c arg9 f3 ∗ held c arg10 f4 ∗ held c arg12 f6 ∗ held c arg13 f7)
      ⊢ wp frame (wpE (defs₀ (F := F)) Variants.none c none) E
          (k0_part3 i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14 v34 v36 v37 v51 v54 v55)
          (fun r => iprop(⌜r.1 = k0_pay27 v37 v51 v55 (arg12.view.read (Elt F) f6)⌝
            ∗ ⌜r.2.1 = k0_pay28 v34 v36 v51 v54 (arg9.view.read (Elt F) f3) (arg10.view.read (Elt F) f4)⌝
            ∗ ⌜r.2.2 = k0_pay29 (arg13.view.read (Elt F) f7)⌝
            ∗ held c arg9 f3 ∗ held c arg10 f4 ∗ held c arg12 f6 ∗ held c arg13 f7)) := by
  rw [k0_part3_eq_skeleton]
  unfold k0_part3_skel
  iintro ⟨H0, H1, H2, H5⟩
  sl_exec
  sl_step
  isplitr
  · ipureintro
    dsimp only
    rw [View.readAt_full]
  isplitr
  · ipureintro
    dsimp only
    rw [View.readAt_full, View.readAt_full]
  isplitr
  · ipureintro
    dsimp only
    rw [View.readAt_full]
  isplitl [H0]; · iexact H0
  isplitl [H1]; · iexact H1
  isplitl [H2]; · iexact H2
  iexact H5

/-- Chunks 0 to 3 of the staged block merged with the new rows under the mask. -/
def merge4 (k : IVec S256x1 1) (r : FVec F S256x1024 .f32) (o : Vec F S2304x128 .f32) : Vec F S2304x128 .f32 :=
  put 3 (pick k (slab 3 r) (get 3 o)) (put 2 (pick k (slab 2 r) (get 2 o))
    (put 1 (pick k (slab 1 r) (get 1 o)) (put 0 (pick k (slab 0 r) (get 0 o)) o)))

set_option maxHeartbeats 1000000 in
/-- Part 1 merges chunks 0 to 3. -/
theorem part1_run (f8 : arg14.view.ty.Contents (Elt F)) (v1 v3 v5 : BitVec 32) (v95) (E : Set ℕ) :
    iprop(held c arg14 f8)
      ⊢ wp frame (wpE (defs₀ (F := F)) Variants.none c none) E
          (k0_part1 i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14 v1 v3 v5 v95)
          (fun r => iprop(⌜r.1 = k0_pay16 (F := F) v1 v3 v5⌝ ∗ ⌜r.2 = slab 4 v95⌝
            ∗ ∃ f, ⌜arg14.view.read (Elt F) f = merge4 (k0_pay16 (F := F) v1 v3 v5) v95 (arg14.view.read (Elt F) f8)⌝ ∗ held c arg14 f)) := by
  rw [k0_part1_eq_skeleton]
  unfold k0_part1_skel
  iintro H
  sl_exec
  sl_step
  isplitr
  · ipureintro; rfl
  isplitr
  · ipureintro
    exact pay21 v95
  iexists _
  isplitr
  rotate_left
  · iexact H
  · ipureintro
    sl_unfold_run_names
    simp (disch := decide) only [read_lit_cons, readAt_lit, get_put_ne, pay17, pay18, pay19, pay20]
    rfl

end Cert.KernelIdeal.Experts

end
-- ==== Proof.Experts.Body.lean ====
/- One grid step of the expert body, in its five cases: what the staged output block holds afterwards. -/
module

public import proofs.«01_k».proof.Proof.Experts.Parts
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The block wholly written: the new rows' chunks, and the zero ninth row. -/
def whole (r : FVec F S256x1024 .f32) : Vec F S2304x128 .f32 :=
  fun y => if (y 0).val % 9 = 8 then k0_pay11 (tok y) else slab ((y 0).val % 9) r (tok y)

/-- The block with the rows under the mask replaced. -/
def merge (k : IVec S256x1 1) (r : FVec F S256x1024 .f32) (o : Vec F S2304x128 .f32) : Vec F S2304x128 .f32 :=
  put 7 (pick k (slab 7 r) (get 7 o)) (put 6 (pick k (slab 6 r) (get 6 o))
    (put 5 (pick k (slab 5 r) (get 5 o)) (put 4 (pick k (slab 4 r) (get 4 o)) (merge4 k r o))))

theorem put_all (r : FVec F S256x1024 .f32) (o : Vec F S2304x128 .f32) :
    put 8 (k0_pay11 (F := F)) (put 7 (slab 7 r) (put 6 (slab 6 r) (put 5 (slab 5 r) (put 4 (slab 4 r) (put 3 (slab 3 r) (put 2 (slab 2 r)
      (put 1 (slab 1 r) (put 0 (slab 0 r) o)))))))) = whole r := by
  funext y
  unfold put whole
  have hq : (y 0).val % 9 < 9 := Nat.mod_lt _ (by decide)
  generalize (y 0).val % 9 = q at hq ⊢
  interval_cases q <;> simp

theorem get_merge4 (j : ℕ) (hj : j < 9) (h4 : 4 ≤ j) (k : IVec S256x1 1) (r : FVec F S256x1024 .f32) (o : Vec F S2304x128 .f32) :
    get j (merge4 k r o) = get j o := by
  unfold merge4
  rw [get_put_ne j 3 hj _ _ (by omega), get_put_ne j 2 hj _ _ (by omega), get_put_ne j 1 hj _ _ (by omega), get_put_ne j 0 hj _ _ (by omega)]

/-- Chunks 4 to 7 merged on top of chunks 0 to 3 are the whole merge. -/
theorem merge_top (k : IVec S256x1 1) (r : FVec F S256x1024 .f32) (o : Vec F S2304x128 .f32) :
    put 7 (pick k (slab 7 r) (get 7 (merge4 k r o))) (put 6 (pick k (slab 6 r) (get 6 (merge4 k r o)))
      (put 5 (pick k (slab 5 r) (get 5 (merge4 k r o))) (put 4 (pick k (slab 4 r) (get 4 (merge4 k r o))) (merge4 k r o)))) = merge k r o := by
  rw [get_merge4 7 (by decide) (by decide), get_merge4 6 (by decide) (by decide), get_merge4 5 (by decide) (by decide), get_merge4 4 (by decide) (by decide)]
  rfl

/-- The table word the body reads at point `i`, and the tile word of the point before. -/
abbrev word (i : grid0.Coords) {c : Dev nD} (M : Memref sig .tc .smem S240 .i32) (x : TbBuf (F := F) c M) : BitVec 32 :=
  M.view.readAt (Elt F) (Rect.unit (s := S240) (k0_off1 i) S1.size (k0_off1_inb i)).toLoadRect x (Shape.Idx.first (numel1_S1.symm ▸ Nat.one_pos))
abbrev wordP (i : grid0.Coords) {c : Dev nD} (M : Memref sig .tc .smem S240 .i32) (x : TbBuf (F := F) c M) : BitVec 32 :=
  M.view.readAt (Elt F) (Rect.unit (s := S240) (k0_off2 i) S1.size (k0_off2_inb i)).toLoadRect x (Shape.Idx.first (numel1_S1.symm ▸ Nat.one_pos))

variable (c : Dev nD) (i : grid0.Coords)
  (arg6 : Memref sig .tc .vmem S2304x128 .f32) (harg6 : arg6.IsWhole) (arg7 : Memref sig .tc .vmem S1x1024 .f32) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x256x1024 .bf16) (harg10 : arg10.IsWhole) (arg11 : Memref sig .tc .vmem S1x1024x256 .bf16) (harg11 : arg11.IsWhole)
  (arg12 : Memref sig .tc .vmem S1x1024x256 .bf16) (harg12 : arg12.IsWhole) (arg13 : Memref sig .tc .vmem S1x256x1024 .bf16) (harg13 : arg13.IsWhole)
  (arg14 : Memref sig .tc .vmem S2304x128 .f32) (harg14 : arg14.IsWhole)

variable (x0 : Vec F S2304x128 .f32) (x1 : Vec F S1x1024 .f32) (x2 x3 : Vec F S1x1024x256 .bf16) (x4 : Vec F S1x256x1024 .bf16)
  (x5 x6 : Vec F S1x1024x256 .bf16) (x7 : Vec F S1x256x1024 .bf16)
  (xt0 : TbBuf (F := F) c tbM0) (xt1 : TbBuf (F := F) c tbM1) (xt2 : TbBuf (F := F) c tbM2) (xt3 : TbBuf (F := F) c tbM3) (xt4 : TbBuf (F := F) c tbM4)

/-- What the body holds: the eight input blocks, the output block at `y`, half of each table. -/
def state (y : Vec F S2304x128 .f32) : sProp 𝕄 :=
  iprop(owns (c : Thread nD τ) arg6 fullShare x0 ∗ owns (c : Thread nD τ) arg7 fullShare x1 ∗ owns (c : Thread nD τ) arg8 fullShare x2
    ∗ owns (c : Thread nD τ) arg9 fullShare x3 ∗ owns (c : Thread nD τ) arg10 fullShare x4 ∗ owns (c : Thread nD τ) arg11 fullShare x5
    ∗ owns (c : Thread nD τ) arg12 fullShare x6 ∗ owns (c : Thread nD τ) arg13 fullShare x7 ∗ owns (c : Thread nD τ) arg14 fullShare y
    ∗ tbPt c tbM0 xt0 ∗ tbPt c tbM1 xt1 ∗ tbPt c tbM2 xt2 ∗ tbPt c tbM3 xt3 ∗ tbPt c tbM4 xt4)

/-- Held buffers are the blocks they read as. -/
theorem blocks_intro (f0 : arg6.view.ty.Contents (Elt F)) (f1 : arg7.view.ty.Contents (Elt F)) (f2 : arg8.view.ty.Contents (Elt F))
    (f3 : arg9.view.ty.Contents (Elt F)) (f4 : arg10.view.ty.Contents (Elt F)) (f5 : arg11.view.ty.Contents (Elt F))
    (f6 : arg12.view.ty.Contents (Elt F)) (f7 : arg13.view.ty.Contents (Elt F)) (R : sProp 𝕄) :
    iprop(held c arg6 f0 ∗ held c arg7 f1 ∗ held c arg8 f2 ∗ held c arg9 f3 ∗ held c arg10 f4 ∗ held c arg11 f5 ∗ held c arg12 f6
        ∗ held c arg13 f7 ∗ R)
      ⊢ iprop(owns (c : Thread nD τ) arg6 fullShare (arg6.view.read (Elt F) f0) ∗ owns (c : Thread nD τ) arg7 fullShare (arg7.view.read (Elt F) f1)
        ∗ owns (c : Thread nD τ) arg8 fullShare (arg8.view.read (Elt F) f2) ∗ owns (c : Thread nD τ) arg9 fullShare (arg9.view.read (Elt F) f3)
        ∗ owns (c : Thread nD τ) arg10 fullShare (arg10.view.read (Elt F) f4) ∗ owns (c : Thread nD τ) arg11 fullShare (arg11.view.read (Elt F) f5)
        ∗ owns (c : Thread nD τ) arg12 fullShare (arg12.view.read (Elt F) f6) ∗ owns (c : Thread nD τ) arg13 fullShare (arg13.view.read (Elt F) f7)
        ∗ R) := by
  unfold owns
  iintro ⟨H0, H1, H2, H3, H4, H5, H6, H7, H8⟩
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  iexact H8

set_option maxHeartbeats 4000000 in
/-- An item that owns its whole tile writes it. -/
theorem runC
    (h1 : k0_cond1 i (word i tbM0 xt0) (word i tbM3 xt3) (word i tbM4 xt4) (wordP i tbM0 xt0) ≠ 1#1)
    (h2 : k0_cond2 (word i tbM3 xt3) (word i tbM4 xt4) = 1#1)
    (h3 : k0_cond3 (word i tbM0 xt0) (word i tbM3 xt3) (word i tbM4 xt4) = 1#1)
    (h4 : k0_cond4 (word i tbM0 xt0) (word i tbM3 xt3) (word i tbM4 xt4) ≠ 1#1)
    (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4 (whole (resRow x0 x1 x2 x3 x4 x5 x6 x7)) -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  rw [cc0_experts_eq_skeleton]
  unfold cc0_experts_skel state owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, HT0, HT1, HT2, HT3, HT4⟩, Hk⟩
  subst hf0 hf1 hf2 hf3 hf4 hf5 hf6 hf7 hf8
  have cut2 := part2_run (F := F) c i arg6 harg6 arg7 harg7 arg8 harg8 arg9 harg9 arg10 harg10 arg11 harg11 arg12 harg12 arg13 harg13 arg14 harg14 f0 f1 f2 f5 E
  have cut3 := part3_run (F := F) c i arg6 harg6 arg7 harg7 arg8 harg8 arg9 harg9 arg10 harg10 arg11 harg11 arg12 harg12 arg13 harg13 arg14 harg14 f3 f4 f6 f7
  sl_exec (disch := first | sl_exact h1 | sl_exact h2 | sl_exact h3 | sl_exact h4)
  sl_step
  obtain ⟨rfl, rfl, rfl, rfl, rfl, rfl⟩ : v34 = _ ∧ v36 = _ ∧ v37 = _ ∧ v51 = _ ∧ v54 = _ ∧ v55 = _ := by
    injection hk0_part2_0 with e0 e; injection e with e1 e; injection e with e2 e; injection e with e3 e; injection e with e4 e5
    exact ⟨e0, e1, e2, e3, e4, e5⟩
  dsimp only at hk0_part3_0 hk0_part3_1 hk0_part3_2
  subst hk0_part3_0 hk0_part3_1 hk0_part3_2
  have hb := blocks_intro c arg6 arg7 arg8 arg9 arg10 arg11 arg12 arg13 f0 f1 f2 f3 f4 f5 f6 f7
  unfold owns at hb
  iapply Hk
  iframe
  iapply hb
  iframe
  iexists _
  isplitr
  rotate_left
  · iexact H8
  ipureintro
  simp (disch := decide) only [read_lit_cons, pay3, pay4, pay5, pay6, pay7, pay8, pay9, pay10]
  exact put_all _ _

set_option maxHeartbeats 4000000 in
/-- A further item of a shared tile merges its rows. -/
theorem runD
    (h1 : k0_cond1 i (word i tbM0 xt0) (word i tbM3 xt3) (word i tbM4 xt4) (wordP i tbM0 xt0) ≠ 1#1)
    (h2 : k0_cond2 (word i tbM3 xt3) (word i tbM4 xt4) = 1#1)
    (h3 : k0_cond3 (word i tbM0 xt0) (word i tbM3 xt3) (word i tbM4 xt4) ≠ 1#1)
    (h4 : k0_cond4 (word i tbM0 xt0) (word i tbM3 xt3) (word i tbM4 xt4) = 1#1)
    (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4 (merge (k0_pay16 (F := F) (word i tbM0 xt0) (word i tbM3 xt3) (word i tbM4 xt4)) (resRow x0 x1 x2 x3 x4 x5 x6 x7) y) -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  rw [cc0_experts_eq_skeleton]
  unfold cc0_experts_skel state owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, HT0, HT1, HT2, HT3, HT4⟩, Hk⟩
  subst hf0 hf1 hf2 hf3 hf4 hf5 hf6 hf7 hf8
  have cut2 := part2_run (F := F) c i arg6 harg6 arg7 harg7 arg8 harg8 arg9 harg9 arg10 harg10 arg11 harg11 arg12 harg12 arg13 harg13 arg14 harg14 f0 f1 f2 f5 E
  have cut3 := part3_run (F := F) c i arg6 harg6 arg7 harg7 arg8 harg8 arg9 harg9 arg10 harg10 arg11 harg11 arg12 harg12 arg13 harg13 arg14 harg14 f3 f4 f6 f7
  have cut1 := part1_run (F := F) c i arg6 harg6 arg7 harg7 arg8 harg8 arg9 harg9 arg10 harg10 arg11 harg11 arg12 harg12 arg13 harg13 arg14 harg14
  sl_exec (disch := first | sl_exact h1 | sl_exact h2 | sl_exact h3 | sl_exact h4)
  sl_step
  obtain ⟨rfl, rfl, rfl, rfl, rfl, rfl⟩ : v34 = _ ∧ v36 = _ ∧ v37 = _ ∧ v51 = _ ∧ v54 = _ ∧ v55 = _ := by
    injection hk0_part2_0 with e0 e; injection e with e1 e; injection e with e2 e; injection e with e3 e; injection e with e4 e5
    exact ⟨e0, e1, e2, e3, e4, e5⟩
  dsimp only at hk0_part3_0 hk0_part3_1 hk0_part3_2
  subst hk0_part3_0 hk0_part3_1 hk0_part3_2
  have hb := blocks_intro c arg6 arg7 arg8 arg9 arg10 arg11 arg12 arg13 f0 f1 f2 f3 f4 f5 f6 f7
  unfold owns at hb
  iapply Hk
  iframe
  iapply hb
  iframe
  iexists _
  isplitr
  rotate_left
  · iexact Hk0_part1_3
  ipureintro
  dsimp only at hk0_part1_0 hk0_part1_1
  subst hk0_part1_0 hk0_part1_1
  sl_unfold_run_names
  simp (disch := decide) only [read_lit_cons, readAt_lit, get_put_ne, pay12, pay13, pay14, pay15, View.writes_nil, hk0_part1_2]
  exact merge_top _ _ _

set_option maxHeartbeats 4000000 in
/-- The first item of a shared tile clears it and merges its rows. -/
theorem runA
    (h1 : k0_cond1 i (word i tbM0 xt0) (word i tbM3 xt3) (word i tbM4 xt4) (wordP i tbM0 xt0) = 1#1)
    (h2 : k0_cond2 (word i tbM3 xt3) (word i tbM4 xt4) = 1#1)
    (h3 : k0_cond3 (word i tbM0 xt0) (word i tbM3 xt3) (word i tbM4 xt4) ≠ 1#1)
    (h4 : k0_cond4 (word i tbM0 xt0) (word i tbM3 xt3) (word i tbM4 xt4) = 1#1)
    (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4 (merge (k0_pay16 (F := F) (word i tbM0 xt0) (word i tbM3 xt3) (word i tbM4 xt4)) (resRow x0 x1 x2 x3 x4 x5 x6 x7) k0_pay1) -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  rw [cc0_experts_eq_skeleton]
  unfold cc0_experts_skel state owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, HT0, HT1, HT2, HT3, HT4⟩, Hk⟩
  subst hf0 hf1 hf2 hf3 hf4 hf5 hf6 hf7 hf8
  have cut2 := part2_run (F := F) c i arg6 harg6 arg7 harg7 arg8 harg8 arg9 harg9 arg10 harg10 arg11 harg11 arg12 harg12 arg13 harg13 arg14 harg14 f0 f1 f2 f5 E
  have cut3 := part3_run (F := F) c i arg6 harg6 arg7 harg7 arg8 harg8 arg9 harg9 arg10 harg10 arg11 harg11 arg12 harg12 arg13 harg13 arg14 harg14 f3 f4 f6 f7
  have cut1 := part1_run (F := F) c i arg6 harg6 arg7 harg7 arg8 harg8 arg9 harg9 arg10 harg10 arg11 harg11 arg12 harg12 arg13 harg13 arg14 harg14
  sl_exec (disch := first | sl_exact h1 | sl_exact h2 | sl_exact h3 | sl_exact h4)
  sl_step
  obtain ⟨rfl, rfl, rfl, rfl, rfl, rfl⟩ : v34 = _ ∧ v36 = _ ∧ v37 = _ ∧ v51 = _ ∧ v54 = _ ∧ v55 = _ := by
    injection hk0_part2_0 with e0 e; injection e with e1 e; injection e with e2 e; injection e with e3 e; injection e with e4 e5
    exact ⟨e0, e1, e2, e3, e4, e5⟩
  dsimp only at hk0_part3_0 hk0_part3_1 hk0_part3_2
  subst hk0_part3_0 hk0_part3_1 hk0_part3_2
  have hb := blocks_intro c arg6 arg7 arg8 arg9 arg10 arg11 arg12 arg13 f0 f1 f2 f3 f4 f5 f6 f7
  unfold owns at hb
  iapply Hk
  iframe
  iapply hb
  iframe
  iexists _
  isplitr
  rotate_left
  · iexact Hk0_part1_3
  ipureintro
  dsimp only at hk0_part1_0 hk0_part1_1
  subst hk0_part1_0 hk0_part1_1
  rw [View.read_writes_full] at hk0_part1_2
  sl_unfold_run_names
  simp (disch := decide) only [read_lit_cons, readAt_lit, get_put_ne, pay12, pay13, pay14, pay15, View.writes_nil, hk0_part1_2]
  exact merge_top _ _ _

set_option maxHeartbeats 4000000 in
/-- An empty item at a new tile clears it. -/
theorem runB
    (h1 : k0_cond1 i (word i tbM0 xt0) (word i tbM3 xt3) (word i tbM4 xt4) (wordP i tbM0 xt0) = 1#1)
    (h2 : k0_cond2 (word i tbM3 xt3) (word i tbM4 xt4) ≠ 1#1)
    (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4 k0_pay1 -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  rw [cc0_experts_eq_skeleton]
  unfold cc0_experts_skel state owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, HT0, HT1, HT2, HT3, HT4⟩, Hk⟩
  subst hf0 hf1 hf2 hf3 hf4 hf5 hf6 hf7 hf8
  sl_exec (disch := first | sl_exact h1 | sl_exact h2)
  sl_step
  have hb := blocks_intro c arg6 arg7 arg8 arg9 arg10 arg11 arg12 arg13 f0 f1 f2 f3 f4 f5 f6 f7
  unfold owns at hb
  iapply Hk
  iframe
  iapply hb
  iframe
  iexists _
  isplitr
  rotate_left
  · iexact H8
  ipureintro
  exact View.read_writes_full _ _ _ _ _

set_option maxHeartbeats 4000000 in
/-- An empty item at the same tile does nothing. -/
theorem runE
    (h1 : k0_cond1 i (word i tbM0 xt0) (word i tbM3 xt3) (word i tbM4 xt4) (wordP i tbM0 xt0) ≠ 1#1)
    (h2 : k0_cond2 (word i tbM3 xt3) (word i tbM4 xt4) ≠ 1#1)
    (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4 y -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  rw [cc0_experts_eq_skeleton]
  unfold cc0_experts_skel state owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, HT0, HT1, HT2, HT3, HT4⟩, Hk⟩
  subst hf0 hf1 hf2 hf3 hf4 hf5 hf6 hf7 hf8
  sl_exec (disch := first | sl_exact h1 | sl_exact h2)
  sl_step
  have hb := blocks_intro c arg6 arg7 arg8 arg9 arg10 arg11 arg12 arg13 f0 f1 f2 f3 f4 f5 f6 f7
  unfold owns at hb
  iapply Hk
  iframe
  iapply hb
  iframe
  iexists _
  isplitr
  rotate_left
  · iexact H8
  ipureintro
  rfl

end Cert.KernelIdeal.Experts

end
-- ==== Proof.Experts.Items.lean ====
/- The precondition decoded: the five tables describe work items that cover the 32768 rows in order, each inside one tile of
   256 rows, with two expert numbers below 32; and the combine weights are nonnegative and finite. -/
module

public import proofs.«01_k».proof.Pre_work_items
public import proofs.«01_k».proof.Proof.Gen.Pre_work_items
public import Idealize.ShloMosaic.Lib.StableHlo.Predicate
public import Idealize.ShloMosaic.Lib.ValueIdxCore
@[expose] public section

noncomputable section

namespace Cert.Items

open Idealize.ShloMosaic Idealize.ShloMosaic.ValueIdx
open Cert.Pre_work_items Cert.Pre_work_items.Gen

abbrev Tbl : Type := IVec (⟨1, ![240]⟩ : Shape) 32

/-- Word `i` of a table, as a natural number. -/
def num (x : Tbl) (i : Fin 240) : ℕ := (x (ix1 i)).toNat

/-- What the tables say, in natural numbers. -/
structure Items (ti lo hi st en : Tbl) : Prop where
  st_zero : num st 0 = 0
  en_last : num en 239 = 32768
  chain : ∀ (i : ℕ) (h : i + 1 < 240), num en ⟨i, by omega⟩ = num st ⟨i + 1, h⟩
  st_le : ∀ i, num st i ≤ num en i
  ti_lt : ∀ i, num ti i < 128
  ti_mono : ∀ (i : ℕ) (h : i + 1 < 240), num ti ⟨i, by omega⟩ ≤ num ti ⟨i + 1, h⟩
  ti_st : ∀ i, num ti i * 256 ≤ num st i
  en_ti : ∀ i, num en i ≤ num ti i * 256 + 256
  lo_lt : ∀ i, num lo i < 32
  hi_lt : ∀ i, num hi i < 32

theorem sle_int {a b : BitVec 32} : IntOp.cmpi .sle a b = 1#1 ↔ a.toInt ≤ b.toInt := by
  show BitVec.ofBool (a.sle b) = 1#1 ↔ _
  rw [StableHlo.Predicate.ofBool_eq_one_iff]
  simp [BitVec.sle]
theorem sge_int {a b : BitVec 32} : IntOp.cmpi .sge a b = 1#1 ↔ b.toInt ≤ a.toInt := by
  show BitVec.ofBool (b.sle a) = 1#1 ↔ _
  rw [StableHlo.Predicate.ofBool_eq_one_iff]
  simp [BitVec.sle]
theorem slt_int {a b : BitVec 32} : IntOp.cmpi .slt a b = 1#1 ↔ a.toInt < b.toInt := by
  show BitVec.ofBool (a.slt b) = 1#1 ↔ _
  rw [StableHlo.Predicate.ofBool_eq_one_iff]
  simp [BitVec.slt]

theorem and_one {a b : BitVec 1} : IntOp.andi a b = 1#1 ↔ a = 1#1 ∧ b = 1#1 := by
  revert a b; decide

/-- A word that is nonnegative as a signed number reads the same unsigned. -/
theorem toInt_nonneg {a : BitVec 32} (h : 0 ≤ a.toInt) : a.toInt = (a.toNat : ℤ) ∧ a.toNat < 2 ^ 31 := by
  have := a.isLt
  rw [BitVec.toInt_eq_toNat_cond] at h ⊢
  split at h
  · next h' => rw [if_pos h']; exact ⟨rfl, by omega⟩
  · next h' => omega

section

variable {F : FTy → Type} [FloatOps F]
  (ti lo hi st en : Tbl) (h5 : FVec F S294912x128 .f32) (h6 : FVec F S1x1024 .f32) (h7 h8 : FVec F S32x1024x256 .f32) (h9 : FVec F S32x256x1024 .f32)

/-- Every component of the printed predicate is all ones. -/
def AllOnes : Prop :=
  let p := Pre_work_items.fn (F := F) ti lo hi st en h5 h6 h7 h8 h9
  p.1 = (fun _ => 1#1) ∧ p.2.1 = (fun _ => 1#1) ∧ p.2.2.1 = (fun _ => 1#1) ∧ p.2.2.2.1 = (fun _ => 1#1) ∧ p.2.2.2.2.1 = (fun _ => 1#1)
    ∧ p.2.2.2.2.2.1 = (fun _ => 1#1) ∧ p.2.2.2.2.2.2.1 = (fun _ => 1#1) ∧ p.2.2.2.2.2.2.2.1 = (fun _ => 1#1)
    ∧ p.2.2.2.2.2.2.2.2.1 = (fun _ => 1#1) ∧ p.2.2.2.2.2.2.2.2.2 = (fun _ => 1#1)

theorem items_of (h : AllOnes ti lo hi st en h5 h6 h7 h8 h9) : Items ti lo hi st en := by
  obtain ⟨e1, e2, e3, e4, e5, e6, e7, e8, e9, -⟩ := h
  have f1 : st (ix1 0) = 0#32 := by
    have e := congrFun e1 (ix1 (n := 1) 0)
    refine (congrArg st ?_).trans (StableHlo.Predicate.cmpi_eq_iff.mp e)
    exact funext fun a => Fin.ext (by fin_cases a; rfl)
  have f2 : en (ix1 239) = 32768#32 := by
    have e := congrFun e2 (ix1 (n := 1) 0)
    refine (congrArg en ?_).trans (StableHlo.Predicate.cmpi_eq_iff.mp e)
    exact funext fun a => Fin.ext (by fin_cases a; rfl)
  have f3 : ∀ (i : ℕ) (h : i + 1 < 240), en (ix1 ⟨i, by omega⟩) = st (ix1 ⟨i + 1, h⟩) := fun i h => by
    have e := congrFun e3 (ix1 (n := 239) ⟨i, by omega⟩)
    refine (congrArg en ?_).trans ((StableHlo.Predicate.cmpi_eq_iff.mp e).trans (congrArg st ?_))
    · exact funext fun a => Fin.ext (by fin_cases a; exact (Nat.zero_add i).symm)
    · exact funext fun a => Fin.ext (by fin_cases a; exact Nat.add_comm 1 i)
  have f4 : ∀ i : Fin 240, (st (ix1 i)).toInt ≤ (en (ix1 i)).toInt := fun i => sle_int.mp (congrFun e4 (ix1 i))
  have f5 : ∀ i : Fin 240, 0 ≤ (ti (ix1 i)).toInt ∧ (ti (ix1 i)).toInt < 128 := fun i => by
    have := and_one.mp (congrFun e5 (ix1 i))
    exact ⟨sge_int.mp this.1, slt_int.mp this.2⟩
  have f6 : ∀ (i : ℕ) (h : i + 1 < 240), (ti (ix1 ⟨i, by omega⟩)).toInt ≤ (ti (ix1 ⟨i + 1, h⟩)).toInt := fun i h => by
    have e := congrFun e6 (ix1 (n := 239) ⟨i, by omega⟩)
    refine (congrArg (fun k => (ti k).toInt) ?_).trans_le ((sle_int.mp e).trans_eq (congrArg (fun k => (ti k).toInt) ?_))
    · exact funext fun a => Fin.ext (by fin_cases a; exact (Nat.zero_add i).symm)
    · exact funext fun a => Fin.ext (by fin_cases a; exact Nat.add_comm 1 i)
  have f7 : ∀ i : Fin 240, (ti (ix1 i) * 256#32).toInt ≤ (st (ix1 i)).toInt
      ∧ (en (ix1 i)).toInt ≤ (ti (ix1 i) * 256#32 + 256#32).toInt := fun i => by
    have := and_one.mp (congrFun e7 (ix1 i))
    exact ⟨sle_int.mp this.1, sle_int.mp this.2⟩
  have f8 : ∀ i : Fin 240, 0 ≤ (lo (ix1 i)).toInt ∧ (lo (ix1 i)).toInt < 32 := fun i => by
    have := and_one.mp (congrFun e8 (ix1 i))
    exact ⟨sge_int.mp this.1, slt_int.mp this.2⟩
  have f9 : ∀ i : Fin 240, 0 ≤ (hi (ix1 i)).toInt ∧ (hi (ix1 i)).toInt < 32 := fun i => by
    have := and_one.mp (congrFun e9 (ix1 i))
    exact ⟨sge_int.mp this.1, slt_int.mp this.2⟩
  have t : ∀ i, (ti (ix1 i)).toInt = (num ti i : ℤ) ∧ num ti i < 128 := fun i => by
    have := (toInt_nonneg (f5 i).1).1
    exact ⟨this, by have := (f5 i).2; unfold num; omega⟩
  have mul : ∀ i, (ti (ix1 i) * 256#32).toNat = num ti i * 256 := fun i => by
    have := (t i).2
    rw [BitVec.toNat_mul]
    exact Nat.mod_eq_of_lt (by show num ti i * 256 < _; omega)
  have mulInt : ∀ i, (ti (ix1 i) * 256#32).toInt = ((num ti i * 256 : ℕ) : ℤ) := fun i => by
    rw [StableHlo.Predicate.toInt_eq_toNat_of_lt (by rw [mul]; have := (t i).2; omega), mul]
  have addInt : ∀ i, (ti (ix1 i) * 256#32 + 256#32).toInt = ((num ti i * 256 + 256 : ℕ) : ℤ) := fun i => by
    have := (t i).2
    have e : (ti (ix1 i) * 256#32 + 256#32).toNat = num ti i * 256 + 256 := by
      rw [BitVec.toNat_add, mul]
      exact Nat.mod_eq_of_lt (by show num ti i * 256 + 256 < _; omega)
    rw [StableHlo.Predicate.toInt_eq_toNat_of_lt (by rw [e]; omega), e]
  have s : ∀ i, (st (ix1 i)).toInt = (num st i : ℤ) := fun i =>
    (toInt_nonneg (by have := (f7 i).1; rw [mulInt] at this; omega)).1
  have n : ∀ i, (en (ix1 i)).toInt = (num en i : ℤ) := fun i =>
    (toInt_nonneg (by have := f4 i; rw [s] at this; omega)).1
  exact
    { st_zero := by unfold num; rw [f1]; rfl
      en_last := by unfold num; rw [f2]; rfl
      chain := fun i h => congrArg BitVec.toNat (f3 i h)
      st_le := fun i => by have := f4 i; rw [s, n] at this; omega
      ti_lt := fun i => (t i).2
      ti_mono := fun i h => by have := f6 i h; rw [(t _).1, (t _).1] at this; omega
      ti_st := fun i => by have := (f7 i).1; rw [s, mulInt] at this; omega
      en_ti := fun i => by have := (f7 i).2; rw [n, addInt] at this; omega
      lo_lt := fun i => by have := (toInt_nonneg (f8 i).1).1; have := (f8 i).2; unfold num; omega
      hi_lt := fun i => by have := (toInt_nonneg (f9 i).1).1; have := (f9 i).2; unfold num; omega }

end

end Cert.Items

end
-- ==== Proof.Experts.Tables.lean ====
/- The table words the kernel reads at a grid point, and its four branch conditions, in natural numbers; and every block
   that the tables address lies inside its array. -/
module

public import proofs.«01_k».proof.Proof.Experts.Body
public import proofs.«01_k».proof.Proof.Experts.Items
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.Items

/-! ## The words -/

theorem off1_eq (i : grid0.Coords) : k0_off1 i = ![(i 0).val] := by
  have h : ∀ n : Fin 240, (Scalar.indexCast (BitVec.ofNat 32 n.val)).toNat = n.val := by decide
  unfold k0_off1
  exact congrArg (fun n => ![n]) (h (i 0))

/-- The point before point `n`, or point 0 itself. -/
def prior (n : Fin 240) : Fin 240 := ⟨n.val - 1, by omega⟩

theorem off2_eq (i : grid0.Coords) : k0_off2 i = ![(prior (i 0)).val] := by
  have h : ∀ n : Fin 240, (Scalar.indexCast (Scalar.maxsi (Scalar.subi (BitVec.ofNat 32 n.val) 1#32) 0#32)).toNat = n.val - 1 := by decide
  unfold k0_off2
  exact congrArg (fun n => ![n]) (h (i 0))

/-- One element read off a table at an offset is the table's word there. -/
theorem lookup (x : Tbl) (o : Fin 1 → ℕ) (n : Fin 240) (h : o = ![n.val]) (hb : ∀ a, o a + S1.size a ≤ S240.size a) (h1 : S1.numel = 1) :
    x ((Rect.unit (s := S240) o S1.size hb).emb (Shape.Idx.first (h1.symm ▸ Nat.one_pos))) = x (ix1 n) := by
  subst h
  refine congrArg x (funext fun a => Fin.ext ?_)
  fin_cases a
  show n.val + 1 * 0 = n.val
  omega

theorem word_eq (i : grid0.Coords) {c : Dev nD} (x0 : TbBuf (F := F) c tbM0) (x3 : TbBuf (F := F) c tbM3) (x4 : TbBuf (F := F) c tbM4) :
    word i tbM0 x0 = (x0 : Tbl) (ix1 (i 0)) ∧ word i tbM3 x3 = (x3 : Tbl) (ix1 (i 0)) ∧ word i tbM4 x4 = (x4 : Tbl) (ix1 (i 0))
      ∧ wordP i tbM0 x0 = (x0 : Tbl) (ix1 (prior (i 0))) :=
  ⟨lookup x0 _ (i 0) (off1_eq i) _ numel1_S1, lookup x3 _ (i 0) (off1_eq i) _ numel1_S1, lookup x4 _ (i 0) (off1_eq i) _ numel1_S1,
    lookup x0 _ (prior (i 0)) (off2_eq i) _ numel1_S1⟩

/-- The same word, as the printed test for points that store nothing spells it. -/
theorem atD_eq (pf : pre0.Contents (Elt F)) (i : grid0.Coords) :
    (pf.atD 0 (k0_off1 i) : BitVec 32) = (pf 0 : Tbl) (ix1 (i 0)) ∧ (pf.atD 3 (k0_off1 i) : BitVec 32) = (pf 3 : Tbl) (ix1 (i 0))
      ∧ (pf.atD 4 (k0_off1 i) : BitVec 32) = (pf 4 : Tbl) (ix1 (i 0)) ∧ (pf.atD 0 (k0_off2 i) : BitVec 32) = (pf 0 : Tbl) (ix1 (prior (i 0))) := by
  have key : ∀ (x : Tbl) (o : Fin 1 → ℕ) (n : Fin 240), o = ![n.val] →
      (if h : ∀ a, o a + 1 ≤ S240.size a then x (fun a => ⟨o a, h a⟩) else default) = x (ix1 n) := fun x o n h => by
    subst h
    rw [dif_pos (fun a => by fin_cases a; exact n.isLt)]
    exact congrArg x (funext fun a => Fin.ext (by fin_cases a; rfl))
  exact ⟨key (pf 0) _ _ (off1_eq i), key (pf 3) _ _ (off1_eq i), key (pf 4) _ _ (off1_eq i), key (pf 0) _ _ (off2_eq i)⟩

/-! ## The conditions -/

theorem ne_zero (v : BitVec 1) : Scalar.cmpi .ne (Scalar.extui v : BitVec 32) 0#32 = v := by revert v; decide

/-- The item's rows are the whole tile `T`. -/
def Whole (T s e : ℕ) : Prop := s ≤ T * 256 ∧ (T + 1) * 256 ≤ e

theorem muli_nat {v : BitVec 32} (h : v.toNat < 129) : (Scalar.muli v 256#32).toNat = v.toNat * 256 := by
  show (v * 256#32).toNat = _
  rw [BitVec.toNat_mul]
  exact Nat.mod_eq_of_lt (by show v.toNat * 256 < _; omega)

theorem addi_nat {v : BitVec 32} (h : v.toNat < 128) : (Scalar.addi v 1#32).toNat = v.toNat + 1 := by
  show (v + 1#32).toNat = _
  rw [BitVec.toNat_add]
  exact Nat.mod_eq_of_lt (by show v.toNat + 1 < _; omega)

theorem xor_one {a : BitVec 1} : Scalar.xori a 1#1 = 1#1 ↔ ¬ a = 1#1 := by revert a; decide
theorem or_one {a b : BitVec 1} : Scalar.ori a b = 1#1 ↔ a = 1#1 ∨ b = 1#1 := by revert a b; decide

section Words

variable (i : grid0.Coords) (v1 v3 v5 v16 : BitVec 32) (h1 : v1.toNat < 128) (h3 : v3.toNat < 2 ^ 31) (h5 : v5.toNat < 2 ^ 31)

include h1 h3 h5

theorem whole_word : Scalar.andi (Scalar.cmpi .sle v3 (Scalar.muli v1 256#32)) (Scalar.cmpi .sge v5 (Scalar.muli (Scalar.addi v1 1#32) 256#32)) = 1#1
    ↔ Whole v1.toNat v3.toNat v5.toNat := by
  have e1 := muli_nat (v := v1) (by omega)
  have e2 := muli_nat (v := Scalar.addi v1 1#32) (by rw [addi_nat h1]; omega)
  rw [addi_nat h1] at e2
  refine and_one.trans (and_congr ?_ ?_)
  · exact (StableHlo.Predicate.sle_iff_toNat h3 (by rw [e1]; omega)).trans (by rw [e1])
  · exact (StableHlo.Predicate.sge_iff_toNat h5 (by rw [e2]; omega)).trans (by rw [e2])

theorem cond2_iff : k0_cond2 v3 v5 = 1#1 ↔ v3.toNat < v5.toNat := by
  unfold k0_cond2
  simp only [ne_zero]
  exact StableHlo.Predicate.sgt_iff_toNat h5 h3

theorem cond3_iff : k0_cond3 v1 v3 v5 = 1#1 ↔ Whole v1.toNat v3.toNat v5.toNat := by
  unfold k0_cond3
  simp only [ne_zero]
  exact whole_word v1 v3 v5 h1 h3 h5

theorem cond4_iff : k0_cond4 v1 v3 v5 = 1#1 ↔ ¬ Whole v1.toNat v3.toNat v5.toNat := by
  unfold k0_cond4
  simp only [ne_zero]
  exact xor_one.trans (not_congr (whole_word v1 v3 v5 h1 h3 h5))

theorem cond1_iff : k0_cond1 i v1 v3 v5 v16 = 1#1
    ↔ ((i 0).val = 0 ∨ v1.toNat ≠ v16.toNat) ∧ ¬ Whole v1.toNat v3.toNat v5.toNat := by
  have z : ∀ n : Fin 240, Scalar.cmpi .eq (BitVec.ofNat 32 n.val) 0#32 = 1#1 ↔ n.val = 0 := by decide
  have ne : Scalar.cmpi .ne v1 v16 = 1#1 ↔ v1.toNat ≠ v16.toNat := by
    show BitVec.ofBool (v1 != v16) = 1#1 ↔ _
    rw [StableHlo.Predicate.ofBool_eq_one_iff, bne_iff_ne, ne_eq, ne_eq, ← BitVec.toNat_inj]
  unfold k0_cond1
  simp only [ne_zero]
  exact and_one.trans (and_congr (or_one.trans (or_congr (z (i 0)) ne)) (xor_one.trans (not_congr (whole_word v1 v3 v5 h1 h3 h5))))

end Words

/-- The kernel's row mask: row `r` of the tile belongs to the item. -/
theorem mask_iff (v1 v3 v5 : BitVec 32) (h1 : v1.toNat < 128) (h3 : v3.toNat < 2 ^ 31) (h5 : v5.toNat < 2 ^ 31) (r : Fin 256) (z : Fin 1) :
    k0_pay16 (F := F) v1 v3 v5 (ix2 r z) = 1#1 ↔ v3.toNat ≤ v1.toNat * 256 + r.val ∧ v1.toNat * 256 + r.val < v5.toNat := by
  have e : (addi (broadcast S256x1 (Scalar.muli v1 256#32)) (iota Kind.tc S256x1 32 [0] iota_S256x1_d0_w32) (ix2 r z)).toNat
      = v1.toNat * 256 + r.val := by
    show (Scalar.muli v1 256#32 + BitVec.ofNat 32 (0 * 256 + r.val)).toNat = _
    rw [Nat.zero_mul, Nat.zero_add, BitVec.toNat_add, muli_nat (by omega), BitVec.toNat_ofNat, Nat.mod_eq_of_lt (by omega : r.val < 2 ^ 32)]
    exact Nat.mod_eq_of_lt (by omega)
  unfold k0_pay16
  refine and_one.trans (and_congr ?_ ?_)
  · exact (StableHlo.Predicate.sge_iff_toNat (by rw [e]; omega) h3).trans (by rw [e])
  · exact (StableHlo.Predicate.slt_iff_toNat (by rw [e]; omega) h5).trans (by rw [e])

/-! ## The blocks are inside their arrays -/

theorem ok_of (pf : pre0.Contents (Elt F)) (h0 : ∀ n : Fin 240, ((pf 0 : Tbl) (ix1 n)).toNat < 128)
    (h1 : ∀ n : Fin 240, ((pf 1 : Tbl) (ix1 n)).toNat < 32) (h2 : ∀ n : Fin 240, ((pf 2 : Tbl) (ix1 n)).toNat < 32) : ok0 pf := by
  have g0 : ∀ i : grid0.Coords, (pf.at 0 (Rect.unit (s := S240) (k0_off1 i) S1.size (k0_off1_inb i)) numel1_S1 : BitVec 32).toNat < 128 := fun i =>
    lt_of_eq_of_lt (congrArg BitVec.toNat (lookup (pf 0) _ (i 0) (off1_eq i) _ numel1_S1)) (h0 (i 0))
  have g1 : ∀ i : grid0.Coords, (pf.at 1 (Rect.unit (s := S240) (k0_off1 i) S1.size (k0_off1_inb i)) numel1_S1 : BitVec 32).toNat < 32 := fun i =>
    lt_of_eq_of_lt (congrArg BitVec.toNat (lookup (pf 1) _ (i 0) (off1_eq i) _ numel1_S1)) (h1 (i 0))
  have g2 : ∀ i : grid0.Coords, (pf.at 2 (Rect.unit (s := S240) (k0_off1 i) S1.size (k0_off1_inb i)) numel1_S1 : BitVec 32).toNat < 32 := fun i =>
    lt_of_eq_of_lt (congrArg BitVec.toNat (lookup (pf 2) _ (i 0) (off1_eq i) _ numel1_S1)) (h2 (i 0))
  have b2 : ∀ (k : ℕ), k < 128 → ∀ a : Fin 2, (![k, 0] a + 1) * S2304x128.size a ≤ S294912x128.size a := fun k hk a => by
    fin_cases a
    · show (k + 1) * 2304 ≤ 294912; omega
    · exact Nat.le_refl _
  have b3 : ∀ (k : ℕ), k < 32 → ∀ a : Fin 3, (![k, 0, 0] a + 1) * S1x1024x256.size a ≤ S32x1024x256.size a := fun k hk a => by
    fin_cases a
    · show (k + 1) * 1 ≤ 32; omega
    · exact Nat.le_refl _
    · exact Nat.le_refl _
  have b4 : ∀ (k : ℕ), k < 32 → ∀ a : Fin 3, (![k, 0, 0] a + 1) * S1x256x1024.size a ≤ S32x256x1024.size a := fun k hk a => by
    fin_cases a
    · show (k + 1) * 1 ≤ 32; omega
    · exact Nat.le_refl _
    · exact Nat.le_refl _
  exact ⟨fun i => ⟨b2 _ (g0 i), .inl rfl⟩,
    fun i => ⟨b3 _ (g1 i), .inr (.inr ⟨by decide, rfl, rfl, rfl⟩)⟩,
    fun i => ⟨b3 _ (g1 i), .inr (.inr ⟨by decide, rfl, rfl, rfl⟩)⟩,
    fun i => ⟨b4 _ (g1 i), .inr (.inr ⟨by decide, rfl, rfl, rfl⟩)⟩,
    fun i => ⟨b3 _ (g2 i), .inr (.inr ⟨by decide, rfl, rfl, rfl⟩)⟩,
    fun i => ⟨b3 _ (g2 i), .inr (.inr ⟨by decide, rfl, rfl, rfl⟩)⟩,
    fun i => ⟨b4 _ (g2 i), .inr (.inr ⟨by decide, rfl, rfl, rfl⟩)⟩,
    fun i => ⟨b2 _ (g0 i), .inl rfl⟩⟩

/-! ## The blocks' numbers -/

theorem transform_0 (pf : pre0.Contents (Elt F)) (i : grid0.Coords) :
    cc0_transform_0 k0_off1_inb numel1_S1 pf i = ![num (pf 0) (i 0), 0] :=
  congrArg (fun w : BitVec 32 => ![w.toNat, 0]) (lookup (pf 0) _ (i 0) (off1_eq i) (k0_off1_inb i) numel1_S1)
theorem transform_2 (pf : pre0.Contents (Elt F)) (i : grid0.Coords) :
    cc0_transform_2 k0_off1_inb numel1_S1 pf i = ![num (pf 1) (i 0), 0, 0] :=
  congrArg (fun w : BitVec 32 => ![w.toNat, 0, 0]) (lookup (pf 1) _ (i 0) (off1_eq i) (k0_off1_inb i) numel1_S1)
theorem transform_5 (pf : pre0.Contents (Elt F)) (i : grid0.Coords) :
    cc0_transform_5 k0_off1_inb numel1_S1 pf i = ![num (pf 2) (i 0), 0, 0] :=
  congrArg (fun w : BitVec 32 => ![w.toNat, 0, 0]) (lookup (pf 2) _ (i 0) (off1_eq i) (k0_off1_inb i) numel1_S1)

end Cert.KernelIdeal.Experts
end
-- ==== Proof.Experts.Step.lean ====
/- One grid point of the grouped experts as a function on the output block, and what the block holds after every point. -/
module

public import proofs.«01_k».proof.Proof.Experts.Tables
public import Idealize.ShloMosaic.Lib.Pipeline.TableIdle
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.Items

/-! ## One point -/

section Step

variable (ti st en : Tbl)

/-- The item's tile is not the tile of the item before. -/
def First (n : Fin 240) : Prop := n.val = 0 ∨ num ti n ≠ num ti (prior n)

/-- The item owns its whole tile. -/
def Full (n : Fin 240) : Prop := Whole (num ti n) (num st n) (num en n)

/-- The item's row mask. -/
def rows (n : Fin 240) : IVec S256x1 1 := k0_pay16 (F := F) (ti (ix1 n)) (st (ix1 n)) (en (ix1 n))

open Classical in
/-- What point `n` leaves in the output block that held `y`, `r` being the item's expert rows. -/
def step (n : Fin 240) (r : FVec F S256x1024 .f32) (y : Vec F S2304x128 .f32) : Vec F S2304x128 .f32 :=
  if First ti n ∧ ¬ Full ti st en n then
    (if num st n < num en n then merge (rows (F := F) ti st en n) r k0_pay1 else k0_pay1)
  else if num st n < num en n then
    (if Full ti st en n then whole r else merge (rows (F := F) ti st en n) r y)
  else y

/-- A point at which the body stores nothing. -/
def Still (n : Fin 240) : Prop := ¬ (First ti n ∧ ¬ Full ti st en n) ∧ ¬ num st n < num en n

theorem step_still {n : Fin 240} (h : Still ti st en n) (r : FVec F S256x1024 .f32) (y : Vec F S2304x128 .f32) :
    step ti st en n r y = y := by
  unfold step; rw [if_neg h.1, if_neg h.2]

theorem Full.lt {ti st en : Tbl} {n : Fin 240} (h : Full ti st en n) : num st n < num en n := by
  unfold Full Whole at h; omega

/-- Where the tile changes, the step forgets what the block held. -/
theorem step_first {n : Fin 240} (h : First ti n) (r : FVec F S256x1024 .f32) (y y' : Vec F S2304x128 .f32) :
    step ti st en n r y = step ti st en n r y' := by
  unfold step
  by_cases hf : Full ti st en n
  · have g : ¬ (First ti n ∧ ¬ Full ti st en n) := fun k => k.2 hf
    simp only [if_neg g, if_pos hf.lt, if_pos hf]
  · have g : First ti n ∧ ¬ Full ti st en n := ⟨h, hf⟩
    simp only [if_pos g]

theorem not_still {n : Fin 240} (h : First ti n) : ¬ Still ti st en n := fun k => by
  by_cases hf : Full ti st en n
  · exact k.2 hf.lt
  · exact k.1 ⟨h, hf⟩

end Step

/-- The bounds that make the words' arithmetic exact. -/
theorem bounds {ti lo hi st en : Tbl} (I : Items ti lo hi st en) (n : Fin 240) :
    (ti (ix1 n)).toNat < 128 ∧ (st (ix1 n)).toNat < 2 ^ 31 ∧ (en (ix1 n)).toNat < 2 ^ 31 := by
  have a := I.ti_lt n; have b := I.st_le n; have d := I.en_ti n
  unfold num at a b d
  exact ⟨a, by omega, by omega⟩

section Conds

variable {ti lo hi st en : Tbl} (I : Items ti lo hi st en) (i : grid0.Coords)

include I

theorem c1_iff : k0_cond1 i (ti (ix1 (i 0))) (st (ix1 (i 0))) (en (ix1 (i 0))) (ti (ix1 (prior (i 0)))) = 1#1
    ↔ First ti (i 0) ∧ ¬ Full ti st en (i 0) :=
  cond1_iff i _ _ _ _ (bounds I (i 0)).1 (bounds I (i 0)).2.1 (bounds I (i 0)).2.2

theorem c2_iff : k0_cond2 (st (ix1 (i 0))) (en (ix1 (i 0))) = 1#1 ↔ num st (i 0) < num en (i 0) :=
  cond2_iff (ti (ix1 (i 0))) _ _ (bounds I (i 0)).1 (bounds I (i 0)).2.1 (bounds I (i 0)).2.2

theorem c3_iff : k0_cond3 (ti (ix1 (i 0))) (st (ix1 (i 0))) (en (ix1 (i 0))) = 1#1 ↔ Full ti st en (i 0) :=
  cond3_iff _ _ _ (bounds I (i 0)).1 (bounds I (i 0)).2.1 (bounds I (i 0)).2.2

theorem c4_iff : k0_cond4 (ti (ix1 (i 0))) (st (ix1 (i 0))) (en (ix1 (i 0))) = 1#1 ↔ ¬ Full ti st en (i 0) :=
  cond4_iff _ _ _ (bounds I (i 0)).1 (bounds I (i 0)).2.1 (bounds I (i 0)).2.2

end Conds

theorem idle_bits (a b d e : BitVec 1) : (!(a == 1#1) && !(b == 1#1 && d == 1#1) && !(b == 1#1 && e == 1#1)) = true
    ↔ ¬ a = 1#1 ∧ ¬ (b = 1#1 ∧ d = 1#1) ∧ ¬ (b = 1#1 ∧ e = 1#1) := by
  revert a b d e; decide

/-- The printed test for a point that stores nothing into the output block. -/
theorem idle_iff (pf : pre0.Contents (Elt F)) {lo hi : Tbl} (I : Items (pf 0) lo hi (pf 3) (pf 4)) (i : grid0.Coords) :
    idle0 pf 8 i = true ↔ Still (pf 0) (pf 3) (pf 4) (i 0) := by
  obtain ⟨e0, e3, e4, e0'⟩ := atD_eq pf i
  have h := idle_bits (k0_cond1 i (pf.atD 0 (k0_off1 i)) (pf.atD 3 (k0_off1 i)) (pf.atD 4 (k0_off1 i)) (pf.atD 0 (k0_off2 i)))
    (k0_cond2 (pf.atD 3 (k0_off1 i)) (pf.atD 4 (k0_off1 i)))
    (k0_cond3 (pf.atD 0 (k0_off1 i)) (pf.atD 3 (k0_off1 i)) (pf.atD 4 (k0_off1 i)))
    (k0_cond4 (pf.atD 0 (k0_off1 i)) (pf.atD 3 (k0_off1 i)) (pf.atD 4 (k0_off1 i)))
  refine Iff.trans (Iff.of_eq rfl) (h.trans ?_)
  rw [e0, e3, e4, e0', c1_iff I i, c2_iff I i, c3_iff I i, c4_iff I i]
  unfold Still
  constructor
  · rintro ⟨p, q, r⟩
    refine ⟨p, fun l => ?_⟩
    by_cases f : Full (pf 0) (pf 3) (pf 4) (i 0)
    · exact q ⟨l, f⟩
    · exact r ⟨l, f⟩
  · rintro ⟨p, q⟩
    exact ⟨p, fun k => q k.1, fun k => q k.1⟩

section Run

variable (c : Dev nD) (i : grid0.Coords)
  (arg6 : Memref sig .tc .vmem S2304x128 .f32) (harg6 : arg6.IsWhole) (arg7 : Memref sig .tc .vmem S1x1024 .f32) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x256x1024 .bf16) (harg10 : arg10.IsWhole) (arg11 : Memref sig .tc .vmem S1x1024x256 .bf16) (harg11 : arg11.IsWhole)
  (arg12 : Memref sig .tc .vmem S1x1024x256 .bf16) (harg12 : arg12.IsWhole) (arg13 : Memref sig .tc .vmem S1x256x1024 .bf16) (harg13 : arg13.IsWhole)
  (arg14 : Memref sig .tc .vmem S2304x128 .f32) (harg14 : arg14.IsWhole)
  (x0 : Vec F S2304x128 .f32) (x1 : Vec F S1x1024 .f32) (x2 x3 : Vec F S1x1024x256 .bf16) (x4 : Vec F S1x256x1024 .bf16)
  (x5 x6 : Vec F S1x1024x256 .bf16) (x7 : Vec F S1x256x1024 .bf16)
  (xt0 : TbBuf (F := F) c tbM0) (xt1 : TbBuf (F := F) c tbM1) (xt2 : TbBuf (F := F) c tbM2) (xt3 : TbBuf (F := F) c tbM3) (xt4 : TbBuf (F := F) c tbM4)

/-- The body at a point makes the step. -/
theorem run_step {lo hi : Tbl} (I : Items xt0 lo hi xt3 xt4) (y : Vec F S2304x128 .f32) (E : Set ℕ) (K : PUnit → sProp 𝕄) :
    iprop(state c arg6 arg7 arg8 arg9 arg10 arg11 arg12 arg13 arg14 x0 x1 x2 x3 x4 x5 x6 x7 xt0 xt1 xt2 xt3 xt4 y
        ∗ (state c arg6 arg7 arg8 arg9 arg10 arg11 arg12 arg13 arg14 x0 x1 x2 x3 x4 x5 x6 x7 xt0 xt1 xt2 xt3 xt4
            (step xt0 xt3 xt4 (i 0) (resRow x0 x1 x2 x3 x4 x5 x6 x7) y) -∗ K ⟨⟩))
      ⊢ wp frame (wpE (defs₀ (F := F)) Variants.none c none) E
          (cc0_experts i tbM0 (Memref.isWhole_whole _) tbM1 (Memref.isWhole_whole _) tbM2 (Memref.isWhole_whole _)
            tbM3 (Memref.isWhole_whole _) tbM4 (Memref.isWhole_whole _) arg6 harg6 arg7 harg7 arg8 harg8 arg9 harg9 arg10 harg10
            arg11 harg11 arg12 harg12 arg13 harg13 arg14 harg14) K := by
  obtain ⟨e0, e3, e4, e0'⟩ := word_eq i xt0 xt3 xt4
  have h1 := c1_iff I i
  have h2 := c2_iff I i
  have h3 := c3_iff I i
  have h4 := c4_iff I i
  rw [← e0, ← e3, ← e4, ← e0'] at h1
  rw [← e3, ← e4] at h2
  rw [← e0, ← e3, ← e4] at h3 h4
  have hr : rows (F := F) xt0 xt3 xt4 (i 0) = k0_pay16 (F := F) (word i tbM0 xt0) (word i tbM3 xt3) (word i tbM4 xt4) := by
    unfold rows; rw [e0, e3, e4]
  unfold step
  by_cases g1 : First xt0 (i 0) ∧ ¬ Full xt0 xt3 xt4 (i 0)
  · rw [if_pos g1]
    by_cases g2 : num xt3 (i 0) < num xt4 (i 0)
    · rw [if_pos g2, hr]
      exact runA c i arg6 harg6 arg7 harg7 arg8 harg8 arg9 harg9 arg10 harg10 arg11 harg11 arg12 harg12 arg13 harg13 arg14 harg14
        x0 x1 x2 x3 x4 x5 x6 x7 xt0 xt1 xt2 xt3 xt4 (h1.mpr g1) (h2.mpr g2) (fun k => g1.2 (h3.mp k)) (h4.mpr g1.2) y E K
    · rw [if_neg g2]
      exact runB c i arg6 harg6 arg7 harg7 arg8 harg8 arg9 harg9 arg10 harg10 arg11 harg11 arg12 harg12 arg13 harg13 arg14 harg14
        x0 x1 x2 x3 x4 x5 x6 x7 xt0 xt1 xt2 xt3 xt4 (h1.mpr g1) (fun k => g2 (h2.mp k)) y E K
  · rw [if_neg g1]
    by_cases g2 : num xt3 (i 0) < num xt4 (i 0)
    · rw [if_pos g2]
      by_cases g3 : Full xt0 xt3 xt4 (i 0)
      · rw [if_pos g3]
        exact runC c i arg6 harg6 arg7 harg7 arg8 harg8 arg9 harg9 arg10 harg10 arg11 harg11 arg12 harg12 arg13 harg13 arg14 harg14
          x0 x1 x2 x3 x4 x5 x6 x7 xt0 xt1 xt2 xt3 xt4 (fun k => g1 (h1.mp k)) (h2.mpr g2) (h3.mpr g3) (fun k => (h4.mp k) g3) y E K
      · rw [if_neg g3, hr]
        exact runD c i arg6 harg6 arg7 harg7 arg8 harg8 arg9 harg9 arg10 harg10 arg11 harg11 arg12 harg12 arg13 harg13 arg14 harg14
          x0 x1 x2 x3 x4 x5 x6 x7 xt0 xt1 xt2 xt3 xt4 (fun k => g1 (h1.mp k)) (h2.mpr g2) (fun k => g3 (h3.mp k)) (h4.mpr g3) y E K
    · rw [if_neg g2]
      exact runE c i arg6 harg6 arg7 harg7 arg8 harg8 arg9 harg9 arg10 harg10 arg11 harg11 arg12 harg12 arg13 harg13 arg14 harg14
        x0 x1 x2 x3 x4 x5 x6 x7 xt0 xt1 xt2 xt3 xt4 (fun k => g1 (h1.mp k)) (fun k => g2 (h2.mp k)) y E K

end Run

end Cert.KernelIdeal.Experts
end
-- ==== Proof.Experts.Run.lean ====
/- The grouped expert call run: the pipeline's proof data, the body obligation, the launch, and the frame. -/
module

public import proofs.«01_k».proof.Proof.Experts.Step
public import Idealize.ShloMosaic.Lib.Claim
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.Items

variable (m : (ℓ : Loc nD τ sig) → Buf (Elt F) ℓ) (ρ : Dev nD → PrngReg)

/-! ## What the output block holds point by point -/

/-- The tables describe work items. -/
abbrev Itm : Prop := Items (tbl m 0) (tbl m 1) (tbl m 2) (tbl m 3) (tbl m 4)

theorem ok_of_items (I : Itm m) : Ok m := ok_of (tbl m) I.ti_lt I.lo_lt I.hi_lt

/-- Point `t` of the grid is work item `t`. -/
def item (t : Fin grid0.N) : Fin 240 := ⟨t.val, t.isLt⟩

theorem coords_item (t : Fin grid0.N) : grid0.coords t 0 = item t := by
  have h : t.val < 240 := t.isLt
  refine Fin.ext ?_
  rw [Pipeline.Grid.coords_val t 0 (S := 1) (B := 240) (by decide) rfl]
  show t.val / 1 % 240 = t.val
  omega

/-- The item's expert rows at point `t`. -/
def res (hO : Ok m) (c : Dev nD) (t : Fin (cfgM m hO).N) : FVec F S256x1024 .f32 :=
  resRow (iblk m hO c 0 t) (iblk m hO c 1 t) (iblk m hO c 2 t) (iblk m hO c 3 t) (iblk m hO c 4 t) (iblk m hO c 5 t) (iblk m hO c 6 t) (iblk m hO c 7 t)

/-- The step of point `t`. -/
def stp (hO : Ok m) (c : Dev nD) (t : Fin (cfgM m hO).N) (y : Vec F S2304x128 .f32) : Vec F S2304x128 .f32 :=
  step (tbl m 0) (tbl m 3) (tbl m 4) (item t) (res m hO c t) y

/-- What the output block holds after point `n`. -/
def outAt (hO : Ok m) (c : Dev nD) : ℕ → Vec F S2304x128 .f32
  | 0 => stp m hO c ⟨0, (by decide : 0 < grid0.N)⟩ k0_pay1
  | n + 1 => if h : n + 1 < (cfgM m hO).N then stp m hO c ⟨n + 1, h⟩ (outAt hO c n) else outAt hO c n

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t.val
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; rfl
theorem after_1 (hO : Ok m) (c : Dev nD) (t : Fin (cfgM m hO).N) : (dats m hO 0 c).after 1 t = iblk m hO c 1 t := by dsimp only [dats]; rfl
theorem after_2 (hO : Ok m) (c : Dev nD) (t : Fin (cfgM m hO).N) : (dats m hO 0 c).after 2 t = iblk m hO c 2 t := by dsimp only [dats]; rfl
theorem after_3 (hO : Ok m) (c : Dev nD) (t : Fin (cfgM m hO).N) : (dats m hO 0 c).after 3 t = iblk m hO c 3 t := by dsimp only [dats]; rfl
theorem after_4 (hO : Ok m) (c : Dev nD) (t : Fin (cfgM m hO).N) : (dats m hO 0 c).after 4 t = iblk m hO c 4 t := by dsimp only [dats]; rfl
theorem after_5 (hO : Ok m) (c : Dev nD) (t : Fin (cfgM m hO).N) : (dats m hO 0 c).after 5 t = iblk m hO c 5 t := by dsimp only [dats]; rfl
theorem after_6 (hO : Ok m) (c : Dev nD) (t : Fin (cfgM m hO).N) : (dats m hO 0 c).after 6 t = iblk m hO c 6 t := by dsimp only [dats]; rfl
theorem after_7 (hO : Ok m) (c : Dev nD) (t : Fin (cfgM m hO).N) : (dats m hO 0 c).after 7 t = iblk m hO c 7 t := by dsimp only [dats]; rfl
theorem after_8 (hO : Ok m) (c : Dev nD) (t : Fin (cfgM m hO).N) : (dats m hO 0 c).after 8 t = outAt m hO c t.val := by dsimp only [dats]; rfl

theorem bef_0 (hO : Ok m) (c : Dev nD) (t : Fin (cfgM m hO).N) (d) : (dats m hO 0 c).before 0 t d = iblk m hO c 0 t :=
  before_0 m hO (dats m hO 0 c) (A_eq m hO c 0) (after_0 m hO c) t d
theorem bef_1 (hO : Ok m) (c : Dev nD) (t : Fin (cfgM m hO).N) (d) : (dats m hO 0 c).before 1 t d = iblk m hO c 1 t :=
  before_1 m hO (dats m hO 0 c) (A_eq m hO c 1) (after_1 m hO c) t d
theorem bef_2 (hO : Ok m) (c : Dev nD) (t : Fin (cfgM m hO).N) (d) : (dats m hO 0 c).before 2 t d = iblk m hO c 2 t :=
  before_2 m hO (dats m hO 0 c) (A_eq m hO c 2) (after_2 m hO c) t d
theorem bef_3 (hO : Ok m) (c : Dev nD) (t : Fin (cfgM m hO).N) (d) : (dats m hO 0 c).before 3 t d = iblk m hO c 3 t :=
  before_3 m hO (dats m hO 0 c) (A_eq m hO c 3) (after_3 m hO c) t d
theorem bef_4 (hO : Ok m) (c : Dev nD) (t : Fin (cfgM m hO).N) (d) : (dats m hO 0 c).before 4 t d = iblk m hO c 4 t :=
  before_4 m hO (dats m hO 0 c) (A_eq m hO c 4) (after_4 m hO c) t d
theorem bef_5 (hO : Ok m) (c : Dev nD) (t : Fin (cfgM m hO).N) (d) : (dats m hO 0 c).before 5 t d = iblk m hO c 5 t :=
  before_5 m hO (dats m hO 0 c) (A_eq m hO c 5) (after_5 m hO c) t d
theorem bef_6 (hO : Ok m) (c : Dev nD) (t : Fin (cfgM m hO).N) (d) : (dats m hO 0 c).before 6 t d = iblk m hO c 6 t :=
  before_6 m hO (dats m hO 0 c) (A_eq m hO c 6) (after_6 m hO c) t d
theorem bef_7 (hO : Ok m) (c : Dev nD) (t : Fin (cfgM m hO).N) (d) : (dats m hO 0 c).before 7 t d = iblk m hO c 7 t :=
  before_7 m hO (dats m hO 0 c) (A_eq m hO c 7) (after_7 m hO c) t d

/-! ## The output block as the body finds it -/

theorem idle_still (I : Itm m) (hO : Ok m) (t : Fin (cfgM m hO).N) (h : (cfgM m hO).idle 8 ((cfgM m hO).grid.coords t) = true) :
    Still (tbl m 0) (tbl m 3) (tbl m 4) (item t) := by
  have := (idle_iff (tbl m) I (grid0.coords t)).mp h
  rwa [coords_item] at this

theorem index_8 (hO : Ok m) (t : Fin (cfgM m hO).N) : ((cfgM m hO).win 8).index t = (![num (tbl m 0) (item t), 0] : Fin 2 → ℕ) := by
  rw [← coords_item t]
  exact transform_0 (tbl m) (grid0.coords t)

/-- A block that holds nothing stored is met only where the tile changes. -/
theorem fresh_first (I : Itm m) (hO : Ok m) : ∀ (n : ℕ) (h : n < (cfgM m hO).N), (cfgM m hO).fresh 8 n = true →
    First (tbl m 0) (item ⟨n, h⟩)
  | 0, _, _ => .inl rfl
  | n + 1, h, hf => by
    have hn : n < (cfgM m hO).N := by omega
    rw [Pipeline.Cfg.fresh_succ _ _ n hn, Bool.or_eq_true, Bool.and_eq_true] at hf
    rcases hf with hf | ⟨hi, hf⟩
    · rw [Pipeline.Window.flush_eq_flushF] at hf
      unfold Pipeline.Window.flushF at hf
      simp only [Bool.and_eq_true, Bool.or_eq_true, decide_eq_true_eq] at hf
      rcases hf.2 with he | ⟨_, a, ha⟩
      · exact absurd he (by have : n + 1 < (cfgM m hO).N := h; exact Nat.ne_of_lt this)
      · right
        intro k
        apply ha
        rw [index_8, index_8]
        exact congrArg (fun n : ℕ => (![n, 0] : Fin 2 → ℕ) a) k
    · exact absurd (idle_still m I hO _ hi) (not_still _ _ _ (fresh_first I hO n hn hf))

theorem outAt_pos (hO : Ok m) (c : Dev nD) (t : Fin (cfgM m hO).N) (h : t.val ≠ 0) :
    outAt m hO c t.val = stp m hO c t (outAt m hO c (t.val - 1)) := by
  obtain ⟨n, hn⟩ := t
  cases n with
  | zero => exact absurd rfl h
  | succ n => show outAt m hO c (n + 1) = _; rw [outAt, dif_pos hn]; rfl

/-- The step from what the body finds is what the proof data say it leaves. -/
theorem step_before (I : Itm m) (hO : Ok m) (c : Dev nD) (t : Fin (cfgM m hO).N) (d) :
    stp m hO c t ((dats m hO 0 c).before 8 t d) = outAt m hO c t.val := by
  rw [(dats m hO 0 c).before_out_traj 8 rfl (fun _ _ => rfl) (fun t h0 hi _ => by
    rw [after_8, after_8, outAt_pos m hO c t h0]
    exact step_still _ _ _ (idle_still m I hO t hi) _ _) t.val t rfl d]
  by_cases hf : (cfgM m hO).fresh 8 t.val = true
  · have h1 := fresh_first m I hO t.val t.isLt hf
    rw [if_pos hf]
    by_cases h0 : t.val = 0
    · obtain ⟨n, hn⟩ := t
      obtain rfl : n = 0 := h0
      exact step_first _ _ _ h1 _ _ _
    · rw [outAt_pos m hO c t h0]
      exact step_first _ _ _ h1 _ _ _
  · rw [if_neg hf]
    have h0 : t.val ≠ 0 := fun h => hf (by rw [h]; rfl)
    rw [outAt_pos m hO c t h0, after_8]

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))

/-- The output block after the point: what it held where the body stores nothing and nothing is written back. -/
def outPost (hO : Ok m) (c : Dev nD) (t : Fin (cfgM m hO).N) : sProp 𝕄 :=
  match (cfgM m hO).idle 8 ((cfgM m hO).grid.coords t) with
  | true =>
    match ((cfgM m hO).win 8).flush t with
    | false => iprop(∃ d, owns (c : Thread nD τ) (ms8 m hO t) fullShare ((dats m hO 0 c).before 8 t d))
    | true => owns (c : Thread nD τ) (ms8 m hO t) fullShare ((dats m hO 0 c).after 8 t)
  | false => owns (c : Thread nD τ) (ms8 m hO t) fullShare ((dats m hO 0 c).after 8 t)

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t)
    ∗ outPost m hO c t)

theorem out_intro (I : Itm m) (hO : Ok m) (c : Dev nD) (t : Fin (cfgM m hO).N) (d) :
    owns (c : Thread nD τ) (ms8 m hO t) fullShare (stp m hO c t ((dats m hO 0 c).before 8 t d)) ⊢ outPost m hO c t := by
  have ha : (stp m hO c t ((dats m hO 0 c).before 8 t d)) = (dats m hO 0 c).after 8 t :=
    (step_before m I hO c t d).trans (after_8 m hO c t).symm
  unfold outPost
  split
  · next hi =>
    split
    · rw [show stp m hO c t ((dats m hO 0 c).before 8 t d) = (dats m hO 0 c).before 8 t d from
        step_still _ _ _ (idle_still m I hO t hi) _ _]
      iintro H; iexists d; iexact H
    · rw [ha]
  · rw [ha]

set_option maxHeartbeats 800000 in
theorem sound_body (I : Itm m) (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [bef_0, bef_1, bef_2, bef_3, bef_4, bef_5, bef_6, bef_7]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  rw [show (dats m hO 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_step c (grid0.coords t) _ _ _ _ _ _ _ _ _ _ _ _ _ _ _ _ _ _ (iblk m hO c 0 t) (iblk m hO c 1 t) (iblk m hO c 2 t) (iblk m hO c 3 t)
    (iblk m hO c 4 t) (iblk m hO c 5 t) (iblk m hO c 6 t) (iblk m hO c 7 t) (tbl m 0) (tbl m 1) (tbl m 2) (tbl m 3) (tbl m 4) I
    ((dats m hO 0 c).before 8 t d8) Set.univ _)
  unfold state
  isplitl [H0 H1 H2 H3 H4 H5 H6 H7 H8 HT]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HT
  iintro ⟨H0, H1, H2, H3, H4, H5, H6, H7, H8, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [coords_item]
  iapply (out_intro m I hO c t d8)
  iexact H8

theorem body_obligation (I : Itm m) (hO : Ok m) (c : Dev nD) :
    BodyObligation (dats (F := F) m hO 0 c) (defs₀ (F := F)) Variants.none () Set.univ := fun t => by
  rw [bigSep_W0, bigSep_W0, defs₀_row m hO]
  exact triple_restated (sound_body m I hO c t) rfl .rfl fun _ => .rfl

/-! ## The launch -/

set_option backward.isDefEq.respectTransparency.types false in
theorem run_main_quiescent (I : Itm m) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m I hO c).loose) (hq := fun _ _ _ => rfl)
    (howed := fun _ _ => rfl) (V := V m) (hmain := hmain m Variants.none) (hA := A_eq m hO) (hpf := V_pre m) (hΦ := fun _ _ => rfl)

/-- Every argument array of core `c` is what it was at launch. -/
def Kept (mem : (ℓ : Loc nD τ sig) → Buf (Elt F) ℓ) (c : Dev nD) : Prop :=
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)

/-- The run: the result array holds every block written back, the argument arrays are unchanged, and every semaphore
    counter is at zero. -/
theorem run (I : Itm m) (hO : Ok m) : θ_run defs (onTc (τ := τ) (main (F := F))) ⟨m, fun _ => 0, ρ⟩ (fun r => (∀ c : Dev nD,
      r.2.mem ((c.tc : Thread nD τ).loc main_v3) = (dats m hO 0 c).arrAt 8 (cfgM m hO).N ∧ Kept m r.2.mem c)
      ∧ r.2.sem = fun _ => 0) := by
  refine (θ_run defs _ _).mono (fun r h => ⟨fun c => ?_, h.2⟩) (run_main_quiescent m ρ I hO)
  obtain ⟨h, -⟩ := h
  exact ⟨(h c).1 8, ((h c).2 main_arg0 (by decide : main_arg0 ∈ Pipeline.restRefs sig spec0)).trans (V_arg0 m c),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).2 main_arg3 (by decide : main_arg3 ∈ Pipeline.restRefs sig spec0)).trans (V_arg3 m c),
    ((h c).2 main_arg4 (by decide : main_arg4 ∈ Pipeline.restRefs sig spec0)).trans (V_arg4 m c),
    ((h c).1 0).trans (((dats m hO 0 c).arrAt_in 0 rfl _).trans ((A_eq m hO c 0).trans (V_arg5 m c))),
    ((h c).1 1).trans (((dats m hO 0 c).arrAt_in 1 rfl _).trans ((A_eq m hO c 1).trans (V_arg6 m c))),
    ((h c).2 main_arg7 (by decide : main_arg7 ∈ Pipeline.restRefs sig spec0)).trans (V_arg7 m c),
    ((h c).2 main_arg8 (by decide : main_arg8 ∈ Pipeline.restRefs sig spec0)).trans (V_arg8 m c),
    ((h c).2 main_arg9 (by decide : main_arg9 ∈ Pipeline.restRefs sig spec0)).trans (V_arg9 m c)⟩

/-- The frame: every argument array ends unchanged and every semaphore counter at zero. -/
theorem frame (I : Itm m) : θ_run defs (onTc (τ := τ) (main (F := F))) ⟨m, fun _ => 0, ρ⟩ (fun r => (∀ c : Dev nD,
      Kept m r.2.mem c) ∧ r.2.sem = fun _ => 0) :=
  (θ_run defs _ _).mono (fun _ h => ⟨fun c => (h.1 c).2, h.2⟩) (run m ρ I (ok_of_items m I))

end Cert.KernelIdeal.Experts
end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_work_items
public import proofs.«01_k».proof.Proof.Experts.Run

@[expose] public section
noncomputable section
namespace Cert.Proof
open Idealize.ShloMosaic Idealize.SL.Sem

/-! The program and its ideal reading are the same program, read at the words: main, the body and the labels agree. -/

/-- The two mains are one text. -/
theorem main_eq : (Cert.Kernel.main (F := Bits)) = (Cert.KernelIdeal.main (F := Bits)) := rfl

set_option maxHeartbeats 2000000 in
/-- So are the two bodies. -/
theorem body_eq : Cert.Kernel.cc0_experts (F := Bits) = Cert.KernelIdeal.cc0_experts (F := Bits) := rfl

set_option maxHeartbeats 4000000 in
/-- The body tables agree, label by label. -/
theorem defs0_eq : Cert.Kernel.defs₀ (F := Bits) = Cert.KernelIdeal.defs₀ (F := Bits) := by
  refine congrArg (Defs.onTc (nD := 1) (τ := Topo.v7x) (sig := Cert.KernelIdeal.sig) (Val := Elt Bits) (Λ := Cert.KernelIdeal.Λ₀)) ?_
  funext l a
  match l, a with
  | ⟨0, _⟩, (t, s) => with_unfolding_all rfl
  | ⟨n + 1, h⟩, _ => exact absurd h (by omega)

/-- And with the pipeline's own labels. -/
theorem defs_eq : Cert.Kernel.defs (F := Bits) = Cert.KernelIdeal.defs (F := Bits) :=
  congrArg (Pipeline.defs (Cert.KernelIdeal.pcfgs (F := Bits))) defs0_eq

/-- The program's memory as the ideal reading's. -/
abbrev asIdeal (m : (ℓ : Loc Cert.Kernel.nD Cert.Kernel.τ Cert.Kernel.sig) → Buf (Elt Bits) ℓ) :
  (ℓ : Loc Cert.KernelIdeal.nD Cert.KernelIdeal.τ Cert.KernelIdeal.sig) → Buf (Elt Bits) ℓ := m

/-- The tables of the program's memory list work items. -/
theorem items_kernel (m : (ℓ : Loc Cert.Kernel.nD Cert.Kernel.τ Cert.Kernel.sig) → Buf (Elt Bits) ℓ)
    (h : Cert.Pre_Kernel (hPre_work_items := Cert.Pre_work_items.Gen.facts) m) : Cert.KernelIdeal.Experts.Itm (asIdeal m) :=
  Cert.Items.items_of _ _ _ _ _ _ _ _ _ _ (h 0)

set_option maxHeartbeats 4000000 in
/-- The frame of the program over words. -/
theorem frame_kernel : Cert.quiescent_Kernel (hKernel := Cert.Kernel.Gen.facts) (hPre_work_items := Cert.Pre_work_items.Gen.facts) := by
  intro m g h
  have e := Cert.KernelIdeal.Experts.frame (F := Bits) (asIdeal m) g (items_kernel m h)
  rw [← defs_eq, ← main_eq] at e
  exact e

/-- The tables of the ideal reading's memory list work items. -/
theorem items_ideal (m : (ℓ : Loc Cert.KernelIdeal.nD Cert.KernelIdeal.τ Cert.KernelIdeal.sig) → Buf (Elt Ideal) ℓ)
    (h : Cert.Pre_KernelIdeal (hPre_work_items := Cert.Pre_work_items.Gen.facts) m) : Cert.KernelIdeal.Experts.Itm m :=
  Cert.Items.items_of _ _ _ _ _ _ _ _ _ _ (h 0)

/-- The frame of the ideal reading. -/
theorem frame_ideal : Cert.quiescent_KernelIdeal (hKernelIdeal := Cert.KernelIdeal.Gen.facts) (hPre_work_items := Cert.Pre_work_items.Gen.facts) :=
  fun m g h => Cert.KernelIdeal.Experts.frame m g (items_ideal m h)

/-- The frame of the reference: it has no semaphore at all. -/
theorem frame_reference : Cert.quiescent_ReferenceIdeal (hReferenceIdeal := Cert.ReferenceIdeal.Gen.facts) (hPre_work_items := Cert.Pre_work_items.Gen.facts) :=
  fun m g _ => (θ_run Cert.ReferenceIdeal.defs _ _).mono (fun r h => ⟨fun c => (h c).2, sem_eq_zero_of_no_sems rfl _⟩)
    (Cert.ReferenceIdeal.Value.run m g)

end Cert.Proof
end
-- ==== Proof.Experts.Closed.lean ====
/- What the staged output block holds after each work item, token by token: a token's chunks hold the result rows of the
   item that owns it, once that item has run, and the ninth chunk holds zero throughout. -/
module

public import proofs.«01_k».proof.Proof.Experts.Run
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Items
open Idealize.ShloMosaic.Pipeline (Dat Cfg Window BodyObligation cellOf)

variable {F : FTy → Type} [FloatOps F]

local notation "𝕄" => MT nD τ sig Unit (Elt F) ℕ (UR sig nD τ) ℕ

/-- Item `n` owns sorted token `t`. -/
def Owns (st en : Tbl) (n : Fin 240) (t : ℕ) : Prop := num st n ≤ t ∧ t < num en n

namespace Owns

variable {ti lo hi st en : Tbl} (I : Items ti lo hi st en)
include I

/-- Items follow one another: a later item starts no earlier than an earlier one ends. -/
theorem en_le_st : ∀ (k : ℕ) (a : Fin 240) (h : a.val + (k + 1) < 240), num en a ≤ num st ⟨a.val + (k + 1), h⟩
  | 0, a, h => (I.chain a.val h).le
  | k + 1, a, h => (en_le_st k a (by omega)).trans ((I.st_le ⟨a.val + (k + 1), by omega⟩).trans (I.chain (a.val + (k + 1)) h).le)

theorem lt_of_lt {a b : Fin 240} (h : a.val < b.val) : num en a ≤ num st b := by
  have e := en_le_st I (b.val - a.val - 1) a (by have := b.isLt; omega)
  have e' : (⟨a.val + (b.val - a.val - 1 + 1), by have := b.isLt; omega⟩ : Fin 240) = b := Fin.ext (by show a.val + _ = b.val; omega)
  rw [e'] at e
  exact e

/-- One token, one owner. -/
theorem unique {a b : Fin 240} {t : ℕ} (ha : Owns st en a t) (hb : Owns st en b t) : a = b := by
  rcases lt_trichotomy a.val b.val with h | h | h
  · have := lt_of_lt I h; have := ha.2; have := hb.1; omega
  · exact Fin.ext h
  · have := lt_of_lt I h; have := hb.2; have := ha.1; omega

/-- Tiles do not go back. -/
theorem tile_mono {a b : Fin 240} (h : a.val ≤ b.val) : num ti a ≤ num ti b := by
  obtain ⟨a, ha⟩ := a
  obtain ⟨b, hb⟩ := b
  replace h : a ≤ b := h
  induction b with
  | zero => obtain rfl : a = 0 := by omega
            exact le_rfl
  | succ b ih =>
    by_cases e : a = b + 1
    · subst e; exact le_rfl
    · exact (ih (by omega) (by omega)).trans (I.ti_mono b hb)

/-- Every token has an owner. -/
theorem exist {t : ℕ} (ht : t < 32768) : ∃ n, Owns st en n t := by
  classical
  have hx : ∃ k, ∃ h : k < 240, t < num en ⟨k, h⟩ := ⟨239, by decide, by have := I.en_last; exact ht.trans_eq this.symm⟩
  obtain ⟨h, hlt⟩ := Nat.find_spec hx
  refine ⟨⟨Nat.find hx, h⟩, ?_, hlt⟩
  rcases Nat.eq_zero_or_pos (Nat.find hx) with h0 | h0
  · have : (⟨Nat.find hx, h⟩ : Fin 240) = ⟨0, by decide⟩ := Fin.ext h0
    rw [this]
    have := I.st_zero
    exact this.le.trans (Nat.zero_le t)
  · have hm := Nat.find_min hx (show Nat.find hx - 1 < Nat.find hx by omega)
    have hc := I.chain (Nat.find hx - 1) (by omega)
    have e : (⟨Nat.find hx - 1 + 1, by omega⟩ : Fin 240) = ⟨Nat.find hx, h⟩ := Fin.ext (by show Nat.find hx - 1 + 1 = Nat.find hx; omega)
    rw [e] at hc
    rw [← hc]
    by_contra hc'
    exact hm ⟨by omega, not_le.mp hc'⟩

/-- A token's owner works on the token's tile. -/
theorem tile {n : Fin 240} {t : ℕ} (h : Owns st en n t) : num ti n = t / 256 := by
  have a := I.ti_st n; have b := I.en_ti n; have := h.1; have := h.2
  omega

end Owns

/-- The owner of a token. -/
def ownerOf (st en : Tbl) (t : ℕ) : Fin 240 :=
  open Classical in if h : ∃ n, Owns st en n t then h.choose else 0

theorem ownerOf_owns {ti lo hi st en : Tbl} (I : Items ti lo hi st en) {t : ℕ} (ht : t < 32768) : Owns st en (ownerOf st en t) t := by
  have h := Owns.exist I ht
  unfold ownerOf
  rw [dif_pos h]
  exact h.choose_spec

/-! ## One step, element by element -/

theorem merge_apply (k : IVec S256x1 1) (r : FVec F S256x1024 .f32) (o : Vec F S2304x128 .f32) (y : S2304x128.Idx) :
    merge k r o y = if (y 0).val % 9 = 8 then o y
      else if k (ix2 (n0 := 256) (n1 := 1) (tok y 0) 0) = 1#1 then slab ((y 0).val % 9) r (tok y) else o y := by
  have hj : (y 0).val % 9 < 9 := Nat.mod_lt _ (by decide)
  unfold merge merge4 put pick get
  rcases (by omega : (y 0).val % 9 = 0 ∨ (y 0).val % 9 = 1 ∨ (y 0).val % 9 = 2 ∨ (y 0).val % 9 = 3 ∨ (y 0).val % 9 = 4 ∨ (y 0).val % 9 = 5
    ∨ (y 0).val % 9 = 6 ∨ (y 0).val % 9 = 7 ∨ (y 0).val % 9 = 8) with h | h | h | h | h | h | h | h | h <;>
    simp [h, stg_tok _ y h]

/-- The sorted token at a row of item `n`'s block. -/
def at_ (ti : Tbl) (n : Fin 240) (y : S2304x128.Idx) : ℕ := num ti n * 256 + (y 0).val / 9

theorem at_lt (ti : Tbl) (n : Fin 240) (y : S2304x128.Idx) : num ti n * 256 ≤ at_ ti n y ∧ at_ ti n y < num ti n * 256 + 256 := by
  have h : (y 0).val < 2304 := (y 0).isLt
  unfold at_
  omega

section Step

variable {ti lo hi st en : Tbl} (I : Items ti lo hi st en) (n : Fin 240) (r : FVec F S256x1024 .f32) (o : Vec F S2304x128 .f32) (y : S2304x128.Idx)
include I

theorem rows_tok : rows (F := F) ti st en n (ix2 (n0 := 256) (n1 := 1) (tok y 0) 0) = 1#1 ↔ Owns st en n (at_ ti n y) :=
  mask_iff (F := F) (ti (ix1 n)) (st (ix1 n)) (en (ix1 n)) (bounds I n).1 (bounds I n).2.1 (bounds I n).2.2 (tok y 0) 0

theorem full_owns (h : Full ti st en n) : Owns st en n (at_ ti n y) := by
  have := at_lt ti n y
  unfold Full Whole at h
  unfold Owns
  omega

omit I in
/-- The ninth chunk stays zero, or becomes so. -/
theorem step_pad (h : (y 0).val % 9 = 8) (ho : First ti n ∨ o y = k0_pay1 y) : step ti st en n r o y = k0_pay1 y := by
  unfold step
  have hw : whole r y = k0_pay1 y := by unfold whole; rw [if_pos h]; rfl
  by_cases hf : Full ti st en n
  · rw [if_neg (fun k => k.2 hf), if_pos hf.lt, if_pos hf, hw]
  · by_cases h1 : First ti n
    · rw [if_pos ⟨h1, hf⟩]
      split
      · rw [merge_apply, if_pos h]
      · rfl
    · rw [if_neg (fun k => h1 k.1)]
      have ho := ho.resolve_left h1
      split
      · rw [merge_apply, if_pos h, ho]
      · exact ho

/-- The item's own tokens get its result rows. -/
theorem step_own (h : (y 0).val % 9 ≠ 8) (ho : Owns st en n (at_ ti n y)) : step ti st en n r o y = slab ((y 0).val % 9) r (tok y) := by
  have hlt : num st n < num en n := ho.1.trans_lt ho.2
  have hm := (rows_tok (F := F) I n y).mpr ho
  unfold step
  split
  · rw [merge_apply, if_neg h, if_pos hm]
  · split
    · unfold whole; rw [if_neg h]
    · rw [merge_apply, if_neg h, if_pos hm]

/-- The other tokens keep what they had, unless the tile is new. -/
theorem step_other (h : (y 0).val % 9 ≠ 8) (ho : ¬ Owns st en n (at_ ti n y)) (h1 : ¬ First ti n) : step ti st en n r o y = o y := by
  have hm : ¬ _ := fun k => ho ((rows_tok (F := F) I n y).mp k)
  have hf : ¬ Full ti st en n := fun k => ho (full_owns I n y k)
  unfold step
  rw [if_neg (fun k => h1 k.1)]
  split
  · rw [merge_apply, if_neg h, if_neg hm]
  · rfl

end Step

/-! ## After each item -/

section Out

variable (m : (ℓ : Loc nD τ sig) → Buf (Elt F) ℓ) (I : Itm m) (hO : Ok m) (c : Dev nD)

theorem outAt_pad (y : S2304x128.Idx) (h : (y 0).val % 9 = 8) : ∀ (n : ℕ) (hn : n < 240), outAt m hO c n y = k0_pay1 y
  | 0, _ => step_pad (st := tbl m 3) (en := tbl m 4) (item ⟨0, (by decide : 0 < grid0.N)⟩) _ _ y h (.inl (.inl rfl))
  | n + 1, hn => by
    rw [outAt_pos m hO c ⟨n + 1, hn⟩ (Nat.succ_ne_zero n)]
    exact step_pad _ _ _ y h (.inr (outAt_pad y h n (by omega)))

include I

theorem outAt_own (y : S2304x128.Idx) (h : (y 0).val % 9 ≠ 8) : ∀ (n : ℕ) (hn : n < 240) (a : ℕ) (ha : a ≤ n),
    Owns (tbl m 3) (tbl m 4) ⟨a, by omega⟩ (at_ (tbl m 0) ⟨n, hn⟩ y) →
    outAt m hO c n y = slab ((y 0).val % 9) (res m hO c ⟨a, (by omega : a < 240)⟩) (tok y)
  | 0, _, a, ha, ho => by
    obtain rfl : a = 0 := by omega
    exact step_own I _ _ _ y h ho
  | n + 1, hn, a, ha, ho => by
    rw [outAt_pos m hO c ⟨n + 1, hn⟩ (Nat.succ_ne_zero n)]
    by_cases e : a = n + 1
    · subst e
      exact step_own I _ _ _ y h ho
    · have hno : ¬ Owns (tbl m 3) (tbl m 4) ⟨n + 1, hn⟩ (at_ (tbl m 0) ⟨n + 1, hn⟩ y) := fun k =>
        e (congrArg Fin.val (Owns.unique I ho k))
      have ht := Owns.tile I ho
      have hb := at_lt (tbl m 0) ⟨n + 1, hn⟩ y
      have hm1 := Owns.tile_mono I (a := ⟨a, by omega⟩) (b := ⟨n, by omega⟩) (by show a ≤ n; omega)
      have hm2 := Owns.tile_mono I (a := ⟨n, by omega⟩) (b := ⟨n + 1, hn⟩) (Nat.le_succ n)
      have htile : num (tbl m 0) ⟨n + 1, hn⟩ = num (tbl m 0) ⟨n, by omega⟩ := by omega
      have h1 : ¬ First (tbl m 0) ⟨n + 1, hn⟩ := by
        rintro (k | k)
        · exact absurd k (Nat.succ_ne_zero n)
        · exact k htile
      refine (step_other I ⟨n + 1, hn⟩ _ _ y h hno h1).trans ?_
      refine outAt_own y h n (by omega) a (by omega) ?_
      have : at_ (tbl m 0) ⟨n, by omega⟩ y = at_ (tbl m 0) ⟨n + 1, hn⟩ y := by unfold at_; rw [htile]
      rw [this]
      exact ho

end Out

end Cert.KernelIdeal.Experts
end
-- ==== Proof.Experts.Array.lean ====
/- From blocks to arrays: the result array after the run, element by element, and what each input block holds of its
   array. -/
module

public import proofs.«01_k».proof.Proof.Experts.Closed
public import Idealize.ShloMosaic.Lib.Pipeline.ValueKit.Geometry
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Items
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (I : Itm m) (hO : Ok m) (c : Dev nD)

/-- The result array: a token's first eight rows are its owner's result row in chunks, the ninth is zero. -/
def outArr : Vec F S294912x128 .f32 := fun i =>
  if (i 0).val % 9 = 8 then (Scalar.ofBits .f32 0x00000000#32 : F .f32)
  else slab ((i 0).val % 9) (res m hO c ⟨(ownerOf (tbl m 3) (tbl m 4) ((i 0).val / 9)).val, (ownerOf (tbl m 3) (tbl m 4) ((i 0).val / 9)).isLt⟩)
    (ix2 (n0 := 256) (n1 := 128) ⟨(i 0).val / 9 % 256, Nat.mod_lt _ (by decide)⟩ (i 1))

/-- The array row and lane of a staged row of a tile. -/
def spot (T : ℕ) (h : T < 128) (y : S2304x128.Idx) : S294912x128.Idx :=
  ix2 (n0 := 294912) (n1 := 128) ⟨T * 2304 + (y 0).val, by have k : (y 0).val < 2304 := (y 0).isLt; omega⟩ (y 1)

/-- A weight matrix of the stack at one expert. -/
def pane {A B : ℕ} {α : Type} (e : ℕ) (h : e < 32) (W : (⟨3, ![32, A, B]⟩ : Shape).Idx → α) : (⟨3, ![1, A, B]⟩ : Shape).Idx → α :=
  fun y => W (ix3 (n0 := 32) (n1 := A) (n2 := B) ⟨e, h⟩ (y 1) (y 2))

theorem two {P : Fin 2 → Prop} (h0 : P 0) (h1 : P 1) : ∀ a, P a := fun a => by fin_cases a <;> assumption
theorem three {P : Fin 3 → Prop} (h0 : P 0) (h1 : P 1) (h2 : P 2) : ∀ a, P a := fun a => by fin_cases a <;> assumption

theorem pane_of {A B : ℕ} {α : Type} (e : ℕ) (he : e < 32) (W : (⟨3, ![32, A, B]⟩ : Shape).Idx → α) (x : (⟨3, ![32, A, B]⟩ : Shape).Idx)
    (y : (⟨3, ![1, A, B]⟩ : Shape).Idx) (h : ∀ a : Fin 3, (x a).val = (![e, 0, 0] : Fin 3 → ℕ) a * (![1, A, B] : Fin 3 → ℕ) a + (y a).val) :
    W x = pane e he W y := by
  have y0 : (y 0).val < 1 := (y 0).isLt
  have h0 : (x 0).val = e * 1 + (y 0).val := h 0
  have h1 : (x 1).val = 0 * A + (y 1).val := h 1
  have h2 : (x 2).val = 0 * B + (y 2).val := h 2
  rw [Nat.zero_mul, Nat.zero_add] at h1 h2
  exact congrArg W (funext (three (Fin.ext (by show (x 0).val = e; omega)) (Fin.ext h1) (Fin.ext h2)))

section Blocks

variable (t : Fin (cfgM m hO).N)

include I

theorem tile_lt : num (tbl m 0) (item t) < 128 := I.ti_lt _

theorem emb_8 (y : S2304x128.Idx) : (((cfgM m hO).win 8).blk t).view.emb y = spot _ (tile_lt m I hO t) y := by
  have h : ∀ a : Fin 2, ((((cfgM m hO).win 8).rect t).emb y a : ℕ) = _ := fun a => Pipeline.Window.rect_emb_val ((cfgM m hO).win 8) t y a
  rw [index_8] at h
  exact funext (two (Fin.ext (h 0)) (Fin.ext ((h 1).trans (by show 0 * 128 + (y 1).val = (y 1).val; omega))))

theorem read_8 (G : Vec F S294912x128 .f32) : (((cfgM m hO).win 8).blk t).view.read (Elt F) G = fun y => G (spot _ (tile_lt m I hO t) y) :=
  funext fun (y : S2304x128.Idx) => congrArg G (emb_8 m I hO t y)

/-- The token rows of the item's tile. -/
theorem iblk_0 : iblk m hO c 0 t = fun y => (m ((c.tc : Thread nD τ).loc main_arg5) : Vec F S294912x128 .f32) (spot _ (tile_lt m I hO t) y) :=
  read_8 m I hO t (m ((c.tc : Thread nD τ).loc main_arg5))

omit I in
/-- The norm's scale, whole. -/
theorem iblk_1 : iblk m hO c 1 t = m ((c.tc : Thread nD τ).loc main_arg6) := by
  refine funext fun (y : S1x1024.Idx) => ?_
  have h : ∀ a : Fin 2, ((((cfgM m hO).win 1).rect t).emb y a : ℕ) = (y a).val := two
    (Pipeline.Window.rect_emb_val_of_index_zero ((cfgM m hO).win 1) t (0 : Fin 2) rfl y)
    (Pipeline.Window.rect_emb_val_of_index_zero ((cfgM m hO).win 1) t (1 : Fin 2) rfl y)
  exact congrArg (m ((c.tc : Thread nD τ).loc main_arg6) : Vec F S1x1024 .f32) (funext (two (Fin.ext (h 0)) (Fin.ext (h 1))))

/-- The first and the second expert of the item are experts. -/
theorem lo_lt : num (tbl m 1) (item t) < 32 := I.lo_lt _
theorem hi_lt : num (tbl m 2) (item t) < 32 := I.hi_lt _

omit I in
theorem index_lo : cc0_transform_2 k0_off1_inb numel1_S1 (tbl m) (grid0.coords t) = ![num (tbl m 1) (item t), 0, 0] := by
  rw [← coords_item t]; exact transform_2 (tbl m) (grid0.coords t)
omit I in
theorem index_hi : cc0_transform_5 k0_off1_inb numel1_S1 (tbl m) (grid0.coords t) = ![num (tbl m 2) (item t), 0, 0] := by
  rw [← coords_item t]; exact transform_5 (tbl m) (grid0.coords t)

/-! The six weight blocks: an expert's matrix out of the stack, as the region finds the stacks (narrowed). -/

theorem iblk_2 : iblk m hO c 2 t = pane (A := 1024) (B := 256) _ (lo_lt m I hO t) (V m c main_v0) := by
  refine funext fun (y : S1x1024x256.Idx) => pane_of (A := 1024) (B := 256) _ _ (V m c main_v0) ((((cfgM m hO).win 2).rect t).emb y) y ?_
  have h : ∀ a : Fin 3, ((((cfgM m hO).win 2).rect t).emb y a : ℕ) = _ := fun a => Pipeline.Window.rect_emb_val ((cfgM m hO).win 2) t y a
  rw [show ((cfgM m hO).win 2).index t = (![num (tbl m 1) (item t), 0, 0] : Fin 3 → ℕ) from index_lo m hO t] at h
  exact three (h 0) (h 1) (h 2)

theorem iblk_3 : iblk m hO c 3 t = pane (A := 1024) (B := 256) _ (lo_lt m I hO t) (V m c main_v1) := by
  refine funext fun (y : S1x1024x256.Idx) => pane_of (A := 1024) (B := 256) _ _ (V m c main_v1) ((((cfgM m hO).win 3).rect t).emb y) y ?_
  have h : ∀ a : Fin 3, ((((cfgM m hO).win 3).rect t).emb y a : ℕ) = _ := fun a => Pipeline.Window.rect_emb_val ((cfgM m hO).win 3) t y a
  rw [show ((cfgM m hO).win 3).index t = (![num (tbl m 1) (item t), 0, 0] : Fin 3 → ℕ) from index_lo m hO t] at h
  exact three (h 0) (h 1) (h 2)

theorem iblk_4 : iblk m hO c 4 t = pane (A := 256) (B := 1024) _ (lo_lt m I hO t) (V m c main_v2) := by
  refine funext fun (y : S1x256x1024.Idx) => pane_of (A := 256) (B := 1024) _ _ (V m c main_v2) ((((cfgM m hO).win 4).rect t).emb y) y ?_
  have h : ∀ a : Fin 3, ((((cfgM m hO).win 4).rect t).emb y a : ℕ) = _ := fun a => Pipeline.Window.rect_emb_val ((cfgM m hO).win 4) t y a
  rw [show ((cfgM m hO).win 4).index t = (![num (tbl m 1) (item t), 0, 0] : Fin 3 → ℕ) from index_lo m hO t] at h
  exact three (h 0) (h 1) (h 2)

theorem iblk_5 : iblk m hO c 5 t = pane (A := 1024) (B := 256) _ (hi_lt m I hO t) (V m c main_v0) := by
  refine funext fun (y : S1x1024x256.Idx) => pane_of (A := 1024) (B := 256) _ _ (V m c main_v0) ((((cfgM m hO).win 5).rect t).emb y) y ?_
  have h : ∀ a : Fin 3, ((((cfgM m hO).win 5).rect t).emb y a : ℕ) = _ := fun a => Pipeline.Window.rect_emb_val ((cfgM m hO).win 5) t y a
  rw [show ((cfgM m hO).win 5).index t = (![num (tbl m 2) (item t), 0, 0] : Fin 3 → ℕ) from index_hi m hO t] at h
  exact three (h 0) (h 1) (h 2)

theorem iblk_6 : iblk m hO c 6 t = pane (A := 1024) (B := 256) _ (hi_lt m I hO t) (V m c main_v1) := by
  refine funext fun (y : S1x1024x256.Idx) => pane_of (A := 1024) (B := 256) _ _ (V m c main_v1) ((((cfgM m hO).win 6).rect t).emb y) y ?_
  have h : ∀ a : Fin 3, ((((cfgM m hO).win 6).rect t).emb y a : ℕ) = _ := fun a => Pipeline.Window.rect_emb_val ((cfgM m hO).win 6) t y a
  rw [show ((cfgM m hO).win 6).index t = (![num (tbl m 2) (item t), 0, 0] : Fin 3 → ℕ) from index_hi m hO t] at h
  exact three (h 0) (h 1) (h 2)

theorem iblk_7 : iblk m hO c 7 t = pane (A := 256) (B := 1024) _ (hi_lt m I hO t) (V m c main_v2) := by
  refine funext fun (y : S1x256x1024.Idx) => pane_of (A := 256) (B := 1024) _ _ (V m c main_v2) ((((cfgM m hO).win 7).rect t).emb y) y ?_
  have h : ∀ a : Fin 3, ((((cfgM m hO).win 7).rect t).emb y a : ℕ) = _ := fun a => Pipeline.Window.rect_emb_val ((cfgM m hO).win 7) t y a
  rw [show ((cfgM m hO).win 7).index t = (![num (tbl m 2) (item t), 0, 0] : Fin 3 → ℕ) from index_hi m hO t] at h
  exact three (h 0) (h 1) (h 2)

end Blocks

/-! ## The result array -/

include I

/-- Where the tile changes, its last item has ended it. -/
theorem flush_end (t : Fin (cfgM m hO).N) (h : ((cfgM m hO).win 8).flush t = true) :
    num (tbl m 4) (item t) = num (tbl m 0) (item t) * 256 + 256 := by
  have ht : t.val < 240 := t.isLt
  have hen := I.en_ti (item t)
  rcases (Pipeline.Window.flush_out _ rfl t).mp h with h1 | ⟨h1, h2⟩
  · have h1 : t.val + 1 = 240 := h1
    have e : item t = (⟨239, by decide⟩ : Fin 240) := Fin.ext (by show t.val = 239; omega)
    have a := I.en_last
    have b := I.ti_lt (item t)
    rw [e] at hen b ⊢
    have a : num (tbl m 4) ⟨239, by decide⟩ = 32768 := a
    omega
  · have h1 : t.val + 1 < 240 := h1
    rw [index_8, index_8] at h2
    have hc := I.chain t.val h1
    have hm := I.ti_mono t.val h1
    have hs := I.ti_st ⟨t.val + 1, h1⟩
    have hne : num (tbl m 0) ⟨t.val + 1, h1⟩ ≠ num (tbl m 0) (item t) := fun k => h2 (congrArg (fun n : ℕ => (![n, 0] : Fin 2 → ℕ)) k)
    have hc : num (tbl m 4) (item t) = num (tbl m 3) ⟨t.val + 1, h1⟩ := hc
    have hm : num (tbl m 0) (item t) ≤ num (tbl m 0) ⟨t.val + 1, h1⟩ := hm
    omega

/-- What a tile's last item leaves is the tile of the result array. -/
theorem outAt_flush (t : Fin (cfgM m hO).N) (h : ((cfgM m hO).win 8).flush t = true) :
    outAt m hO c t.val = fun y => outArr m hO c (spot _ (tile_lt m I hO t) y) := by
  have ht : t.val < 240 := t.isLt
  funext y
  have hy : (y 0).val < 2304 := (y 0).isLt
  have e0 : (spot _ (tile_lt m I hO t) y 0).val = num (tbl m 0) (item t) * 2304 + (y 0).val := rfl
  have em : (spot _ (tile_lt m I hO t) y 0).val % 9 = (y 0).val % 9 := by rw [e0]; omega
  have ed : (spot _ (tile_lt m I hO t) y 0).val / 9 = at_ (tbl m 0) (item t) y := by rw [e0]; unfold at_; omega
  unfold outArr
  simp only [em, ed]
  by_cases h8 : (y 0).val % 9 = 8
  · rw [if_pos h8]
    exact outAt_pad m hO c y h8 t.val ht
  · rw [if_neg h8]
    have hb := at_lt (tbl m 0) (item t) y
    have hti := tile_lt m I hO t
    have hown := ownerOf_owns I (t := at_ (tbl m 0) (item t) y) (by omega)
    have hle : (ownerOf (tbl m 3) (tbl m 4) (at_ (tbl m 0) (item t) y)).val ≤ t.val := by
      by_contra hc
      have hlt := Owns.lt_of_lt I (a := item t) (b := ownerOf (tbl m 3) (tbl m 4) (at_ (tbl m 0) (item t) y)) (by show t.val < _; omega)
      have hf := flush_end m I hO t h
      have := hown.1
      omega
    refine (outAt_own m I hO c y h8 t.val ht _ hle hown).trans ?_
    refine congrArg (slab _ _) (funext (two (Fin.ext ?_) rfl))
    show (y 0).val / 9 = at_ (tbl m 0) (item t) y % 256
    unfold at_
    omega

/-- Every array element lies in a tile's block written back at that tile's last item. -/
theorem covered (i : S294912x128.Idx) : ∃ t : Fin (cfgM m hO).N, ((cfgM m hO).win 8).flush t = true ∧ i ∈ (((cfgM m hO).win 8).blk t).view.set := by
  classical
  have hi : (i 0).val < 294912 := (i 0).isLt
  have hown := ownerOf_owns I (t := (i 0).val / 9) (by omega)
  obtain ⟨n, hn, hmax⟩ := (Finset.univ.filter fun n : Fin 240 => num (tbl m 0) n = (i 0).val / 2304).exists_max_image (fun n => n.val)
    ⟨_, Finset.mem_filter.mpr ⟨Finset.mem_univ _, (Owns.tile I hown).trans (by omega)⟩⟩
  have hn := (Finset.mem_filter.mp hn).2
  refine ⟨⟨n.val, n.isLt⟩, (Pipeline.Window.flush_out _ rfl _).mpr ?_, ?_⟩
  · by_cases h : n.val + 1 < 240
    · refine .inr ⟨h, fun k => ?_⟩
      rw [index_8, index_8] at k
      have k : num (tbl m 0) ⟨n.val + 1, h⟩ = num (tbl m 0) n := congrFun k 0
      have := hmax ⟨n.val + 1, h⟩ (Finset.mem_filter.mpr ⟨Finset.mem_univ _, k.trans hn⟩)
      exact absurd this (by show ¬ n.val + 1 ≤ n.val; omega)
    · exact .inl (by have := n.isLt; show n.val + 1 = 240; omega)
  · have e : i = spot _ (tile_lt m I hO ⟨n.val, n.isLt⟩) (ix2 (n0 := 2304) (n1 := 128) ⟨(i 0).val % 2304, Nat.mod_lt _ (by decide)⟩ (i 1)) := by
      refine funext (two (Fin.ext ?_) rfl)
      show (i 0).val = num (tbl m 0) n * 2304 + (i 0).val % 2304
      rw [hn]; omega
    rw [e, ← emb_8 m I hO]
    exact View.emb_mem_set _ _

theorem final : (dats m hO 0 c).arrAt 8 (cfgM m hO).N = outArr m hO c := by
  refine (dats m hO 0 c).arrAt_eq_of_cover 8 (outArr m hO c) (fun t h => ?_) (fun i => covered m I hO i)
  refine Eq.trans ?_ (read_8 m I hO t (outArr m hO c)).symm
  refine Eq.trans ?_ (outAt_flush m I hO c t h)
  exact after_8 m hO c t

end Cert.KernelIdeal.Experts
end
-- ==== Proof.Experts.Spec.lean ====
/- The mathematics of the call, over the extended reals: a token's normalised row, one expert's two-layer network on it,
   and the two ways its result is combined. The kernel multiplies a weight into the hidden values and adds two such
   contributions; the reference runs all experts and adds them up under one-hot weights. With weights that are not
   negative and finite the two are the same. -/
module

public import Idealize.ShloMosaic.Lib.Pointwise
@[expose] public section

noncomputable section

namespace Cert.Routed

open Idealize.ShloMosaic

/-- One over the root mean square of a row, with the small constant under the root. -/
def scaleOf (h : Fin 1024 → EReal) : EReal :=
  Ideal.rsqrt (Ideal.div (∑ k, h k * h k) (Ideal.ofBits .f32 0x44800000#32) + Ideal.ofBits .f32 0x358637BD#32)

/-- The normalised row. -/
def normed (h s : Fin 1024 → EReal) (k : Fin 1024) : EReal := h k * scaleOf h * s k

/-- A row times a weight matrix. -/
def proj (x : Fin 1024 → EReal) (W : Fin 1024 → Fin 256 → EReal) (k : Fin 256) : EReal := ∑ d, x d * W d k

/-- `u` times its sigmoid. -/
def swish (u : EReal) : EReal := u * Ideal.div 1 (1 + Ideal.exp (0 - u))

/-- An expert's hidden values. -/
def hidden (x : Fin 1024 → EReal) (G U : Fin 1024 → Fin 256 → EReal) (k : Fin 256) : EReal := swish (proj x G k) * proj x U k

/-- An expert's output. -/
def ffn (x : Fin 1024 → EReal) (G U : Fin 1024 → Fin 256 → EReal) (D : Fin 256 → Fin 1024 → EReal) (c : Fin 1024) : EReal :=
  ∑ k, hidden x G U k * D k c

/-- A token's result: its row plus two experts' outputs, each times its weight. -/
def routed (h s : Fin 1024 → EReal) (w₀ w₁ : EReal) (G₀ U₀ : Fin 1024 → Fin 256 → EReal) (D₀ : Fin 256 → Fin 1024 → EReal)
    (G₁ U₁ : Fin 1024 → Fin 256 → EReal) (D₁ : Fin 256 → Fin 1024 → EReal) (c : Fin 1024) : EReal :=
  h c + (w₀ * ffn (normed h s) G₀ U₀ D₀ c + w₁ * ffn (normed h s) G₁ U₁ D₁ c)

/-- A finite weight that is not negative is taken out of a sum. -/
theorem mul_sum_of_weight {n : ℕ} (w : EReal) (h0 : 0 ≤ w) (h1 : w ≠ ⊤) (f : Fin n → EReal) : ∑ k, w * f k = w * ∑ k, f k := by
  classical
  induction (Finset.univ : Finset (Fin n)) using Finset.induction_on with
  | empty => simp
  | insert a s ha ih => rw [Finset.sum_insert ha, Finset.sum_insert ha, ih, EReal.left_distrib_of_nonneg_of_ne_top h0 h1]

/-- The weight multiplied into the hidden values is the weight times the output. -/
theorem weighted (x : Fin 1024 → EReal) (G U : Fin 1024 → Fin 256 → EReal) (D : Fin 256 → Fin 1024 → EReal) (w : EReal)
    (h0 : 0 ≤ w) (h1 : w ≠ ⊤) (c : Fin 1024) : ∑ k, hidden x G U k * w * D k c = w * ffn x G U D c := by
  unfold ffn
  rw [← mul_sum_of_weight w h0 h1]
  exact Finset.sum_congr rfl fun k _ => by rw [mul_comm (hidden x G U k) w, mul_assoc]

/-- One where the expert is the chosen one, zero elsewhere. -/
def hot (a e : Fin 32) : EReal := if a = e then 1 else 0

/-- Adding all experts' outputs under the summed one-hot weights leaves the two chosen ones. -/
theorem combined (a b : Fin 32) (w₀ w₁ : EReal) (h₀ : 0 ≤ w₀) (h₁ : 0 ≤ w₁) (f : Fin 32 → EReal) :
    ∑ e, (hot a e * w₀ + hot b e * w₁) * f e = w₀ * f a + w₁ * f b := by
  have nn : ∀ (p q : Fin 32) (w : EReal), 0 ≤ w → 0 ≤ hot p q * w := fun p q w h => by
    unfold hot
    split
    · rw [one_mul]; exact h
    · rw [zero_mul]
  have one : ∀ (p : Fin 32) (w : EReal), ∑ e, hot p e * w * f e = w * f p := fun p w => by
    rw [Finset.sum_eq_single p]
    · unfold hot; rw [if_pos rfl, one_mul]
    · intro e _ he; unfold hot; rw [if_neg (Ne.symm he), zero_mul, zero_mul]
    · intro h; exact absurd (Finset.mem_univ p) h
  rw [← one a w₀, ← one b w₁, ← Finset.sum_add_distrib]
  exact Finset.sum_congr rfl fun e _ => EReal.right_distrib_of_nonneg (nn a e w₀ h₀) (nn b e w₁ h₁)

end Cert.Routed
end
-- ==== Proof.Experts.Value.lean ====
/- The rows the body computes, element by element over the extended reals. -/
module

public import proofs.«01_k».proof.Proof.Experts.Parts
public import proofs.«01_k».proof.Proof.Experts.Spec
public import Idealize.ShloMosaic.Lib.Pointwise
@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Routed
open Idealize.ShloMosaic.Pipeline (Dat Cfg Window BodyObligation cellOf)

variable (x0 : Vec Ideal S2304x128 .f32) (x1 : Vec Ideal S1x1024 .f32) (x2 x3 : Vec Ideal S1x1024x256 .bf16) (x4 : Vec Ideal S1x256x1024 .bf16)
  (x5 x6 : Vec Ideal S1x1024x256 .bf16) (x7 : Vec Ideal S1x256x1024 .bf16)

/-- A token's row, read out of the block. -/
def rowOf (r : Fin 256) (k : Fin 1024) : EReal := x0 (ix2 (⟨9 * r.val + k.val / 128, by omega⟩ : Fin 2304) (⟨k.val % 128, by omega⟩ : Fin 128))

/-- A token's combine weight for expert `j` of its two. -/
def weightOf (r : Fin 256) (j : Fin 128) : EReal := x0 (ix2 (⟨9 * r.val + 8, by omega⟩ : Fin 2304) j)

/-- A one-row array as a row, a one-matrix array as a matrix. -/
def line (x : Vec Ideal S1x1024 .f32) (k : Fin 1024) : EReal := x (ix2 (0 : Fin 1) k)
def wide (x : Vec Ideal S1x1024x256 .bf16) (d : Fin 1024) (k : Fin 256) : EReal := x (ix3 (0 : Fin 1) d k)
def tall (x : Vec Ideal S1x256x1024 .bf16) (k : Fin 256) (c : Fin 1024) : EReal := x (ix3 (0 : Fin 1) k c)

theorem get_apply (j : ℕ) (r : Fin 256) (l : Fin 128) :
    get j x0 (ix2 r l) = x0 (ix2 (⟨9 * r.val + j % 9, by omega⟩ : Fin 2304) l) := by
  exact congrArg x0 (ix2_eq_valueIdx _ _).symm

theorem hRow_apply (r : Fin 256) (k : Fin 1024) : hRow x0 (ix2 r k) = rowOf x0 r k := by
  pointwise [hRow, k0_pay22]
  have hk := k.isLt
  split_ifs <;> refine (get_apply x0 _ r _).trans (congrArg x0 ((ix2_inj _ _ _ _).2 ⟨Fin.ext ?_, Fin.ext ?_⟩)) <;> dsimp only <;> omega

theorem xNorm_apply (r : Fin 256) (k : Fin 1024) : xNorm x0 x1 (ix2 r k) = normed (rowOf x0 r) (line x1) k := by
  have e : k0_pay22 (get 0 x0) (get 1 x0) (get 2 x0) (get 3 x0) (get 4 x0) (get 5 x0) (get 6 x0) (get 7 x0) = hRow x0 := rfl
  unfold xNorm k0_pay25
  rw [e]
  pointwise [hRow_apply]
  rfl

/-- The second expert's hidden values, weighted. -/
theorem hi_apply (w : FVec Ideal S256x1 .f32) (x : FVec Ideal S256x1024 .bf16) (r : Fin 256) (k : Fin 256) :
    k0_pay27 w x x5 x6 (ix2 r k) = hidden (fun d => x (ix2 r d)) (wide x5) (wide x6) k * w (ix2 r (0 : Fin 1)) := by
  pointwise [k0_pay27]
  rfl

theorem gLo_apply (r : Fin 256) (k : Fin 256) : gLo x0 x1 x2 (ix2 r k) = proj (normed (rowOf x0 r) (line x1)) (wide x2) k := by
  have e : k0_pay25 (get 0 x0) (get 1 x0) (get 2 x0) (get 3 x0) (get 4 x0) (get 5 x0) (get 6 x0) (get 7 x0) x1 = xNorm x0 x1 := rfl
  unfold gLo k0_pay26
  rw [e]
  pointwise [xNorm_apply]
  rfl

/-- The row plus the first expert's weighted contribution. -/
theorem lo_apply (w : FVec Ideal S256x1 .f32) (r : Fin 256) (c : Fin 1024) :
    k0_pay28 (hRow x0) w (xNorm x0 x1) (gLo x0 x1 x2) x3 x4 (ix2 r c)
      = rowOf x0 r c + ∑ k, hidden (normed (rowOf x0 r) (line x1)) (wide x2) (wide x3) k * w (ix2 r (0 : Fin 1)) * tall x4 k c := by
  pointwise [k0_pay28, hRow_apply, xNorm_apply, gLo_apply]
  rfl

theorem wLo_apply (r : Fin 256) : wLo x0 (ix2 r (0 : Fin 1)) = weightOf x0 r 0 := by
  pointwise [wLo, k0_pay23, get_apply]
  rfl

theorem wHi_apply (r : Fin 256) : wHi x0 (ix2 r (0 : Fin 1)) = weightOf x0 r 1 := by
  pointwise [wHi, k0_pay24, get_apply]
  rfl

/-- A result row, for weights that are finite and not negative. -/
theorem resRow_apply (r : Fin 256) (c : Fin 1024) (h0 : 0 ≤ weightOf x0 r 0) (h0' : weightOf x0 r 0 ≠ ⊤)
    (h1 : 0 ≤ weightOf x0 r 1) (h1' : weightOf x0 r 1 ≠ ⊤) :
    resRow x0 x1 x2 x3 x4 x5 x6 x7 (ix2 r c)
      = routed (rowOf x0 r) (line x1) (weightOf x0 r 0) (weightOf x0 r 1) (wide x2) (wide x3) (tall x4) (wide x5) (wide x6) (tall x7) c := by
  unfold resRow
  pointwise [k0_pay2, k0_pay29, lo_apply, hi_apply, wLo_apply, wHi_apply, xNorm_apply]
  unfold routed
  rw [weighted _ _ _ _ _ h0 h0', ← weighted _ _ _ _ _ h1 h1', add_assoc]
  rfl

end Cert.KernelIdeal.Experts
end
-- ==== Proof.Experts.Reference.lean ====
/- The reference's result, element by element over the extended reals. -/
module

public import proofs.«01_k».proof.Proof.Gen.ReferenceIdeal.Run
public import proofs.«01_k».proof.Proof.Experts.Spec
public import Idealize.ShloMosaic.Lib.StableHlo.Predicate
@[expose] public section

set_option maxRecDepth 16384

noncomputable section

namespace Cert.ReferenceIdeal.Pieces

open Cert.ReferenceIdeal Cert.ReferenceIdeal.Gen Idealize.ShloMosaic Idealize.ShloMosaic.TcCoe Idealize.ShloMosaic.StableHlo
open Cert.Routed

/-! ## The term, in named pieces -/

/-- The tokens' rows. -/
def tokRows (A : FVec Ideal S294912x128 .f32) : FVec Ideal S32768x1024 .f32 :=
  shapeCast _ (extractStridedSlice S32768x8x128 ![0, 0, 0] (shapeCast _ A shapeCasts_S294912x128_S32768x9x128) slices_S32768x9x128_S32768x8x128_0_0_0) shapeCasts_S32768x8x128_S32768x1024

/-- The tokens' two weights. -/
def pairs (A : FVec Ideal S294912x128 .f32) : FVec Ideal S32768x2 .f32 :=
  shapeCast _ (extractStridedSlice S32768x1x2 ![0, 8, 0] (shapeCast _ A shapeCasts_S294912x128_S32768x9x128) slices_S32768x9x128_S32768x1x2_0_8_0) shapeCasts_S32768x1x2_S32768x2

/-- For each token, the sum of a table over the items that hold the token. -/
def heldSum (st en tab : IVec S240 32) : IVec S32768 32 :=
  Host.reduce IntOp.addi (select (andi (cmpi .sle (broadcastInDim S32768x240 ![0, 1] bcast_S1x240_S32768x240_0_1 (broadcastInDim S1x240 ![1] bcast_S240_S1x240_1 st)) (broadcastInDim S32768x240 ![0, 1] bcast_S32768x1_S32768x240_0_1 (broadcastInDim S32768x1 ![0] bcast_S32768_S32768x1_0 (iotaInDim S32768 32 0)))) (cmpi .slt (broadcastInDim S32768x240 ![0, 1] bcast_S32768x1_S32768x240_0_1 (broadcastInDim S32768x1 ![0] bcast_S32768_S32768x1_0 (iotaInDim S32768 32 0))) (broadcastInDim S32768x240 ![0, 1] bcast_S1x240_S32768x240_0_1 (broadcastInDim S1x240 ![1] bcast_S240_S1x240_1 en)))) (broadcastInDim S32768x240 ![0, 1] bcast_S1x240_S32768x240_0_1 (broadcastInDim S1x240 ![1] bcast_S240_S1x240_1 tab)) (broadcastInDim S32768x240 ![] bcast_S_S32768x240 (id (constantI S_ 32 0#32)))) (constantI S_ 32 0#32) reducesTo_S32768x240_S32768_d1 h_S_

/-- Each token's weight for each expert. -/
def combine (lo hi : IVec S32768 32) (w : FVec Ideal S32768x2 .f32) : FVec Ideal S32768x32 .f32 :=
  Host.reduceAdd (mulf (uitofp .f32 (cmpi .eq (broadcastInDim S32768x2x32 ![0, 1, 2] bcast_S32768x2x1_S32768x2x32_0_1_2 (broadcastInDim S32768x2x1 ![0, 1] bcast_S32768x2_S32768x2x1_0_1 (concatenate S32768x2 1 [⟨S32768x1, (broadcastInDim S32768x1 ![0] bcast_S32768_S32768x1_0 lo)⟩, ⟨S32768x1, (broadcastInDim S32768x1 ![0] bcast_S32768_S32768x1_0 hi)⟩] concatenates_S32768x1_S32768x1_S32768x2_d1))) (broadcastInDim S32768x2x32 ![0, 1, 2] bcast_S1x1x32_S32768x2x32_0_1_2 (iotaInDim S1x1x32 32 2)))) (broadcastInDim S32768x2x32 ![0, 1, 2] bcast_S32768x2x1_S32768x2x32_0_1_2 (broadcastInDim S32768x2x1 ![0, 1] bcast_S32768x2_S32768x2x1_0_1 w))) (constant S_ .f32 0x00000000#32) reducesTo_S32768x2x32_S32768x32_d1 h_S_

/-- The normalised rows. -/
def norms (h : FVec Ideal S32768x1024 .f32) (s : FVec Ideal S1x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 s)

/-- All experts' products with a weight array. -/
def prods (W : FVec Ideal S32x1024x256 .f32) (x : FVec Ideal S32768x1024 .f32) : FVec Ideal S32x32768x256 .f32 :=
  transpose S32x32768x256 [0, 2, 1] (Host.dotGeneral dot_S32x1024x256_S32768x1024_S32x256x32768_1_1_02_0_n_n none W x) transposes_S32x256x32768_S32x32768x256_0_2_1

/-- All experts' hidden values. -/
def hiddens (g u : FVec Ideal S32x32768x256 .f32) : FVec Ideal S32x32768x256 .f32 :=
  mulf (mulf g (Host.divf (broadcastInDim S32x32768x256 ![] bcast_S_S32x32768x256 (constant S_ .f32 0x3F800000#32)) (addf (broadcastInDim S32x32768x256 ![] bcast_S_S32x32768x256 (constant S_ .f32 0x3F800000#32)) (Host.exp (Host.negf g))))) u

/-- The rows plus the combined outputs. -/
def total (h : FVec Ideal S32768x1024 .f32) (w : FVec Ideal S32768x32 .f32) (a : FVec Ideal S32x32768x256 .f32) (D : FVec Ideal S32x256x1024 .f32) :
    FVec Ideal S32768x1024 .f32 :=
  addf h (Host.reduceAdd (mulf (broadcastInDim S32x32768x1024 ![0, 1, 2] bcast_S32x32768x1_S32x32768x1024_0_1_2 (broadcastInDim S32x32768x1 ![0, 1] bcast_S32x32768_S32x32768x1_0_1 (transpose S32x32768 [1, 0] w transposes_S32768x32_S32x32768_1_0))) (Host.dotGeneral dot_S32x32768x256_S32x256x1024_S32x32768x1024_2_1_1_2_0_0 none a D)) (constant S_ .f32 0x00000000#32) reducesTo_S32x32768x1024_S32768x1024_d0 h_S_)

/-- The result array of the result rows. -/
def laid (r : FVec Ideal S32768x1024 .f32) : FVec Ideal S294912x128 .f32 :=
  shapeCast _ (concatenate S32768x9x128 1 [⟨S32768x8x128, (shapeCast _ r shapeCasts_S32768x1024_S32768x8x128)⟩, ⟨S32768x1x128, (broadcastInDim S32768x1x128 ![] bcast_S_S32768x1x128 (constant (F := Ideal) S_ .f32 0x00000000#32))⟩] concatenates_S32768x8x128_S32768x1x128_S32768x9x128_d1) shapeCasts_S32768x9x128_S294912x128

variable (m : (ℓ : Loc nD τ sig) → Buf (Elt Ideal) ℓ) (c : Dev nD)

set_option maxHeartbeats 1000000 in
theorem term_eq : Value.res_main_v59 (F := Ideal) m c
    = laid (total (tokRows (m ((c.tc : Thread nD τ).loc main_arg5)))
        (combine (heldSum (m ((c.tc : Thread nD τ).loc main_arg3)) (m ((c.tc : Thread nD τ).loc main_arg4)) (m ((c.tc : Thread nD τ).loc main_arg1)))
          (heldSum (m ((c.tc : Thread nD τ).loc main_arg3)) (m ((c.tc : Thread nD τ).loc main_arg4)) (m ((c.tc : Thread nD τ).loc main_arg2)))
          (pairs (m ((c.tc : Thread nD τ).loc main_arg5))))
        (hiddens (prods (m ((c.tc : Thread nD τ).loc main_arg7)) (norms (tokRows (m ((c.tc : Thread nD τ).loc main_arg5))) (m ((c.tc : Thread nD τ).loc main_arg6))))
          (prods (m ((c.tc : Thread nD τ).loc main_arg8)) (norms (tokRows (m ((c.tc : Thread nD τ).loc main_arg5))) (m ((c.tc : Thread nD τ).loc main_arg6)))))
        (m ((c.tc : Thread nD τ).loc main_arg9))) := rfl

/-! ## The pieces, read -/

theorem rows_apply (A : FVec Ideal S294912x128 .f32) (t : Fin 32768) (k : Fin 1024) :
    tokRows A (ix2 t k) = A (ix2 (⟨9 * t.val + k.val / 128, by omega⟩ : Fin 294912) (⟨k.val % 128, by omega⟩ : Fin 128)) := by
  pointwise [tokRows]
  exact congrArg A ((ix2_inj _ _ _ _).2 ⟨Fin.ext (by dsimp only; omega), rfl⟩)

theorem pairs_apply (A : FVec Ideal S294912x128 .f32) (t : Fin 32768) (j : Fin 2) :
    pairs A (ix2 t j) = A (ix2 (⟨9 * t.val + 8, by omega⟩ : Fin 294912) (⟨j.val, by omega⟩ : Fin 128)) := by
  pointwise [pairs]
  exact congrArg A ((ix2_inj _ _ _ _).2 ⟨Fin.ext (by dsimp only; omega), rfl⟩)

/-- A sum of words with one term that is not zero. -/
theorem fold_one {n : ℕ} (f : Fin n → BitVec 32) (k : Fin n) (h : ∀ x, x ≠ k → f x = 0#32) :
    Finset.fold IntOp.addi (0#32) f Finset.univ = f k := by
  classical
  have step : ∀ s : Finset (Fin n), Finset.fold IntOp.addi (0#32) f s = if k ∈ s then f k else 0#32 := fun s => by
    induction s using Finset.induction_on with
    | empty => rfl
    | insert a s ha ih =>
      rw [Finset.fold_insert ha, ih]
      by_cases e : a = k
      · subst e
        rw [if_neg ha, if_pos (Finset.mem_insert_self a s)]
        exact BitVec.add_zero (f a)
      · rw [h a e]
        have : k ∈ insert a s ↔ k ∈ s := by rw [Finset.mem_insert]; exact ⟨fun h => h.resolve_left (Ne.symm e), Or.inr⟩
        simp only [this]
        exact BitVec.zero_add _
  rw [step, if_pos (Finset.mem_univ k)]

/-- The bit that says whether an item holds a token. -/
def holds (st en : IVec S240 32) (n : Fin 240) (t : Fin 32768) : BitVec 1 :=
  IntOp.andi (IntOp.cmpi .sle (st (ix1 n)) (BitVec.ofNat 32 t.val)) (IntOp.cmpi .slt (BitVec.ofNat 32 t.val) (en (ix1 n)))

/-- A token that one item holds, and no other, gets that item's entry of the table. -/
theorem held_apply (st en tab : IVec S240 32) (t : Fin 32768) (n : Fin 240) (h : holds st en n t = 1#1)
    (ho : ∀ x, x ≠ n → holds st en x t ≠ 1#1) : heldSum st en tab (ix1 t) = tab (ix1 n) := by
  pointwise [heldSum]
  refine (fold_one _ n fun x hx => ?_).trans ?_
  · exact if_neg (ho x hx)
  · exact if_pos h

/-- A bit as a number. -/
theorem bit_hot (a e : Fin 32) : FloatOps.uitofp (F := Ideal) .f32 (IntOp.cmpi .eq (BitVec.ofNat 32 a.val) (BitVec.ofNat 32 e.val)) = hot a e := by
  unfold hot
  by_cases h : a = e
  · subst h
    rw [if_pos rfl, StableHlo.Predicate.cmpi_eq_iff.mpr rfl]
    show (((1#1 : BitVec 1).toNat : ℝ) : EReal) = 1
    simp
  · have hb : IntOp.cmpi .eq (BitVec.ofNat 32 a.val) (BitVec.ofNat 32 e.val) = 0#1 := by
      refine (BitVec.eq_zero_or_eq_one _).resolve_right fun h1 => h (Fin.ext ?_)
      have e1 := congrArg BitVec.toNat (StableHlo.Predicate.cmpi_eq_iff.mp h1)
      rw [BitVec.toNat_ofNat, BitVec.toNat_ofNat] at e1
      omega
    rw [if_neg h, hb]
    show (((0#1 : BitVec 1).toNat : ℝ) : EReal) = 0
    simp

theorem combine_apply (lo hi : IVec S32768 32) (w : FVec Ideal S32768x2 .f32) (t : Fin 32768) (a b e : Fin 32)
    (ha : lo (ix1 t) = BitVec.ofNat 32 a.val) (hb : hi (ix1 t) = BitVec.ofNat 32 b.val) :
    combine lo hi w (ix2 t e) = hot a e * w (ix2 t (0 : Fin 2)) + hot b e * w (ix2 t (1 : Fin 2)) := by
  pointwise [combine]
  rw [ha, hb, bit_hot, bit_hot, Fin.sum_univ_one, Fin.sum_univ_one]

theorem norms_apply (h : FVec Ideal S32768x1024 .f32) (s : FVec Ideal S1x1024 .f32) (t : Fin 32768) (k : Fin 1024) :
    norms h s (ix2 t k) = normed (fun d => h (ix2 t d)) (fun d => s (ix2 (0 : Fin 1) d)) k := by
  pointwise [norms]
  rfl

theorem prods_apply (W : FVec Ideal S32x1024x256 .f32) (x : FVec Ideal S32768x1024 .f32) (e : Fin 32) (t : Fin 32768) (k : Fin 256) :
    prods W x (ix3 e t k) = proj (fun d => x (ix2 t d)) (fun d k => W (ix3 e d k)) k := by
  pointwise [prods]
  exact Finset.sum_congr rfl fun d _ => mul_comm _ _

theorem hiddens_apply (g u : FVec Ideal S32x32768x256 .f32) (e : Fin 32) (t : Fin 32768) (k : Fin 256) :
    hiddens g u (ix3 e t k) = swish (g (ix3 e t k)) * u (ix3 e t k) := by
  pointwise [hiddens]
  unfold swish
  rw [zero_sub]

theorem total_apply (h : FVec Ideal S32768x1024 .f32) (w : FVec Ideal S32768x32 .f32) (a : FVec Ideal S32x32768x256 .f32) (D : FVec Ideal S32x256x1024 .f32)
    (t : Fin 32768) (c : Fin 1024) : total h w a D (ix2 t c) = h (ix2 t c) + ∑ e : Fin 32, w (ix2 t e) * ∑ k : Fin 256, a (ix3 e t k) * D (ix3 e k c) := by
  pointwise [total]

theorem laid_apply (r : FVec Ideal S32768x1024 .f32) (y : Fin 294912) (l : Fin 128) :
    laid r (ix2 y l) = if y.val % 9 = 8 then 0 else r (ix2 (⟨y.val / 9, by omega⟩ : Fin 32768) (⟨128 * (y.val % 9 % 8) + l.val, by omega⟩ : Fin 1024)) := by
  pointwise [laid]
  by_cases h : y.val % 9 < 8
  · rw [dif_pos h, if_neg (by omega)]
    exact congrArg r ((ix2_inj _ _ _ _).2 ⟨rfl, Fin.ext (by dsimp only; omega)⟩)
  · rw [dif_neg h, if_pos (by omega)]

/-- The result rows: every token's row plus its two experts' outputs, each times its weight. -/
theorem total_routed (A : FVec Ideal S294912x128 .f32) (s : FVec Ideal S1x1024 .f32) (G U : FVec Ideal S32x1024x256 .f32) (D : FVec Ideal S32x256x1024 .f32)
    (lo hi : IVec S32768 32) (t : Fin 32768) (a b : Fin 32) (ha : lo (ix1 t) = BitVec.ofNat 32 a.val) (hb : hi (ix1 t) = BitVec.ofNat 32 b.val)
    (h₀ : 0 ≤ pairs A (ix2 t (0 : Fin 2))) (h₁ : 0 ≤ pairs A (ix2 t (1 : Fin 2))) (c : Fin 1024) :
    total (tokRows A) (combine lo hi (pairs A)) (hiddens (prods G (norms (tokRows A) s)) (prods U (norms (tokRows A) s))) D (ix2 t c)
      = routed (fun k => tokRows A (ix2 t k)) (fun k => s (ix2 (0 : Fin 1) k)) (pairs A (ix2 t (0 : Fin 2))) (pairs A (ix2 t (1 : Fin 2)))
          (fun d k => G (ix3 a d k)) (fun d k => U (ix3 a d k)) (fun k c => D (ix3 a k c))
          (fun d k => G (ix3 b d k)) (fun d k => U (ix3 b d k)) (fun k c => D (ix3 b k c)) c := by
  have x : (fun d => norms (tokRows A) s (ix2 t d)) = normed (fun k => tokRows A (ix2 t k)) (fun k => s (ix2 (0 : Fin 1) k)) :=
    funext fun d => norms_apply _ _ _ _
  rw [total_apply]
  refine congrArg (tokRows A (ix2 t c) + ·) ?_
  rw [← combined a b _ _ h₀ h₁ fun e => ffn (normed (fun k => tokRows A (ix2 t k)) (fun k => s (ix2 (0 : Fin 1) k)))
    (fun d k => G (ix3 e d k)) (fun d k => U (ix3 e d k)) (fun k c => D (ix3 e k c)) c]
  refine Finset.sum_congr rfl fun e _ => ?_
  rw [combine_apply lo hi (pairs A) t a b e ha hb]
  refine congrArg (_ * ·) (Finset.sum_congr rfl fun k _ => ?_)
  rw [hiddens_apply, prods_apply, prods_apply, x]
  rfl

end Cert.ReferenceIdeal.Pieces
end
-- ==== Proof.Experts.Weights.lean ====
/- The precondition's last component, decoded over the extended reals: both combine weights of every token are finite and
   not negative. -/
module

public import proofs.«01_k».proof.Proof.Experts.Items
public import Idealize.ShloMosaic.Lib.Pointwise
@[expose] public section

set_option maxRecDepth 16384

noncomputable section

namespace Cert.Items

open Idealize.ShloMosaic
open Cert.Pre_work_items Cert.Pre_work_items.Gen

theorem inf_word : Ideal.ofBits .f32 0x7F800000#32 = ⊤ := by
  simp [Ideal.ofBits, Ideal.ieee]

theorem weights_of (ti lo hi st en : Tbl) (h5 : FVec Ideal S294912x128 .f32) (h6 : FVec Ideal S1x1024 .f32) (h7 h8 : FVec Ideal S32x1024x256 .f32)
    (h9 : FVec Ideal S32x256x1024 .f32) (h : AllOnes ti lo hi st en h5 h6 h7 h8 h9) (t : Fin 32768) (j : Fin 2) :
    0 ≤ h5 (ix2 (⟨9 * t.val + 8, by omega⟩ : Fin 294912) (⟨j.val, by omega⟩ : Fin 128))
      ∧ h5 (ix2 (⟨9 * t.val + 8, by omega⟩ : Fin 294912) (⟨j.val, by omega⟩ : Fin 128)) ≠ ⊤ := by
  obtain ⟨-, -, -, -, -, -, -, -, -, e⟩ := h
  have e' : andi (cmpf .oge (shapeCast S32768x2 (extractStridedSlice S32768x1x2 ![0, 8, 0] (shapeCast S32768x9x128 h5 shapeCasts_S294912x128_S32768x9x128) slices_S32768x9x128_S32768x1x2_0_8_0) shapeCasts_S32768x1x2_S32768x2) (broadcastInDim S32768x2 ![] bcast_S_S32768x2 (constant S_ .f32 0x00000000#32)))
      (cmpf .olt (shapeCast S32768x2 (extractStridedSlice S32768x1x2 ![0, 8, 0] (shapeCast S32768x9x128 h5 shapeCasts_S294912x128_S32768x9x128) slices_S32768x9x128_S32768x1x2_0_8_0) shapeCasts_S32768x1x2_S32768x2) (broadcastInDim S32768x2 ![] bcast_S_S32768x2 (constant S_ .f32 0x7F800000#32))) (ix2 t j) = 1#1 := congrFun e (ix2 t j)
  revert e'
  pointwise [inf_word]
  intro e'
  have p : (⟨t.val * 9 + 8, by omega⟩ : Fin 294912) = ⟨9 * t.val + 8, by omega⟩ := Fin.ext (by dsimp only; omega)
  rw [← p]
  obtain ⟨a, b⟩ := and_one.mp e'
  exact ⟨of_decide_eq_true ((StableHlo.Predicate.ofBool_eq_one_iff _).mp a), (of_decide_eq_true ((StableHlo.Predicate.ofBool_eq_one_iff _).mp b)).ne⟩

end Cert.Items
end
-- ==== Proof.Experts.Meet.lean ====
/- The kernel's result array is the reference's: both are, token by token, the row plus its two experts' weighted outputs. -/
module

public import proofs.«01_k».proof.Proof.Experts.Array
public import proofs.«01_k».proof.Proof.Experts.Value
public import proofs.«01_k».proof.Proof.Experts.Reference
public import proofs.«01_k».proof.Proof.Experts.Weights
@[expose] public section

set_option maxRecDepth 16384

noncomputable section

namespace Cert.KernelIdeal.Experts

open Cert.KernelIdeal Cert.KernelIdeal.Gen
open Idealize.ShloMosaic Idealize.ShloMosaic.TcCoe
open Cert.Routed Cert.Items
open Cert.ReferenceIdeal.Pieces (tokRows pairs heldSum combine norms prods hiddens total laid holds)

/-- An item's bit for a token says that it owns the token. -/
theorem holds_iff {ti lo hi st en : Tbl} (I : Items ti lo hi st en) (n : Fin 240) (t : Fin 32768) :
    holds st en n t = 1#1 ↔ Owns st en n t.val := by
  have ht : (BitVec.ofNat 32 t.val).toNat = t.val := by rw [BitVec.toNat_ofNat]; exact Nat.mod_eq_of_lt (by omega)
  have hs := I.st_le n; have he := I.en_ti n; have hi := I.ti_lt n
  unfold num at hs he hi
  unfold holds Owns
  simp only [ix1_eq_valueIdx]
  rw [and_one, sle_int, slt_int, StableHlo.Predicate.toInt_eq_toNat_of_lt (show (BitVec.ofNat 32 t.val).toNat < 2 ^ 31 by omega), ht,
    StableHlo.Predicate.toInt_eq_toNat_of_lt (show (st (ValueIdx.ix1 n)).toNat < 2 ^ 31 by omega),
    StableHlo.Predicate.toInt_eq_toNat_of_lt (show (en (ValueIdx.ix1 n)).toNat < 2 ^ 31 by omega)]
  unfold num
  omega

/-- The reference's decoded table entry of a token is its owner's. -/
theorem held_owner {ti lo hi st en : Tbl} (I : Items ti lo hi st en) (tab : Tbl) (t : Fin 32768) :
    heldSum st en tab (ix1 t) = tab (ix1 (ownerOf st en t.val)) := by
  have o := ownerOf_owns I t.isLt
  exact ReferenceIdeal.Pieces.held_apply st en tab t _ ((holds_iff I _ t).mpr o) fun x hx h => hx (Owns.unique I ((holds_iff I x t).mp h) o)

variable (m : (ℓ : Loc nD τ sig) → Buf (Elt Ideal) ℓ) (I : Itm m) (hO : Ok m) (c : Dev nD)

/-- The arguments, by name. -/
abbrev argA : FVec Ideal S294912x128 .f32 := m ((c.tc : Thread nD τ).loc main_arg5)
abbrev argS : FVec Ideal S1x1024 .f32 := m ((c.tc : Thread nD τ).loc main_arg6)
abbrev argG : FVec Ideal S32x1024x256 .f32 := m ((c.tc : Thread nD τ).loc main_arg7)
abbrev argU : FVec Ideal S32x1024x256 .f32 := m ((c.tc : Thread nD τ).loc main_arg8)
abbrev argD : FVec Ideal S32x256x1024 .f32 := m ((c.tc : Thread nD τ).loc main_arg9)

/-- The weights a token's slab holds are finite and not negative. -/
abbrev Good : Prop := ∀ (t : Fin 32768) (j : Fin 2), 0 ≤ pairs (argA m c) (ix2 t j) ∧ pairs (argA m c) (ix2 t j) ≠ ⊤

/-- A token's two experts. -/
def loOf (t : Fin 32768) : Fin 32 := ⟨num (tbl m 1) (ownerOf (tbl m 3) (tbl m 4) t.val), I.lo_lt _⟩
def hiOf (t : Fin 32768) : Fin 32 := ⟨num (tbl m 2) (ownerOf (tbl m 3) (tbl m 4) t.val), I.hi_lt _⟩

/-- A token's result, from the argument arrays. -/
def tokenOut (t : Fin 32768) (k : Fin 1024) : EReal :=
  routed (fun k => tokRows (argA m c) (ix2 t k)) (fun k => argS m c (ix2 (0 : Fin 1) k)) (pairs (argA m c) (ix2 t (0 : Fin 2))) (pairs (argA m c) (ix2 t (1 : Fin 2)))
    (fun d k => argG m c (ix3 (loOf m I t) d k)) (fun d k => argU m c (ix3 (loOf m I t) d k)) (fun k c' => argD m c (ix3 (loOf m I t) k c'))
    (fun d k => argG m c (ix3 (hiOf m I t) d k)) (fun d k => argU m c (ix3 (hiOf m I t) d k)) (fun k c' => argD m c (ix3 (hiOf m I t) k c')) k

/-! ## The kernel's side -/

/-- An expert's weight block, read as a matrix. -/
theorem wide_pane (e : Fin 32) (x : ℕ) (hx : x < 32) (h : x = e.val) (W : FVec Ideal S32x1024x256 .f32) :
    wide (pane (A := 1024) (B := 256) x hx W) = fun d k => W (ix3 e d k) := by
  subst h
  exact funext fun d => funext fun k => congrArg W (ix3_eq_valueIdx _ _ _).symm

theorem tall_pane (e : Fin 32) (x : ℕ) (hx : x < 32) (h : x = e.val) (W : FVec Ideal S32x256x1024 .f32) :
    tall (pane (A := 256) (B := 1024) x hx W) = fun k c => W (ix3 e k c) := by
  subst h
  exact funext fun d => funext fun k => congrArg W (ix3_eq_valueIdx _ _ _).symm

section Side

variable (t : Fin 32768) (n : Fin (cfgM m hO).N) (hn : item n = ownerOf (tbl m 3) (tbl m 4) t.val)
include I hn

theorem item_tile : num (tbl m 0) (item n) = t.val / 256 := by
  rw [hn]; exact Owns.tile I (ownerOf_owns I t.isLt)

/-- The token's place in its tile. -/
abbrev place (t : Fin 32768) : Fin 256 := ⟨t.val % 256, Nat.mod_lt _ (by decide)⟩

theorem row_block (k : Fin 1024) : rowOf (iblk m hO c 0 n) (place t) k = tokRows (argA m c) (ix2 t k) := by
  rw [iblk_0 m I hO c n, ReferenceIdeal.Pieces.rows_apply]
  have e := item_tile m I hO t n hn
  refine congrArg (argA m c) ((ix2_eq_valueIdx _ _).symm.trans ((ix2_inj _ _ _ _).2 ⟨Fin.ext ?_, rfl⟩))
  show num (tbl m 0) (item n) * 2304 + (9 * (t.val % 256) + k.val / 128) = 9 * t.val + k.val / 128
  omega

theorem weight_block (j : Fin 2) : weightOf (iblk m hO c 0 n) (place t) ⟨j.val, by omega⟩ = pairs (argA m c) (ix2 t j) := by
  rw [iblk_0 m I hO c n, ReferenceIdeal.Pieces.pairs_apply]
  have e := item_tile m I hO t n hn
  refine congrArg (argA m c) ((ix2_eq_valueIdx _ _).symm.trans ((ix2_inj _ _ _ _).2 ⟨Fin.ext ?_, rfl⟩))
  show num (tbl m 0) (item n) * 2304 + (9 * (t.val % 256) + 8) = 9 * t.val + 8
  omega

theorem res_token (hg : Good m c) (k : Fin 1024) : res m hO c n (ix2 (place t) k) = tokenOut m I c t k := by
  have w0 := weight_block m I hO c t n hn 0
  have w1 := weight_block m I hO c t n hn 1
  have r := funext (row_block m I hO c t n hn)
  have l : num (tbl m 1) (item n) = (loOf m I t).val := congrArg (num (tbl m 1)) hn
  have h : num (tbl m 2) (item n) = (hiOf m I t).val := congrArg (num (tbl m 2)) hn
  have e2 : wide (iblk m hO c 2 n) = _ := (congrArg wide (iblk_2 m I hO c n)).trans (wide_pane (loOf m I t) _ (lo_lt m I hO n) l (argG m c))
  have e3 : wide (iblk m hO c 3 n) = _ := (congrArg wide (iblk_3 m I hO c n)).trans (wide_pane (loOf m I t) _ (lo_lt m I hO n) l (argU m c))
  have e4 : tall (iblk m hO c 4 n) = _ := (congrArg tall (iblk_4 m I hO c n)).trans (tall_pane (loOf m I t) _ (lo_lt m I hO n) l (argD m c))
  have e5 : wide (iblk m hO c 5 n) = _ := (congrArg wide (iblk_5 m I hO c n)).trans (wide_pane (hiOf m I t) _ (hi_lt m I hO n) h (argG m c))
  have e6 : wide (iblk m hO c 6 n) = _ := (congrArg wide (iblk_6 m I hO c n)).trans (wide_pane (hiOf m I t) _ (hi_lt m I hO n) h (argU m c))
  have e7 : tall (iblk m hO c 7 n) = _ := (congrArg tall (iblk_7 m I hO c n)).trans (tall_pane (hiOf m I t) _ (hi_lt m I hO n) h (argD m c))
  have e1 : line (iblk m hO c 1 n) = fun k => argS m c (ix2 (0 : Fin 1) k) := congrArg line (iblk_1 m hO c n)
  refine (resRow_apply (iblk m hO c 0 n) (iblk m hO c 1 n) (iblk m hO c 2 n) (iblk m hO c 3 n) (iblk m hO c 4 n) (iblk m hO c 5 n) (iblk m hO c 6 n)
    (iblk m hO c 7 n) (place t) k ((hg t 0).1.trans_eq w0.symm) (fun z => (hg t 0).2 (w0.symm.trans z)) ((hg t 1).1.trans_eq w1.symm)
    (fun z => (hg t 1).2 (w1.symm.trans z))).trans ?_
  rw [e1, e2, e3, e4, e5, e6, e7, r]
  exact congrArg₂ (fun a b => routed _ _ a b _ _ _ _ _ _ k) w0 w1

end Side

theorem slab_apply (j : ℕ) (R : FVec Ideal S256x1024 .f32) (p : Fin 256) (l : Fin 128) :
    slab j R (ValueIdx.ix2 p l) = R (ix2 p (⟨128 * (j % 8) + l.val, by omega⟩ : Fin 1024)) :=
  congrArg R (ix2_eq_valueIdx _ _).symm

theorem outArr_tok (y : Fin 294912) (l : Fin 128) (h : ¬ y.val % 9 = 8) (n : Fin (cfgM m hO).N)
    (hn : n = ⟨(ownerOf (tbl m 3) (tbl m 4) (y.val / 9)).val, (ownerOf (tbl m 3) (tbl m 4) (y.val / 9)).isLt⟩) :
    outArr m hO c (ix2 y l) = slab (y.val % 9) (res m hO c n) (ValueIdx.ix2 (⟨y.val / 9 % 256, Nat.mod_lt _ (by decide)⟩ : Fin 256) l) := by
  subst hn
  exact if_neg h

theorem outArr_pad (y : Fin 294912) (l : Fin 128) (h : y.val % 9 = 8) : outArr m hO c (ix2 y l) = Ideal.ofBits .f32 0x00000000#32 := if_pos h

/-- The kernel's result array, element by element. -/
theorem outArr_apply (hg : Good m c) (y : Fin 294912) (l : Fin 128) :
    outArr m hO c (ix2 y l) = if y.val % 9 = 8 then 0
      else tokenOut m I c (⟨y.val / 9, by omega⟩ : Fin 32768) (⟨128 * (y.val % 9 % 8) + l.val, by omega⟩ : Fin 1024) := by
  by_cases h : y.val % 9 = 8
  · rw [if_pos h, outArr_pad m hO c y l h]
    exact Ideal.ofBits_zero_f32
  · rw [if_neg h, outArr_tok m hO c y l h _ rfl, slab_apply]
    exact res_token m I hO c (⟨y.val / 9, by omega⟩ : Fin 32768) _ rfl hg _

/-! ## The reference's side -/

/-- The reference's result array on the same arguments. -/
def refArr : FVec Ideal S294912x128 .f32 :=
  laid (total (tokRows (argA m c)) (combine (heldSum (tbl m 3) (tbl m 4) (tbl m 1)) (heldSum (tbl m 3) (tbl m 4) (tbl m 2)) (pairs (argA m c)))
    (hiddens (prods (argG m c) (norms (tokRows (argA m c)) (argS m c))) (prods (argU m c) (norms (tokRows (argA m c)) (argS m c)))) (argD m c))

theorem refArr_apply (hg : Good m c) (y : Fin 294912) (l : Fin 128) :
    refArr m c (ix2 y l) = if y.val % 9 = 8 then 0
      else tokenOut m I c (⟨y.val / 9, by omega⟩ : Fin 32768) (⟨128 * (y.val % 9 % 8) + l.val, by omega⟩ : Fin 1024) := by
  have w : ∀ (tab : Tbl) (n : Fin 240), tab (ix1 n) = BitVec.ofNat 32 (num tab n) := fun tab n => by
    rw [ix1_eq_valueIdx]
    exact ((BitVec.ofNat_toNat 32 _).trans (BitVec.setWidth_eq _)).symm
  refine (ReferenceIdeal.Pieces.laid_apply _ y l).trans (if_congr Iff.rfl rfl ?_)
  exact ReferenceIdeal.Pieces.total_routed _ _ _ _ _ _ _ _ (loOf m I _) (hiOf m I _)
    ((held_owner I (tbl m 1) _).trans (w _ _)) ((held_owner I (tbl m 2) _).trans (w _ _)) (hg _ 0).1 (hg _ 1).1 _

include I in
/-- The two arrays are one. -/
theorem meet (hg : Good m c) : outArr m hO c = refArr m c := by
  refine funext fun (x : S294912x128.Idx) => ?_
  rw [eq_ix2 x]
  exact (outArr_apply m I hO c hg (x 0) (x 1)).trans (refArr_apply m I c hg (x 0) (x 1)).symm

end Cert.KernelIdeal.Experts
end
-- ==== Proof.Equal.lean ====
/- The value claim: from the same arguments the kernel and the reference end with the same result array. -/
module

public import proofs.«01_k».proof.Proof.Frames
public import proofs.«01_k».proof.Proof.Experts.Meet
@[expose] public section

set_option maxRecDepth 16384

noncomputable section

namespace Cert.Proof

open Idealize.ShloMosaic Idealize.ShloMosaic.TcCoe Idealize.SL.Sem
open Cert.KernelIdeal.Experts

/-- The weights of the ideal reading's memory are finite and not negative. -/
theorem good_ideal (m : (ℓ : Loc Cert.KernelIdeal.nD Cert.KernelIdeal.τ Cert.KernelIdeal.sig) → Buf (Elt Ideal) ℓ)
    (h : Cert.Pre_KernelIdeal (hPre_work_items := Cert.Pre_work_items.Gen.facts) m) (c : Dev Cert.KernelIdeal.nD) : Good m c := by
  intro t j
  rw [Cert.ReferenceIdeal.Pieces.pairs_apply]
  exact Cert.Items.weights_of _ _ _ _ _ _ _ _ _ _ (h c) t j

/-- The reference's result on equal arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v59 (F := Ideal) m' c = refArr m c := by
  obtain rfl : c = 0 := Subsingleton.elim _ _
  rw [Cert.ReferenceIdeal.Pieces.term_eq, e1, e2, e3, e4, e5, e6, e7, e8, e9]
  rfl

theorem algebraic : Cert.algebraic_KernelIdeal_ReferenceIdeal (hKernelIdeal := Cert.KernelIdeal.Gen.facts)
    (hReferenceIdeal := Cert.ReferenceIdeal.Gen.facts) (hPre_work_items := Cert.Pre_work_items.Gen.facts) := by
  intro m g m' g' pre args
  have I := items_ideal m pre
  have hO := ok_of_items m I
  refine ⟨fun c => outArr m hO c, ?_, ?_⟩
  · refine (θ_run Cert.KernelIdeal.defs _ _).mono (fun r h c => ⟨?_, (h.1 c).2⟩) (Cert.KernelIdeal.Experts.run m g I hO)
    exact (h.1 c).1.trans (final m I hO c)
  · refine (θ_run Cert.ReferenceIdeal.defs _ _).mono (fun r h c => ⟨?_, (h c).2⟩) (Cert.ReferenceIdeal.Value.run m' g')
    obtain ⟨-, e1, e2, e3, e4, e5, e6, e7, e8, e9⟩ := args c
    exact (h c).1.trans ((reference_value m m' c e1 e2 e3 e4 e5 e6 e7 e8 e9).trans (meet m I hO c (good_ideal m pre c)).symm)

end Cert.Proof
end
-- ==== Proof.Project.Spec.lean ====
/- The joint input projection over the extended reals: a token's normalised row against one column of the weights. -/
module

public import proofs.«01_k».proof.Proof.Experts.Spec
@[expose] public section

noncomputable section

namespace Cert.Project

open Idealize.ShloMosaic Cert.Routed

/-- Token `t`'s row of the batch, 2048 tokens a sequence. -/
def tokenRow (x : (⟨3, ![16, 2048, 1024]⟩ : Shape).Idx → EReal) (t : Fin 32768) (d : Fin 1024) : EReal :=
  x (ix3 (⟨t.val / 2048, by omega⟩ : Fin 16) (⟨t.val % 2048, by omega⟩ : Fin 2048) d)

/-- Column `j` of token `t`'s projection. -/
def entry (x : (⟨3, ![16, 2048, 1024]⟩ : Shape).Idx → EReal) (g : (⟨2, ![1, 1024]⟩ : Shape).Idx → EReal)
    (w : (⟨3, ![1, 1024, 3328]⟩ : Shape).Idx → EReal) (t : Fin 32768) (j : Fin 3328) : EReal :=
  ∑ k, normed (tokenRow x t) (fun d => g (ix2 (0 : Fin 1) d)) k * w (ix3 (0 : Fin 1) k j)

end Cert.Project
end
-- ==== Proof.Project.Block.lean ====
/- What one grid point of the projection computes: both products of a block of 1024 normalised rows, element by element over
   the extended reals. -/
module

public import proofs.«01_k».proof.Proof.Gen.Kernel2Ideal.Value
public import proofs.«01_k».proof.Proof.Project.Spec
@[expose] public section

set_option maxRecDepth 16384

noncomputable section

namespace Cert.Kernel2Ideal.Project

open Cert.Kernel2Ideal Cert.Kernel2Ideal.Gen Idealize.ShloMosaic Idealize.ShloMosaic.TcCoe
open Cert.Routed

variable (x : Vec Ideal S1024x1024 .f32) (g : Vec Ideal S1x1024 .f32)

/-- The normalised rows. -/
theorem norm_apply (r k : Fin 1024) : k0_pay1 x g (ix2 r k) = normed (fun d => x (ix2 r d)) (fun d => g (ix2 (0 : Fin 1) d)) k := by
  pointwise [k0_pay1]
  rfl

theorem left_apply (w : Vec Ideal S1024x1536 .bf16) (r : Fin 1024) (j : Fin 1536) :
    k0_pay2 x g w (ix2 r j) = ∑ k, normed (fun d => x (ix2 r d)) (fun d => g (ix2 (0 : Fin 1) d)) k * w (ix2 k j) := by
  pointwise [k0_pay2, norm_apply]

theorem right_apply (w : Vec Ideal S1024x1792 .bf16) (r : Fin 1024) (j : Fin 1792) :
    k0_pay3 x g w (ix2 r j) = ∑ k, normed (fun d => x (ix2 r d)) (fun d => g (ix2 (0 : Fin 1) d)) k * w (ix2 k j) := by
  pointwise [k0_pay3, norm_apply]

variable (w₀ : Vec Ideal S1024x1536 .bf16) (w₁ : Vec Ideal S1024x1792 .bf16)

theorem zeros : (![0, 0] : Fin 2 → ℕ) = fun _ => 0 := funext fun a => by fin_cases a <;> rfl

/-- The staged output is the product: the one store covers it and the loads are whole. -/
theorem out_left : out0_4 x g w₀ w₁ = k0_pay2 x g w₀ := by
  unfold out0_4
  rw [View.canon_unit_zero zeros, View.ld_unit_zero zeros, View.ld_unit_zero zeros, View.ld_unit_zero zeros]

theorem out_right : out0_5 x g w₀ w₁ = k0_pay3 x g w₁ := by
  unfold out0_5
  rw [View.canon_unit_zero zeros, View.ld_unit_zero zeros, View.ld_unit_zero zeros, View.ld_unit_zero zeros]

end Cert.Kernel2Ideal.Project
end
-- ==== Proof.Project.Array.lean ====
/- From blocks to arrays: the projection's two result arrays after the run, element by element. -/
module

public import proofs.«01_k».proof.Proof.Project.Block
public import Idealize.ShloMosaic.Lib.StableHlo.Run
public import Idealize.ShloMosaic.Lib.Pipeline.ValueKit.Geometry
@[expose] public section

set_option maxRecDepth 16384

noncomputable section

namespace Cert.Kernel2Ideal.Project

open Cert.Kernel2Ideal Cert.Kernel2Ideal.Gen Idealize.ShloMosaic Idealize.ShloMosaic.TcCoe Idealize.ShloMosaic.StableHlo
open Cert.Routed Cert.Project

variable (m : (ℓ : Loc nD τ sig) → Buf (Elt Ideal) ℓ) (c : Dev nD)

/-! ## The call's operands, as the host prepares them -/

abbrev argX : FVec Ideal S16x2048x1024 .f32 := m ((c : Thread nD τ).loc main_arg0)
abbrev argG : FVec Ideal S1x1024 .f32 := m ((c : Thread nD τ).loc main_arg1)
abbrev argW : FVec Ideal S1x1024x3328 .f32 := m ((c : Thread nD τ).loc main_arg2)

theorem V_rows : V m c main_v2 = shapeCast S32768x1024 (argX m c) shapeCasts_S16x2048x1024_S32768x1024 := by
  unfold V; after_results <;> rfl
theorem V_scale : V m c main_v4 = shapeCast S1x1024 (shapeCast S1024 (argG m c) shapeCasts_S1x1024_S1024) shapeCasts_S1024_S1x1024 := by
  unfold V; after_results <;> rfl
theorem V_left : V m c main_v5
    = extractStridedSlice S1024x1536 ![0, 0] (truncf .bf16 (shapeCast S1024x3328 (argW m c) shapeCasts_S1x1024x3328_S1024x3328) bitsLt_bf16_f32) slices_S1024x3328_S1024x1536_0_0 := by
  unfold V; after_results <;> rfl
theorem V_right : V m c main_v6
    = extractStridedSlice S1024x1792 ![0, 1536] (truncf .bf16 (shapeCast S1024x3328 (argW m c) shapeCasts_S1x1024x3328_S1024x3328) bitsLt_bf16_f32) slices_S1024x3328_S1024x1792_0_1536 := by
  unfold V; after_results <;> rfl

theorem rows_apply (t : Fin 32768) (d : Fin 1024) : V m c main_v2 (ix2 t d) = tokenRow (argX m c) t d := by
  rw [V_rows]; pointwise []; rfl
theorem scale_apply (d : Fin 1024) : V m c main_v4 (ix2 (0 : Fin 1) d) = argG m c (ix2 (0 : Fin 1) d) := by
  rw [V_scale]; pointwise []
theorem wLeft_apply (k : Fin 1024) (j : Fin 1536) : V m c main_v5 (ix2 k j) = argW m c (ix3 (0 : Fin 1) k (⟨j.val, by omega⟩ : Fin 3328)) := by
  rw [V_left]; pointwise []
theorem wRight_apply (k : Fin 1024) (j : Fin 1792) : V m c main_v6 (ix2 k j) = argW m c (ix3 (0 : Fin 1) k (⟨1536 + j.val, by omega⟩ : Fin 3328)) := by
  rw [V_right]; pointwise []

/-! ## The blocks -/

variable (t : Fin cfg0.N)

theorem point_lt : t.val < 32 := t.isLt

/-- Row `r` of block `t`, as a token. -/
def tok (r : Fin 1024) : Fin 32768 := ⟨t.val * 1024 + r.val, by have := point_lt t; omega⟩

/-- The moving windows' block index. -/
theorem index_0 (t : Fin grid0.N) : win0_0.index t = ![t.val, 0] := (by decide +kernel : ∀ t : Fin grid0.N, win0_0.index t = ![t.val, 0]) t
theorem index_4 (t : Fin grid0.N) : win0_4.index t = ![t.val, 0] := (by decide +kernel : ∀ t : Fin grid0.N, win0_4.index t = ![t.val, 0]) t
theorem index_5 (t : Fin grid0.N) : win0_5.index t = ![t.val, 0] := (by decide +kernel : ∀ t : Fin grid0.N, win0_5.index t = ![t.val, 0]) t

/-- An index of two coordinates from its two numbers. -/
theorem idx_of {A B : ℕ} (i : (⟨2, ![A, B]⟩ : Shape).Idx) (a : Fin A) (b : Fin B) (h0 : (i 0).val = a.val) (h1 : (i 1).val = b.val) : i = ix2 a b :=
  (eq_ix2 i).trans ((ix2_inj _ _ _ _).2 ⟨Fin.ext h0, Fin.ext h1⟩)

theorem emb_0 (r : Fin 1024) (d : Fin 1024) : ((cfg0.win 0).blk t).view.emb (ix2 r d) = ix2 (tok t r) d := by
  have h : ∀ a : Fin 2, (((cfg0.win 0).rect t).emb (ix2 r d) a : ℕ) = _ := fun a => Pipeline.Window.rect_emb_val (cfg0.win 0) t (ix2 r d) a
  rw [show (cfg0.win 0).index t = (![t.val, 0] : Fin 2 → ℕ) from index_0 t] at h
  exact idx_of _ _ _ (h 0) ((h 1).trans (by show 0 * 1024 + d.val = d.val; omega))

theorem emb_4 (r : Fin 1024) (d : Fin 1536) : ((cfg0.win 4).blk t).view.emb (ix2 r d) = ix2 (tok t r) d := by
  have h : ∀ a : Fin 2, (((cfg0.win 4).rect t).emb (ix2 r d) a : ℕ) = _ := fun a => Pipeline.Window.rect_emb_val (cfg0.win 4) t (ix2 r d) a
  rw [show (cfg0.win 4).index t = (![t.val, 0] : Fin 2 → ℕ) from index_4 t] at h
  exact idx_of _ _ _ (h 0) ((h 1).trans (by show 0 * 1536 + d.val = d.val; omega))

theorem emb_5 (r : Fin 1024) (d : Fin 1792) : ((cfg0.win 5).blk t).view.emb (ix2 r d) = ix2 (tok t r) d := by
  have h : ∀ a : Fin 2, (((cfg0.win 5).rect t).emb (ix2 r d) a : ℕ) = _ := fun a => Pipeline.Window.rect_emb_val (cfg0.win 5) t (ix2 r d) a
  rw [show (cfg0.win 5).index t = (![t.val, 0] : Fin 2 → ℕ) from index_5 t] at h
  exact idx_of _ _ _ (h 0) ((h 1).trans (by show 0 * 1792 + d.val = d.val; omega))

theorem iblk_0 (r d : Fin 1024) : iblk m c 0 t (ix2 r d) = tokenRow (argX m c) (tok t r) d :=
  (congrArg (V m c main_v2) (emb_0 t r d)).trans (rows_apply m c _ _)

theorem iblk_1 (d : Fin 1024) : iblk m c 1 t (ix2 (0 : Fin 1) d) = argG m c (ix2 (0 : Fin 1) d) := by
  refine (congrArg (V m c main_v4) (idx_of _ (0 : Fin 1) d ?_ ?_)).trans (scale_apply m c d)
  · exact Pipeline.Window.rect_emb_val_of_index_zero (cfg0.win 1) t (0 : Fin 2) rfl (ix2 (0 : Fin 1) d)
  · exact Pipeline.Window.rect_emb_val_of_index_zero (cfg0.win 1) t (1 : Fin 2) rfl (ix2 (0 : Fin 1) d)

theorem iblk_2 (k : Fin 1024) (j : Fin 1536) : iblk m c 2 t (ix2 k j) = argW m c (ix3 (0 : Fin 1) k (⟨j.val, by omega⟩ : Fin 3328)) := by
  refine (congrArg (V m c main_v5) (idx_of _ k j ?_ ?_)).trans (wLeft_apply m c k j)
  · exact Pipeline.Window.rect_emb_val_of_index_zero (cfg0.win 2) t (0 : Fin 2) rfl (ix2 k j)
  · exact Pipeline.Window.rect_emb_val_of_index_zero (cfg0.win 2) t (1 : Fin 2) rfl (ix2 k j)

theorem iblk_3 (k : Fin 1024) (j : Fin 1792) : iblk m c 3 t (ix2 k j) = argW m c (ix3 (0 : Fin 1) k (⟨1536 + j.val, by omega⟩ : Fin 3328)) := by
  refine (congrArg (V m c main_v6) (idx_of _ k j ?_ ?_)).trans (wRight_apply m c k j)
  · exact Pipeline.Window.rect_emb_val_of_index_zero (cfg0.win 3) t (0 : Fin 2) rfl (ix2 k j)
  · exact Pipeline.Window.rect_emb_val_of_index_zero (cfg0.win 3) t (1 : Fin 2) rfl (ix2 k j)

/-! ## The arrays -/

/-- The two result arrays. -/
def leftArr : FVec Ideal S32768x1536 .bf16 := fun i => entry (argX m c) (argG m c) (argW m c) (i 0) ⟨(i 1).val, by have k : (i 1).val < 1536 := (i 1).isLt; omega⟩
def rightArr : FVec Ideal S32768x1792 .bf16 := fun i => entry (argX m c) (argG m c) (argW m c) (i 0) ⟨1536 + (i 1).val, by have k : (i 1).val < 1792 := (i 1).isLt; omega⟩

theorem point_left (r : Fin 1024) (j : Fin 1536) :
    out0_4 (iblk m c 0 t) (iblk m c 1 t) (iblk m c 2 t) (iblk m c 3 t) (ix2 r j) = leftArr m c (ix2 (tok t r) j) := by
  rw [out_left, left_apply]
  simp only [iblk_0, iblk_1, iblk_2]
  rfl

theorem point_right (r : Fin 1024) (j : Fin 1792) :
    out0_5 (iblk m c 0 t) (iblk m c 1 t) (iblk m c 2 t) (iblk m c 3 t) (ix2 r j) = rightArr m c (ix2 (tok t r) j) := by
  rw [out_right, right_apply]
  simp only [iblk_0, iblk_1, iblk_3]
  rfl

/-- The point whose block holds a token, and the token's row there. -/
def pointOf (k : Fin 32768) : Fin cfg0.N := ⟨k.val / 1024, by show k.val / 1024 < 32; omega⟩
theorem tok_pointOf (k : Fin 32768) : tok (pointOf k) ⟨k.val % 1024, by omega⟩ = k := Fin.ext (by show k.val / 1024 * 1024 + k.val % 1024 = k.val; omega)

theorem flush_4 (t : Fin cfg0.N) : (cfg0.win 4).flush t = true := (by decide +kernel : ∀ t : Fin cfg0.N, (cfg0.win 4).flush t = true) t
theorem flush_5 (t : Fin cfg0.N) : (cfg0.win 5).flush t = true := (by decide +kernel : ∀ t : Fin cfg0.N, (cfg0.win 5).flush t = true) t

/-- The first result array after the run. -/
theorem final_left : (dats m 0 c).arrAt 4 cfg0.N = leftArr m c := by
  refine funext fun (i : S32768x1536.Idx) => ?_
  have q := (congrArg (fun k => ix2 k (i 1)) (tok_pointOf (i 0))).trans (eq_ix2 i).symm
  have e := (emb_4 (pointOf (i 0)) ⟨(i 0).val % 1024, by omega⟩ (i 1)).trans q
  have b := congrFun (Value.blocks4 m c (pointOf (i 0)) (flush_4 _)) (ix2 ⟨(i 0).val % 1024, by omega⟩ (i 1))
  rw [Value.flushed4] at b
  refine (congrArg ((dats m 0 c).arrAt 4 cfg0.N) e).symm.trans (b.trans ((point_left m c _ _ _).trans (congrArg (leftArr m c) q)))

/-- The second result array after the run. -/
theorem final_right : (dats m 0 c).arrAt 5 cfg0.N = rightArr m c := by
  refine funext fun (i : S32768x1792.Idx) => ?_
  have q := (congrArg (fun k => ix2 k (i 1)) (tok_pointOf (i 0))).trans (eq_ix2 i).symm
  have e := (emb_5 (pointOf (i 0)) ⟨(i 0).val % 1024, by omega⟩ (i 1)).trans q
  have b := congrFun (Value.blocks5 m c (pointOf (i 0)) (flush_5 _)) (ix2 ⟨(i 0).val % 1024, by omega⟩ (i 1))
  rw [Value.flushed5] at b
  refine (congrArg ((dats m 0 c).arrAt 5 cfg0.N) e).symm.trans (b.trans ((point_right m c _ _ _).trans (congrArg (rightArr m c) q)))

end Cert.Kernel2Ideal.Project
end
-- ==== Proof.Project.Reference.lean ====
/- The projection's reference, element by element over the extended reals. -/
module

public import proofs.«01_k».proof.Proof.Gen.Reference2Ideal.Run
public import proofs.«01_k».proof.Proof.Project.Spec
@[expose] public section

set_option maxRecDepth 16384

noncomputable section

namespace Cert.Reference2Ideal.Pieces

open Cert.Reference2Ideal Cert.Reference2Ideal.Gen Idealize.ShloMosaic Idealize.ShloMosaic.TcCoe Idealize.ShloMosaic.StableHlo
open Cert.Routed Cert.Project

variable (x : FVec Ideal S16x2048x1024 .f32) (g : FVec Ideal S1x1024 .f32) (w : FVec Ideal S1x1024x3328 .f32)

/-- The normalised tokens. -/
def norms : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ g shapeCasts_S1x1024_S1024)))

/-- All columns of the projection, a row a token. -/
def cols : FVec Ideal S32768x3328 .f32 :=
  shapeCast _ (Host.dotGeneral dot_S16x2048x1024_S1024x3328_S16x2048x3328_2_0_01_1_n_n none (norms x g) (shapeCast _ w shapeCasts_S1x1024x3328_S1024x3328)) shapeCasts_S16x2048x3328_S32768x3328

/-- The two results. -/
def left : FVec Ideal S32768x1536 .bf16 := truncf .bf16 (extractStridedSlice S32768x1536 ![0, 0] (cols x g w) slices_S32768x3328_S32768x1536_0_0) bitsLt_bf16_f32
def right : FVec Ideal S32768x1792 .bf16 := truncf .bf16 (extractStridedSlice S32768x1792 ![0, 1536] (cols x g w) slices_S32768x3328_S32768x1792_0_1536) bitsLt_bf16_f32

theorem norms_apply (b : Fin 16) (s : Fin 2048) (k : Fin 1024) :
    norms x g (ix3 b s k) = normed (fun d => x (ix3 b s d)) (fun d => g (ix2 (0 : Fin 1) d)) k := by
  pointwise [norms]
  rfl

theorem cols_apply (t : Fin 32768) (j : Fin 3328) : cols x g w (ix2 t j) = entry x g w t j := by
  pointwise [cols, norms_apply]
  rfl

theorem left_apply (t : Fin 32768) (j : Fin 1536) : left x g w (ix2 t j) = entry x g w t ⟨j.val, by omega⟩ := by
  pointwise [left, cols_apply]

theorem right_apply (t : Fin 32768) (j : Fin 1792) : right x g w (ix2 t j) = entry x g w t ⟨1536 + j.val, by omega⟩ := by
  pointwise [right, cols_apply]

end Cert.Reference2Ideal.Pieces
end
-- ==== Proof.Project.Equal.lean ====
/- The projection's claims: its frames, and that kernel and reference end with the same two arrays. -/
module

public import proofs.«01_k».proof.Defs
public import proofs.«01_k».proof.Proof.Gen.Kernel2.Frame
public import proofs.«01_k».proof.Proof.Project.Array
public import proofs.«01_k».proof.Proof.Project.Reference
@[expose] public section

set_option maxRecDepth 16384

noncomputable section

namespace Cert.Proof.Projection

open Idealize.ShloMosaic Idealize.ShloMosaic.TcCoe Idealize.SL.Sem
open Cert.Kernel2Ideal.Project

/-- The frame of the program over words. -/
theorem frame_kernel : Cert.quiescent_Kernel2 (hKernel2 := Cert.Kernel2.Gen.facts) :=
  fun m g _ => Cert.Kernel2.Gen.frame m g

/-- The frame of the ideal reading. -/
theorem frame_ideal : Cert.quiescent_Kernel2Ideal (hKernel2Ideal := Cert.Kernel2Ideal.Gen.facts) :=
  fun m g _ => Cert.Kernel2Ideal.Gen.frame m g

/-- The frame of the reference: it has no semaphore at all. -/
theorem frame_reference : Cert.quiescent_Reference2Ideal (hReference2Ideal := Cert.Reference2Ideal.Gen.facts) :=
  fun m g _ => (θ_run Cert.Reference2Ideal.defs _ _).mono (fun _ h => ⟨fun c => (h c).2.2, sem_eq_zero_of_no_sems rfl _⟩)
    (Cert.Reference2Ideal.Value.run m g)

variable (m : (ℓ : Loc Cert.Kernel2Ideal.nD Cert.Kernel2Ideal.τ Cert.Kernel2Ideal.sig) → Buf (Elt Ideal) ℓ) (c : Dev Cert.Kernel2Ideal.nD)

/-- The reference's two arrays on the kernel's arguments are the kernel's. -/
theorem left_eq : Cert.Reference2Ideal.Pieces.left (argX m c) (argG m c) (argW m c) = leftArr m c :=
  funext fun (i : Cert.Kernel2Ideal.S32768x1536.Idx) => (congrArg _ (eq_ix2 i)).trans (Cert.Reference2Ideal.Pieces.left_apply _ _ _ (i 0) (i 1))

theorem right_eq : Cert.Reference2Ideal.Pieces.right (argX m c) (argG m c) (argW m c) = rightArr m c :=
  funext fun (i : Cert.Kernel2Ideal.S32768x1792.Idx) => (congrArg _ (eq_ix2 i)).trans (Cert.Reference2Ideal.Pieces.right_apply _ _ _ (i 0) (i 1))

/-- From the same arguments both end with the same two arrays. -/
theorem algebraic : Cert.algebraic_Kernel2Ideal_Reference2Ideal (hKernel2Ideal := Cert.Kernel2Ideal.Gen.facts)
    (hReference2Ideal := Cert.Reference2Ideal.Gen.facts) := by
  intro m g m' g' _ args
  refine ⟨fun c => leftArr m c, fun c => rightArr m c, ?_, ?_⟩
  · refine (θ_run Cert.Kernel2Ideal.defs _ _).mono (fun r h c => ?_) (Cert.Kernel2Ideal.Value.run_blocks m g)
    obtain ⟨h4, h5, h⟩ := h c
    exact ⟨h4.trans (final_left m c), h5.trans (final_right m c), h⟩
  · refine (θ_run Cert.Reference2Ideal.defs _ _).mono (fun r h c => ?_) (Cert.Reference2Ideal.Value.run m' g')
    obtain ⟨h0, h1, h⟩ := h c
    obtain ⟨e0, e1, e2⟩ := args c
    obtain rfl : c = 0 := Subsingleton.elim _ _
    rw [e0, e1, e2] at h0 h1
    exact ⟨h0.trans (left_eq m 0), h1.trans (right_eq m 0), h⟩

end Cert.Proof.Projection
end
-- ==== Proof.Gather.Words.lean ====
/- The words the gather kernel computes, in closed form: the slot of the scratch a grid point reads and the one it fills, the
   rows a trip of its loops moves, and the conditions of its two branches. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic
public import Idealize.ShloMosaic.Lib.WordCmp
public import Idealize.ShloMosaic.Lib.Ring
public import Idealize.ShloMosaic.Lib.Batch

@[expose] public section

set_option maxRecDepth 16384

noncomputable section

namespace Cert.Kernel3Ideal.Gather

open Cert.Kernel3Ideal Cert.Kernel3Ideal.Gen
open Idealize.ShloMosaic

theorem trips1 : k0_t1_loop.trips = 1024 := by decide +kernel
theorem trips2 : k0_t2_loop.trips = 1024 := by decide +kernel
theorem trips3 : k0_t3_loop.trips = 1024 := by decide +kernel

/-- A counter below 1024, as the word a trip reads off it. -/
theorem iv_toNat (k : ℕ) (h : k < 1024) : (Scf.iv (0#32) (1#32) k).toNat = k := by
  unfold Scf.iv
  simp only [BitVec.toNat_add, BitVec.toNat_mul, BitVec.toNat_ofNat]
  omega

theorem off1_eq (k : Fin k0_t1_loop.trips) : k0_off1 k = ![0, 0, k.val] := by
  have h : k.val < 1024 := trips1 ▸ k.isLt
  have e : (Scf.iv (0#32) (1#32) k).toNat = k.val := iv_toNat k h
  show ![0, 0, (Scf.iv (0#32) (1#32) k).toNat] = _
  rw [e]

theorem off4_eq (k : Fin k0_t2_loop.trips) : k0_off4 k = ![0, 0, k.val] := by
  have h : k.val < 1024 := trips2 ▸ k.isLt
  have e : (Scf.iv (0#32) (1#32) k).toNat = k.val := iv_toNat k h
  show ![0, 0, (Scf.iv (0#32) (1#32) k).toNat] = _
  rw [e]

theorem mul8_toNat (k : ℕ) (h : k < 1024) : (Scalar.muli (Scf.iv (0#32) (1#32) k) 8#32).toNat = 8 * k := by
  show (Scf.iv (0#32) (1#32) k * 8#32).toNat = _
  rw [BitVec.toNat_mul, iv_toNat k h, BitVec.toNat_ofNat]
  omega

theorem mul9_toNat (w : BitVec 32) (h : w.toNat < 32768) : (Scalar.muli w 9#32).toNat = 9 * w.toNat := by
  show (w * 9#32).toNat = _
  rw [BitVec.toNat_mul, BitVec.toNat_ofNat]
  omega

theorem off2_eq (k : Fin k0_t1_loop.trips) : k0_off2 k = ![0, 8 * k.val, 0] := by
  have h : k.val < 1024 := trips1 ▸ k.isLt
  show ![0, (Scalar.muli (Scf.iv (0#32) (1#32) k) 8#32).toNat, 0] = _
  rw [mul8_toNat _ h]

theorem off3_eq (w : BitVec 32) (h : w.toNat < 32768) : k0_off3 w = ![9 * w.toNat, 0] := by
  show ![(Scalar.muli w 9#32).toNat, 0] = _
  rw [mul9_toNat w h]

theorem off7_eq (w : BitVec 32) (h : w.toNat < 32768) : k0_off7 w = ![9 * w.toNat, 0] := by
  show ![(Scalar.muli w 9#32).toNat, 0] = _
  rw [mul9_toNat w h]

/-- The slot a point reads, and the one it fills for the next point. -/
abbrev here (t : Fin grid0.N) : Fin 2 := ⟨t.val % 2, Nat.mod_lt _ (by decide)⟩
abbrev next (t : Fin grid0.N) : Fin 2 := ⟨1 - t.val % 2, by omega⟩

theorem cond1_iff : ∀ t : Fin grid0.N, k0_cond1 (grid0.coords t) = 1#1 ↔ t.val = 0 := by decide +kernel
theorem cond2_iff : ∀ t : Fin grid0.N, k0_cond2 (grid0.coords t) = 1#1 ↔ t.val < 31 := by decide +kernel
theorem off5_eq : ∀ t : Fin grid0.N, k0_off5 (grid0.coords t) = ![(next t).val] := by decide +kernel
theorem off8_eq : ∀ t : Fin grid0.N, k0_off8 (grid0.coords t) = ![(here t).val] := by decide +kernel
theorem off9_eq : ∀ t : Fin grid0.N, k0_off9 (grid0.coords t) = ![(here t).val, 0, 0] := by decide +kernel
theorem off10_eq : ∀ t : Fin grid0.N, k0_off10 (grid0.coords t) = ![(here t).val, 0, 0] := by decide +kernel
theorem off11_eq : ∀ t : Fin grid0.N, k0_off11 (grid0.coords t) = ![(here t).val, 1, 0] := by decide +kernel
theorem off12_eq : ∀ t : Fin grid0.N, k0_off12 (grid0.coords t) = ![(here t).val, 2, 0] := by decide +kernel
theorem off13_eq : ∀ t : Fin grid0.N, k0_off13 (grid0.coords t) = ![(here t).val, 3, 0] := by decide +kernel
theorem off14_eq : ∀ t : Fin grid0.N, k0_off14 (grid0.coords t) = ![(here t).val, 4, 0] := by decide +kernel
theorem off15_eq : ∀ t : Fin grid0.N, k0_off15 (grid0.coords t) = ![(here t).val, 5, 0] := by decide +kernel
theorem off16_eq : ∀ t : Fin grid0.N, k0_off16 (grid0.coords t) = ![(here t).val, 6, 0] := by decide +kernel
theorem off17_eq : ∀ t : Fin grid0.N, k0_off17 (grid0.coords t) = ![(here t).val, 7, 0] := by decide +kernel

theorem off6_eq (t : Fin grid0.N) (k : Fin k0_t2_loop.trips) : k0_off6 (grid0.coords t) k = ![(next t).val, 8 * k.val, 0] := by
  have h : k.val < 1024 := trips2 ▸ k.isLt
  have e : k0_off6 (grid0.coords t) k = ![k0_off5 (grid0.coords t) 0, (Scalar.muli (Scf.iv (0#32) (1#32) k) 8#32).toNat, 0] := rfl
  rw [e, off5_eq, mul8_toNat _ h]
  rfl

end Cert.Kernel3Ideal.Gather
-- ==== Proof.Gather.Slots.lean ====
/- The pieces of the two-slot scratch, the rows of the sorted slabs a copy reads, and the batch of copies that fills one slot:
   copy `j` lands rows `8 j … 8 j + 7` of the slot from the eight rows of the slab the `j`-th word names. -/
module

public import proofs.«01_k».proof.Proof.Gather.Words
public import Idealize.ShloMosaic.Lib.ValueLayout

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The scratch, and the slabs left in HBM. -/
abbrev scr : Memref sig .tc .vmem S2x8192x128 .f32 := Memref.whole cc0_scratch0
abbrev slabs : Memref sig .tc .hbm S294912x128 .f32 := Memref.whole main_arg1

theorem dst_inb (s : Fin 2) (j : Fin 1024) : ∀ a, (![s.val, 8 * j.val, 0] : Fin 3 → Nat) a + S1x8x128.size a ≤ S2x8192x128.size a := by
  have := s.isLt; have := j.isLt; intro a; fin_cases a
  · show s.val + 1 ≤ 2; omega
  · show 8 * j.val + 8 ≤ 8192; omega
  · show 0 + 128 ≤ 128; omega

theorem src_inb (w : Fin 32768) : ∀ a, (![9 * w.val, 0] : Fin 2 → Nat) a + S8x128.size a ≤ S294912x128.size a := by
  have := w.isLt; intro a; fin_cases a
  · show 9 * w.val + 8 ≤ 294912; omega
  · show 0 + 128 ≤ 128; omega

theorem cell_inb (s : Fin 2) : ∀ a, (![s.val] : Fin 1 → Nat) a + S1.size a ≤ S2.size a := by
  have := s.isLt; intro a; fin_cases a
  show s.val + 1 ≤ 2; omega

/-- Rows `8 j … 8 j + 7` of slot `s`, as a copy's destination. -/
def dst (s : Fin 2) (j : Fin 1024) : Memref sig .tc .vmem S8x128 .f32 :=
  (scr.slice (Rect.unit (s := S2x8192x128) ![s.val, 8 * j.val, 0] S1x8x128.size (dst_inb s j)) (fun _ => rfl)).squeeze S8x128 squeezes_S1x8x128_S8x128
/-- The eight rows of slab `w`, as a copy's source. -/
def src (w : Fin 32768) : Memref sig .tc .hbm S8x128 .f32 :=
  slabs.slice (Rect.unit (s := S294912x128) ![9 * w.val, 0] S8x128.size (src_inb w)) (fun _ => rfl)
/-- Slot `s`'s semaphore. -/
def cell (s : Fin 2) : DmaSem sig :=
  ((cc0_scratch1.slice (Rect.unit (s := S2) ![s.val] S1.size (cell_inb s))).squeeze S_ squeezes_S1_S_).sem

/-! The three as the body spells them, at offsets it computes. -/

theorem dst_of (s : Fin 2) (j : Fin 1024) (o : Fin 3 → Nat) (ho : o = ![s.val, 8 * j.val, 0]) (inb : ∀ a, o a + S1x8x128.size a ≤ S2x8192x128.size a) :
    (scr.slice (Rect.unit (s := S2x8192x128) o S1x8x128.size inb) (fun _ => rfl)).squeeze S8x128 squeezes_S1x8x128_S8x128 = dst s j := by
  subst ho; rfl
theorem src_of (w : Fin 32768) (o : Fin 2 → Nat) (ho : o = ![9 * w.val, 0]) (inb : ∀ a, o a + S8x128.size a ≤ S294912x128.size a) :
    slabs.slice (Rect.unit (s := S294912x128) o S8x128.size inb) (fun _ => rfl) = src w := by
  subst ho; rfl
theorem cell_of (s : Fin 2) (o : Fin 1 → Nat) (ho : o = ![s.val]) (inb : ∀ a, o a + S1.size a ≤ S2.size a) :
    ((cc0_scratch1.slice (Rect.unit (s := S2) o S1.size inb)).squeeze S_ squeezes_S1_S_).sem = cell s := by
  subst ho; rfl

/-- What one copy counts on its semaphore, wherever it lands. -/
def credit : ℕ := (dst 0 0).view.dmaCredit
theorem dst_amount (s : Fin 2) (j : Fin 1024) (sm : DmaSem sig) : (dst s j).view.amount (.dma sm) = credit := rfl
theorem dst_credit (s : Fin 2) (j : Fin 1024) : (dst s j).view.dmaCredit = credit := rfl
theorem credit_pos : 0 < credit := View.dmaCredit_pos _ (by decide)

/-- The same pieces as sets of elements. -/
def piece (s : Fin 2) (j : Fin 1024) : Finset S2x8192x128.Idx := (Rect.unit (s := S2x8192x128) ![s.val, 8 * j.val, 0] S1x8x128.size (dst_inb s j)).set
def rows8 (w : Fin 32768) : Finset S294912x128.Idx := (Rect.unit (s := S294912x128) ![9 * w.val, 0] S8x128.size (src_inb w)).set

theorem dst_set (s : Fin 2) (j : Fin 1024) : (dst s j).view.set = piece s j := by
  unfold dst piece; exact (View.set_reshape _ _).trans (View.set_slice_whole _ _)
theorem src_set (w : Fin 32768) : (src w).view.set = rows8 w := by
  unfold src rows8; exact View.set_slice_whole _ _

theorem mem_piece (s : Fin 2) (j : Fin 1024) (y : S2x8192x128.Idx) : y ∈ piece s j ↔ (y 0).val = s.val ∧ (y 1).val / 8 = j.val := by
  unfold piece
  rw [Rect.mem_set_unit]
  have h2 : (y 2).val < 128 := (y 2).isLt
  constructor
  · intro H
    have a0 : s.val ≤ (y 0).val ∧ (y 0).val < s.val + 1 := H 0
    have a1 : 8 * j.val ≤ (y 1).val ∧ (y 1).val < 8 * j.val + 8 := H 1
    omega
  · rintro ⟨h0, h1⟩ a; fin_cases a
    · show s.val ≤ (y 0).val ∧ (y 0).val < s.val + 1; omega
    · show 8 * j.val ≤ (y 1).val ∧ (y 1).val < 8 * j.val + 8; omega
    · show 0 ≤ (y 2).val ∧ (y 2).val < 0 + 128; omega

/-- Slot `s` as a set of elements. -/
def slot (s : Fin 2) : Finset S2x8192x128.Idx := Finset.univ.filter fun y => (y 0).val = s.val
theorem mem_slot (s : Fin 2) (y : S2x8192x128.Idx) : y ∈ slot s ↔ (y 0).val = s.val := by
  unfold slot; rw [Finset.mem_filter]; exact ⟨fun h => h.2, fun h => ⟨Finset.mem_univ _, h⟩⟩

theorem piece_disjoint (s : Fin 2) : ∀ j j' : Fin 1024, j ≠ j' → Disjoint (piece s j) (piece s j') := fun j j' hne => by
  rw [Finset.disjoint_left]; intro y hy hy'; rw [mem_piece] at hy hy'; exact hne (Fin.ext (by omega))
theorem piece_cover (s : Fin 2) : Finset.univ.biUnion (piece s) = slot s := by
  ext y
  simp only [Finset.mem_biUnion, Finset.mem_univ, true_and, mem_piece, mem_slot]
  have h1 : (y 1).val < 8192 := (y 1).isLt
  exact ⟨fun ⟨_, h, _⟩ => h, fun h => ⟨⟨(y 1).val / 8, by omega⟩, h, rfl⟩⟩
theorem slot_disjoint : ∀ s s' : Fin 2, s ≠ s' → Disjoint (slot s) (slot s') := fun s s' hne => by
  rw [Finset.disjoint_left]; intro y hy hy'; rw [mem_slot] at hy hy'; exact hne (Fin.ext (by omega))
theorem slot_cover : Finset.univ.biUnion slot = Finset.univ := by
  ext y
  simp only [Finset.mem_biUnion, Finset.mem_univ, true_and, mem_slot, iff_true]
  exact ⟨y 0, rfl⟩

/-! ## What a filled slot holds -/

theorem row_lt (w : Fin 32768) (r : ℕ) : 9 * w.val + r % 8 < 294912 := by have := w.isLt; omega

/-- Row `8 j + r` of a filled slot is row `r` of the slab the `j`-th word names. -/
def filled (A : S294912x128.Idx → Elt F .f32) (ix : Fin 1024 → Fin 32768) : S2x8192x128.Idx → Elt F .f32 := fun y =>
  A (ix2 (⟨9 * (ix ⟨(y 1).val / 8, by have h : (y 1).val < 8192 := (y 1).isLt; omega⟩).val + (y 1).val % 8, row_lt _ _⟩ : Fin 294912)
    (⟨(y 2).val, (y 2).isLt⟩ : Fin 128))

theorem dst_emb (s : Fin 2) (j : Fin 1024) (r : Fin 8) (l : Fin 128) :
    (dst s j).view.emb (ix2 r l) = ix3 s (⟨8 * j.val + r.val, by omega⟩ : Fin 8192) l := by
  show (Rect.unit (s := S2x8192x128) ![s.val, 8 * j.val, 0] S1x8x128.size (dst_inb s j)).emb (Shape.reshapeEquiv _ (ix2 r l)) = _
  rw [show Shape.reshapeEquiv (s := S1x8x128) (s' := S8x128) _ (ix2 r l) = ix3 (⟨0, Nat.one_pos⟩ : Fin 1) r l from reshapeEquiv_ix2_1ab _ r l]
  funext a
  apply Fin.ext
  fin_cases a
  · show s.val + 1 * 0 = s.val; omega
  · show 8 * j.val + 1 * r.val = 8 * j.val + r.val; omega
  · show 0 + 1 * l.val = l.val; omega

theorem src_emb (w : Fin 32768) (r : Fin 8) (l : Fin 128) :
    (src w).view.emb (ix2 r l) = ix2 (⟨9 * w.val + r.val, by omega⟩ : Fin 294912) l := by
  funext a
  apply Fin.ext
  fin_cases a
  · show 9 * w.val + 1 * r.val = 9 * w.val + r.val; omega
  · show 0 + 1 * l.val = l.val; omega

section Batch

variable (c : Dev nD) (A : S294912x128.Idx → Elt F .f32) (s : Fin 2) (q : PosShare TreeShare) (ix : Fin 1024 → Fin 32768)

/-- A piece of the scratch at contents `f`; the slabs' rows `S` at share `q`. -/
abbrev pc (S : Finset S2x8192x128.Idx) (f : S2x8192x128.Idx → Elt F .f32) : sProp 𝕄 :=
  scr.view.loc (c : Thread nD τ) ↦[S]{fullShare} f
abbrev sl (S : Finset S294912x128.Idx) (q : PosShare TreeShare) : sProp 𝕄 :=
  slabs.view.loc (c : Thread nD τ) ↦[S]{q} A

/-- What copy `j` delivers: its piece of the slot filled, and the share of the rows it read. -/
abbrev del (j : Fin 1024) : sProp 𝕄 :=
  iprop(pc c (piece s j) (filled A ix) ∗ sl c A (rows8 (ix j)) (Transfers.shareTokN q j.val))

/-- The batch of 1024 copies into slot `s`: `k` issued, `u` units consumed. -/
abbrev batch (k u : ℕ) : sProp 𝕄 :=
  Transfers.Batch (countersEmb (U := Pipeline.UD sig nD τ)) (c : Thread nD τ) (.dma (cell s)) () credit (del c A s q ix) k u

theorem dst_read_write (j : Fin 1024) (fd : S2x8192x128.Idx → Elt F .f32) : ∀ y ∈ piece s j,
    (dst s j).view.write (Elt F) fd (ReadAs.same.apply ((src (ix j)).view.read (Elt F) A)) Finset.univ y = filled A ix y := by
  intro y hy
  rw [← dst_set] at hy
  obtain ⟨x, -, rfl⟩ := Finset.mem_map.mp hy
  obtain ⟨r, l, rfl⟩ : ∃ (r : Fin 8) (l : Fin 128), x = ix2 r l := ⟨x 0, x 1, eq_ix2 x⟩
  refine (View.write_emb_of_mem (v := (dst s j).view) fd _ (Finset.mem_univ _)).trans ?_
  refine Eq.trans ?_ (congrArg (filled A ix) (dst_emb s j r l).symm)
  refine (congrArg A (src_emb (ix j) r l)).trans ?_
  unfold filled
  refine congrArg A (congrArg₂ ix2 (Fin.ext ?_) rfl)
  show 9 * (ix j).val + r.val = 9 * (ix ⟨(8 * j.val + r.val) / 8, _⟩).val + (8 * j.val + r.val) % 8
  have e : (⟨(8 * j.val + r.val) / 8, by omega⟩ : Fin 1024) = j := Fin.ext (by show (8 * j.val + r.val) / 8 = j.val; omega)
  rw [e]; omega

/-- Copy `j` landed is its delivery. -/
theorem del_intro (j : Fin 1024) (fd : S2x8192x128.Idx → Elt F .f32) :
    iprop(((dst s j).view.loc (c : Thread nD τ) ↦[piece s j]{fullShare}
        ((dst s j).view.write (Elt F) fd (ReadAs.same.apply ((src (ix j)).view.read (Elt F) A)) Finset.univ))
      ∗ ((src (ix j)).view.loc (c : Thread nD τ) ↦[(src (ix j)).view.set]{Transfers.shareTokN q j.val} A)) ⊢ (del c A s q ix j : sProp 𝕄) :=
  BIClass.sep_mono (Entails.of_eq (pointsTo_congr (ℓ := scr.view.loc (c : Thread nD τ)) (dst_read_write A s ix j fd)))
    (Entails.of_eq (congrArg (fun S : Finset S294912x128.Idx => (sl c A S (Transfers.shareTokN q j.val) : sProp 𝕄)) (src_set (ix j))))

end Batch

end Cert.Kernel3Ideal.Gather
-- ==== Proof.Gather.Issue.lean ====
/- The two loops that start copies: 1024 trips, each reading one position and starting one copy of eight rows into the slot. -/
module

public import proofs.«01_k».proof.Proof.Gather.Slots

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The words of one block of positions. -/
abbrev Words : Type := S1x1x1024.Idx → BitVec 32

/-- The rows a block of positions names. -/
structure Named (X : Words) (ix : Fin 1024 → Fin 32768) : Prop where
  word : ∀ j : Fin 1024, (X (ix3 (0 : Fin 1) (0 : Fin 1) j)).toNat = (ix j).val

section Issue

variable (c : Dev nD) (A : S294912x128.Idx → Elt F .f32) (s : Fin 2) (q : PosShare TreeShare) (ix : Fin 1024 → Fin 32768)

/-- What is left of share `j` of the slabs while copy `j` reads its rows. -/
abbrev rest (j : Fin 1024) : sProp 𝕄 := sl c A (Finset.univ \ rows8 (ix j)) (Transfers.shareTokN q j.val)
/-- Share `j` of the slabs. -/
abbrev tok (j : Fin 1024) : sProp 𝕄 := sl c A Finset.univ (Transfers.shareTokN q j.val)
/-- A piece of the slot at some contents. -/
abbrev own (j : Fin 1024) : sProp 𝕄 := iprop(∃ f, pc c (piece s j) f)

/-- Before trip `k`: `k` copies started; the pieces and shares from `k` on in hand; of the shares before `k` what their copies
    do not read; the buffer of the positions, at `g`. -/
def issueAt (M : Memref sig .tc .smem S1x1x1024 .i32) (g : Buf (Elt F) (M.view.loc (c : Thread nD τ))) (k : ℕ) (_ : PUnit) : sProp 𝕄 :=
  iprop(batch c A s q ix k 0 ∗ bigSep (Ring.rangeSet 1024 k 1024) (own c s) ∗ bigSep (Ring.rangeSet 1024 k 1024) (tok c A q)
    ∗ bigSep (Ring.rangeSet 1024 0 k) (rest c A q ix) ∗ (M.view.loc (c : Thread nD τ) ↦[M.view.set]{fullShare} g))

/-- One trip, its operands abstract: read a word, assume its check, start the copy. -/
abbrev trip (M : Memref sig .tc .smem S1x1x1024 .i32) (r : Rect S1x1x1024) (hl : (M.access r).Loads) (x : r.shape.Idx) (chk : BitVec 32 → Prop) (dec : ∀ w, Decidable (chk w))
    (d : Memref sig .tc .vmem S8x128 .f32) (from' : ∀ w, chk w → Memref sig .tc .hbm S8x128 .f32) (se : DmaSem sig)
    (hs : ∀ w h, (from' w h).view.WordExact) (hd : d.view.WordExact) (ht : (DmaTarget.here (nD := nD) (τ := τ) (p := .tc) d).Typed .hbm (.dma se)) :
    Prog (TpuEff nD τ sig (Elt F) Λ₀ .tc) PUnit :=
  smemLoadElt M r hl x fun w : BitVec 32 => .op (.assume (chk w) (dec w)) fun h =>
    .op (.enqueueDma (from' w h.down) (.here d) (.dma se) (hs w h.down) hd ht) fun _ => .ret ⟨⟩

/-- It starts copy `j`. -/
theorem trip_step (M : Memref sig .tc .smem S1x1x1024 .i32) (r : Rect S1x1x1024) (hl : (M.access r).Loads) (x : r.shape.Idx) (chk : BitVec 32 → Prop) (dec : ∀ w, Decidable (chk w))
    (d : Memref sig .tc .vmem S8x128 .f32) (from' : ∀ w, chk w → Memref sig .tc .hbm S8x128 .f32) (se : DmaSem sig)
    (hs : ∀ w h, (from' w h).view.WordExact) (hd : d.view.WordExact) (ht : (DmaTarget.here (nD := nD) (τ := τ) (p := .tc) d).Typed .hbm (.dma se))
    (g : Buf (Elt F) (M.view.loc (c : Thread nD τ))) (j : Fin 1024) (w₀ : BitVec 32) (hw : (M.access r).read (Elt F) g x = w₀) (hchk : chk w₀)
    (hd' : d = dst s j) (hf : from' w₀ hchk = src (ix j)) (hse : se = cell s) (a : PUnit) :
    issueAt c A s q ix M g j.val a ⊢ wp frame (wpE (defs₀ (F := F)) Variants.none (c : Thread nD τ) none) Set.univ
      (trip M r hl x chk dec d from' se hs hd ht) (issueAt c A s q ix M g (j.val + 1)) := by
  have hk : j.val < 1024 := j.isLt
  unfold issueAt
  rw [Ring.bigSep_rangeSet_head (Φ := own c s) (lo := j.val) (by omega) (by omega), Ring.bigSep_rangeSet_head (Φ := tok c A q) (lo := j.val) (by omega) (by omega),
    Ring.bigSep_rangeSet_last (Φ := rest c A q ix) (lo := 0) (hi := j.val + 1) (by omega) (by omega)]
  iintro ⟨HB, ⟨⟨%f, HP⟩, HPs⟩, ⟨HT, HTs⟩, HR, HM⟩
  unfold trip
  iapply (wp_smemLoadElt Variants.none (c : Thread nD τ) none Set.univ (m := M) (r := r) (x := x) (S := M.view.set) (f := g) (View.set_slice_subset _ _)) $$ HM
  iintro HM
  rw [hw]
  iapply (wp_assume Variants.none (c : Thread nD τ) none Set.univ hchk)
  subst hd' hse
  simp only [hf]
  ihave HT' := (pointsTo_split_subset (Finset.subset_univ (rows8 (ix j)))).1 $$ HT
  icases HT' with ⟨HT, HTr⟩
  iapply (Transfers.wp_dmaBatch (countersEmb (U := Pipeline.UD sig nD τ)) Variants.none (c : Thread nD τ) none (src := src (ix j)) (dst := dst s j)
    (q := Transfers.shareTokN q j.val) (fs := A) (fd := f) (Sd := piece s j) (D := del c A s q ix) (j := j.val) (u := 0)
    () credit (dst_amount s j _) (dst_set s j).le hk (Nat.zero_le _) (del_intro c A s q ix j f)) $$ [HT HP HB]
  · isplitl [HT]
    · rw [src_set]; iexact HT
    isplitl [HP]; · iexact HP
    iexact HB
  iintro HB
  rw [wp_ret]
  imodintro
  isplitl [HB]; · iexact HB
  isplitl [HPs]; · iexact HPs
  isplitl [HTs]; · iexact HTs
  isplitl [HR HTr]
  · isplitl [HTr]; · iexact HTr
    iexact HR
  iexact HM

/-- The word a trip reads is its position. -/
theorem word_read (M : Memref sig .tc .smem S1x1x1024 .i32) (g : Buf (Elt F) (M.view.loc (c : Thread nD τ))) (X : Words) (hg : M.view.read (Elt F) g = X)
    (j : Fin 1024) (o : Fin 3 → Nat) (ho : o = ![0, 0, j.val]) (inb : ∀ a, o a + S1x1x1.size a ≤ S1x1x1024.size a)
    (x : (Rect.unit (s := S1x1x1024) o S1x1x1.size inb).shape.Idx) :
    (M.access (Rect.unit (s := S1x1x1024) o S1x1x1.size inb)).read (Elt F) g x = X (ix3 (0 : Fin 1) (0 : Fin 1) j) := by
  subst ho hg
  show M.view.read (Elt F) g ((Rect.unit (s := S1x1x1024) ![0, 0, j.val] S1x1x1.size inb).emb x) = _
  refine congrArg (M.view.read (Elt F) g) (funext fun a => Fin.ext ?_)
  have h0 : (x 0).val < 1 := (x 0).isLt
  have h1 : (x 1).val < 1 := (x 1).isLt
  have h2 : (x 2).val < 1 := (x 2).isLt
  fin_cases a
  · show 0 + 1 * (x 0).val = 0; omega
  · show 0 + 1 * (x 1).val = 0; omega
  · show j.val + 1 * (x 2).val = j.val; omega

end Issue

section Loops

variable (c : Dev nD) (A : S294912x128.Idx → Elt F .f32) (q : PosShare TreeShare) (ix : Fin 1024 → Fin 32768) (t : Fin grid0.N)
  (M : Memref sig .tc .smem S1x1x1024 .i32) (g : Buf (Elt F) (M.view.loc (c : Thread nD τ))) (X : Words) (hg : M.view.read (Elt F) g = X) (hX : Named X ix)

/-- One trip of the first loop, which fills slot 0 at the first point. -/
abbrev fetch1 (h1 : k0_cond1 (grid0.coords t) = 1#1) (k : Fin k0_t1_loop.trips) : Prog (TpuEff nD τ sig (Elt F) Λ₀ .tc) PUnit :=
  trip M (Rect.unit (s := S1x1x1024) (k0_off1 k) S1x1x1.size (k0_off1_inb (grid0.coords t) k h1)) (View.loads_smem_one rfl numel1_S1x1x1)
    (Shape.Idx.first (numel1_S1x1x1.symm ▸ Nat.one_pos)) (k0_chk1 (grid0.coords t)) (k0_chk1.dec (grid0.coords t))
    ((scr.slice (Rect.unit (s := S2x8192x128) (k0_off2 k) S1x8x128.size (k0_off2_inb (grid0.coords t) k h1)) (fun _ => rfl)).squeeze S8x128 squeezes_S1x8x128_S8x128)
    (fun w hw => slabs.slice (Rect.unit (s := S294912x128) (k0_off3 w) S8x128.size (k0_off3_inb (grid0.coords t) w hw h1)) (fun _ => rfl))
    ((cc0_scratch1.slice (Rect.unit (s := S2) ![0] S1.size inb_S2_S1_0)).squeeze S_ squeezes_S1_S_).sem
    (fun _ _ => View.wordExact_bits rfl) ((View.wordExact_bits rfl).reshape _ _) ⟨Or.inl rfl, trivial⟩

/-- One trip of the second, which fills the next point's slot. -/
abbrev fetch2 (h2 : k0_cond2 (grid0.coords t) = 1#1) (k : Fin k0_t2_loop.trips) : Prog (TpuEff nD τ sig (Elt F) Λ₀ .tc) PUnit :=
  trip M (Rect.unit (s := S1x1x1024) (k0_off4 k) S1x1x1.size (k0_off4_inb (grid0.coords t) k h2)) (View.loads_smem_one rfl numel1_S1x1x1)
    (Shape.Idx.first (numel1_S1x1x1.symm ▸ Nat.one_pos)) (k0_chk2 (grid0.coords t)) (k0_chk2.dec (grid0.coords t))
    ((scr.slice (Rect.unit (s := S2x8192x128) (k0_off6 (grid0.coords t) k) S1x8x128.size (k0_off6_inb (grid0.coords t) k h2)) (fun _ => rfl)).squeeze S8x128 squeezes_S1x8x128_S8x128)
    (fun w hw => slabs.slice (Rect.unit (s := S294912x128) (k0_off7 w) S8x128.size (k0_off7_inb (grid0.coords t) w hw h2)) (fun _ => rfl))
    ((cc0_scratch1.slice (Rect.unit (s := S2) (k0_off5 (grid0.coords t)) S1.size (k0_off5_inb (grid0.coords t) h2))).squeeze S_ squeezes_S1_S_).sem
    (fun _ _ => View.wordExact_bits rfl) ((View.wordExact_bits rfl).reshape _ _) ⟨Or.inl rfl, trivial⟩

theorem t1_body_eq (M₁ M₂ : Memref sig .tc .smem S1x1x1024 .i32) (h₁ h₂ h₃) (M₄ h₄ M₅ h₅ h₆) (h1 : k0_cond1 (grid0.coords t) = 1#1) (k u) :
    k0_t1_body (F := F) (grid0.coords t) M₁ h₁ M₂ h₂ slabs h₃ M₄ h₄ M₅ h₅ scr h₆ cc0_scratch1 h1 k u = fetch1 t M₁ h1 k := rfl
theorem t2_body_eq (M₁ M₂ : Memref sig .tc .smem S1x1x1024 .i32) (h₁ h₂ h₃) (M₄ h₄ M₅ h₅ h₆) (h2 : k0_cond2 (grid0.coords t) = 1#1) (k u) :
    k0_t2_body (F := F) (grid0.coords t) M₁ h₁ M₂ h₂ slabs h₃ M₄ h₄ M₅ h₅ scr h₆ cc0_scratch1 h2 k u = fetch2 t M₂ h2 k := rfl

include hX in
theorem named_lt (j : Fin 1024) : (X (ix3 (0 : Fin 1) (0 : Fin 1) j)).toNat < 32768 := by rw [hX.word]; exact (ix j).isLt

include hg hX in
theorem fetch1_step (h1 : k0_cond1 (grid0.coords t) = 1#1) (k : Fin k0_t1_loop.trips) (a : PUnit) :
    issueAt c A 0 q ix M g k a ⊢ wp frame (wpE (defs₀ (F := F)) Variants.none (c : Thread nD τ) none) Set.univ (fetch1 t M h1 k)
      (issueAt c A 0 q ix M g (k.val + 1)) := by
  have hk : k.val < 1024 := trips1 ▸ k.isLt
  have hw : (X (ix3 (0 : Fin 1) (0 : Fin 1) (⟨k.val, hk⟩ : Fin 1024))).toNat < 32768 := named_lt ix X hX _
  have ho : k0_off3 (X (ix3 (0 : Fin 1) (0 : Fin 1) (⟨k.val, hk⟩ : Fin 1024))) = ![9 * (ix ⟨k.val, hk⟩).val, 0] := by
    rw [off3_eq _ hw, hX.word]
  have hr := word_read c M g X hg ⟨k.val, hk⟩ _ (off1_eq k) (k0_off1_inb (grid0.coords t) k h1) (Shape.Idx.first (numel1_S1x1x1.symm ▸ Nat.one_pos))
  have hc : k0_chk1 (grid0.coords t) (X (ix3 (0 : Fin 1) (0 : Fin 1) (⟨k.val, hk⟩ : Fin 1024))) := fun _ a => by rw [ho]; exact src_inb _ a
  have hd := dst_of 0 ⟨k.val, hk⟩ _ (off2_eq k) (k0_off2_inb (grid0.coords t) k h1)
  have hs := src_of (ix ⟨k.val, hk⟩) _ ho (k0_off3_inb (grid0.coords t) _ hc h1)
  have he := cell_of 0 _ rfl inb_S2_S1_0
  exact trip_step c A 0 q ix M _ _ _ _ _ _ _ _ _ _ _ g ⟨k.val, hk⟩ _ hr hc hd hs he a

include hg hX in
theorem fetch2_step (h2 : k0_cond2 (grid0.coords t) = 1#1) (k : Fin k0_t2_loop.trips) (a : PUnit) :
    issueAt c A (next t) q ix M g k a ⊢ wp frame (wpE (defs₀ (F := F)) Variants.none (c : Thread nD τ) none) Set.univ (fetch2 t M h2 k)
      (issueAt c A (next t) q ix M g (k.val + 1)) := by
  have hk : k.val < 1024 := trips2 ▸ k.isLt
  have hw : (X (ix3 (0 : Fin 1) (0 : Fin 1) (⟨k.val, hk⟩ : Fin 1024))).toNat < 32768 := named_lt ix X hX _
  have ho : k0_off7 (X (ix3 (0 : Fin 1) (0 : Fin 1) (⟨k.val, hk⟩ : Fin 1024))) = ![9 * (ix ⟨k.val, hk⟩).val, 0] := by
    rw [off7_eq _ hw, hX.word]
  have hr := word_read c M g X hg ⟨k.val, hk⟩ _ (off4_eq k) (k0_off4_inb (grid0.coords t) k h2) (Shape.Idx.first (numel1_S1x1x1.symm ▸ Nat.one_pos))
  have hc : k0_chk2 (grid0.coords t) (X (ix3 (0 : Fin 1) (0 : Fin 1) (⟨k.val, hk⟩ : Fin 1024))) := fun _ a => by rw [ho]; exact src_inb _ a
  have hd := dst_of (next t) ⟨k.val, hk⟩ _ (off6_eq t k) (k0_off6_inb (grid0.coords t) k h2)
  have hs := src_of (ix ⟨k.val, hk⟩) _ ho (k0_off7_inb (grid0.coords t) _ hc h2)
  have he := cell_of (next t) _ (off5_eq t) (k0_off5_inb (grid0.coords t) h2)
  exact trip_step c A (next t) q ix M _ _ _ _ _ _ _ _ _ _ _ g ⟨k.val, hk⟩ _ hr hc hd hs he a

end Loops

end Cert.Kernel3Ideal.Gather
-- ==== Proof.Gather.Fill.lean ====
/- A slot's round: from its semaphore at zero and its pieces in hand the copies are started; in flight; and, all landed, the slot
   filled and the slabs' share whole again. -/
module

public import proofs.«01_k».proof.Proof.Gather.Issue

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

section Round

variable (c : Dev nD) (A : S294912x128.Idx → Elt F .f32) (s : Fin 2) (q : PosShare TreeShare) (ix : Fin 1024 → Fin 32768)
  (M : Memref sig .tc .smem S1x1x1024 .i32) (g : Buf (Elt F) (M.view.loc (c : Thread nD τ)))

/-- All 1024 copies into slot `s` started, none waited for. -/
def flying : sProp 𝕄 :=
  iprop(batch c A s q ix 1024 0 ∗ bigSep Finset.univ (rest c A q ix) ∗ sl c A Finset.univ (Transfers.shareDrop q 1024))

/-- An idle slot: its semaphore at zero, its elements at some contents. -/
def idle : sProp 𝕄 := iprop(semVal ((c : Thread nD τ), SemLoc.dma (cell s)) 0 ∗ ∃ f, pc c (slot s) f)

theorem toks_univ : (bigSep (Finset.range 1024) (fun i => sl c A Finset.univ (Transfers.shareTokN q i)) : sProp 𝕄) = bigSep Finset.univ (tok c A q) := by
  rw [← Ring.rangeSet_univ, Ring.bigSep_rangeSet_eq_range (NB := 1024) (lo := 0) (hi := 1024) (Φ := tok c A q) (Nat.le_refl _)
    (fun i => sl c A Finset.univ (Transfers.shareTokN q i)) (fun k hk => by show _ = sl c A Finset.univ (Transfers.shareTokN q (0 + k)); rw [Nat.zero_add])]

theorem slot_own (f : S2x8192x128.Idx → Elt F .f32) : (pc c (slot s) f : sProp 𝕄) ⊢ bigSep Finset.univ (own c s) := by
  refine (Entails.of_eq (Ring.pointsTo_sub_blocks (ℓ := scr.view.loc (c : Thread nD τ)) (piece s) (piece_disjoint s) (slot s) (piece_cover s) f)).trans
    (BI.bigSep_mono fun j _ => ?_)
  show pc c (piece s j) f ⊢ iprop(∃ f, pc c (piece s j) f)
  iintro H
  iexists f
  iexact H

/-- An idle slot with a share of the slabs is ready for its first copy. -/
theorem issue_start (a : PUnit) :
    iprop(idle c s ∗ sl c A Finset.univ q ∗ (M.view.loc (c : Thread nD τ) ↦[M.view.set]{fullShare} g))
      ⊢ (iprop(|={Set.univ}=> (issueAt c A s q ix M g 0 a ∗ sl c A Finset.univ (Transfers.shareDrop q 1024))) : sProp 𝕄) := by
  unfold idle
  iintro ⟨⟨Hc, ⟨%f, HP⟩⟩, HS, HM⟩
  imod (Transfers.batch_alloc' (Lvl := ℕ) (countersEmb (U := Pipeline.UD sig nD τ)) (c : Thread nD τ) () credit (del c A s q ix) (sm := .dma (cell s)) (E := Set.univ)) $$ Hc with HB
  ihave HS' := (Transfers.pointsTo_toks_range q 1024).1 $$ HS
  icases HS' with ⟨HD, HT⟩
  imodintro
  unfold issueAt
  isplitr [HD]
  · isplitl [HB]; · iexact HB
    isplitl [HP]
    · rw [Ring.rangeSet_univ]; iapply (slot_own c s f); iexact HP
    isplitl [HT]
    · rw [Ring.rangeSet_univ, ← toks_univ]; iexact HT
    isplitr [HM]
    · rw [Ring.bigSep_rangeSet_empty (Nat.le_refl _)]; iempintro
    iexact HM
  iexact HD

/-- The last copy started, the slot is in flight. -/
theorem issue_end (a : PUnit) :
    iprop(issueAt c A s q ix M g 1024 a ∗ sl c A Finset.univ (Transfers.shareDrop q 1024))
      ⊢ (iprop(flying c A s q ix ∗ (M.view.loc (c : Thread nD τ) ↦[M.view.set]{fullShare} g)) : sProp 𝕄) := by
  unfold issueAt flying
  rw [Ring.rangeSet_univ]
  iintro ⟨⟨HB, -, -, HR, HM⟩, HD⟩
  isplitr [HM]
  · isplitl [HB]; · iexact HB
    isplitl [HR]; · iexact HR
    iexact HD
  iexact HM

/-- Every copy landed: the slot is filled, the share whole. -/
theorem landed :
    iprop(bigSep Finset.univ (del c A s q ix) ∗ bigSep Finset.univ (rest c A q ix) ∗ sl c A Finset.univ (Transfers.shareDrop q 1024))
      ⊢ (iprop(pc c (slot s) (filled A ix) ∗ sl c A Finset.univ q) : sProp 𝕄) := by
  have e : (bigSep Finset.univ (del c A s q ix) : sProp 𝕄) = iprop(bigSep Finset.univ (fun j => pc c (piece s j) (filled A ix))
      ∗ bigSep Finset.univ (fun j : Fin 1024 => sl c A (rows8 (ix j)) (Transfers.shareTokN q j.val))) := BI.bigSep_sep _ _ _
  have e' : iprop(bigSep Finset.univ (fun j : Fin 1024 => sl c A (rows8 (ix j)) (Transfers.shareTokN q j.val)) ∗ bigSep Finset.univ (rest c A q ix))
      ⊢ (bigSep Finset.univ (tok c A q) : sProp 𝕄) :=
    (Entails.of_eq (BI.bigSep_sep _ _ _).symm).trans (BI.bigSep_mono fun j _ => (pointsTo_split_subset (Finset.subset_univ (rows8 (ix j)))).2)
  rw [e]
  iintro ⟨⟨HP, HT⟩, HR, HD⟩
  isplitl [HP]
  · iapply (Entails.of_eq (Ring.pointsTo_sub_blocks (ℓ := scr.view.loc (c : Thread nD τ)) (piece s) (piece_disjoint s) (slot s) (piece_cover s) (filled A ix)).symm)
    iexact HP
  iapply (Transfers.pointsTo_toks_range q 1024).2
  isplitl [HD]; · iexact HD
  rw [toks_univ]
  iapply e'
  isplitl [HT]; · iexact HT
  iexact HR

/-- Before trip `k` of the draining loop: `k` waits done, and after the last the semaphore back at zero with every delivery. -/
def drainAt (k : ℕ) (_ : PUnit) : sProp 𝕄 :=
  iprop((∃ W, owes (c : Thread nD τ) 0 W) ∗ (if k < 1024 then batch c A s q ix 1024 (credit * k)
    else iprop(semVal ((c : Thread nD τ), SemLoc.dma (cell s)) 0 ∗ bigSep Finset.univ (del c A s q ix))))

/-- One wait, its operands abstract. -/
theorem wait_step (se : DmaSem sig) (d : Memref sig .tc .vmem S8x128 .f32) (from' : Memref sig .tc .hbm S8x128 .f32)
    (hs : from'.view.WordExact) (hd : d.view.WordExact) (j : Fin 1024) (hse : se = cell s) (hd' : d = dst s 0) (a : PUnit) :
    drainAt c A s q ix j.val a ⊢ wp frame (wpE (defs₀ (F := F)) Variants.none (c : Thread nD τ) none) Set.univ
      (.op (.waitDma2 se from' d hs hd) fun _ => .ret ⟨⟩) (drainAt c A s q ix (j.val + 1)) := by
  have hj : j.val < 1024 := j.isLt
  subst hse hd'
  unfold drainAt
  simp only [if_pos hj]
  iintro ⟨⟨%W, HO⟩, HB⟩
  rcases Nat.lt_or_ge (j.val + 1) 1024 with h1 | h1
  · simp only [if_pos h1]
    iapply (Transfers.wp_waitBatch (countersEmb (U := Pipeline.UD sig nD τ)) Variants.none (c : Thread nD τ) none () (dst_credit s 0)
      (D := del c A s q ix) (u := credit * j.val) (by rw [← Nat.mul_succ]; exact Nat.mul_lt_mul_of_pos_left h1 credit_pos)) $$ [HO HB]
    · isplitl [HB]; · iexact HB
      iexact HO
    iintro ⟨HB, HO⟩
    rw [wp_ret]
    imodintro
    isplitl [HO]; · iexists _; iexact HO
    rw [show credit * (j.val + 1) = credit * j.val + credit from Nat.mul_succ _ _]
    iexact HB
  · simp only [if_neg (Nat.not_lt.mpr h1)]
    iapply (Transfers.wp_waitBatchLast (countersEmb (U := Pipeline.UD sig nD τ)) Variants.none (c : Thread nD τ) none () (dst_credit s 0) credit_pos
      (D := del c A s q ix) (u := credit * j.val) (by rw [← Nat.mul_succ]; exact congrArg (credit * ·) (by omega : j.val + 1 = 1024))) $$ [HO HB]
    · isplitl [HB]; · iexact HB
      iexact HO
    iintro ⟨HD, HC, HO⟩
    rw [wp_ret]
    imodintro
    isplitl [HO]; · iexists _; iexact HO
    isplitl [HC]; · iexact HC
    iexact HD

theorem t3_step (t : Fin grid0.N) (M₁ M₂ : Memref sig .tc .smem S1x1x1024 .i32) (h₁ h₂ h₃) (M₄ h₄ M₅ h₅ h₆) (k : Fin k0_t3_loop.trips) (a : PUnit) :
    drainAt c A (here t) q ix k.val a ⊢ wp frame (wpE (defs₀ (F := F)) Variants.none (c : Thread nD τ) none) Set.univ
      (k0_t3_body (F := F) (grid0.coords t) M₁ h₁ M₂ h₂ slabs h₃ M₄ h₄ M₅ h₅ scr h₆ cc0_scratch1 k a) (drainAt c A (here t) q ix (k.val + 1)) := by
  have hk : k.val < 1024 := trips3 ▸ k.isLt
  have he := cell_of (here t) _ (off8_eq t) (k0_off8_inb (grid0.coords t))
  have hd := dst_of (here t) 0 _ (off9_eq t) (k0_off9_inb (grid0.coords t))
  exact wait_step c A (here t) q ix _ _ _ _ _ ⟨k.val, hk⟩ he hd a

end Round

end Cert.Kernel3Ideal.Gather
-- ==== Proof.Gather.Front.lean ====
module

public import proofs.«01_k».proof.Proof.Gather.Fill

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

section Front

variable (c : Dev nD) (A : S294912x128.Idx → Elt F .f32) (s : Fin 2) (q : PosShare TreeShare) (ix : Fin 1024 → Fin 32768) (t : Fin grid0.N)
  (M₁ M₂ : Memref sig .tc .smem S1x1x1024 .i32) (h₁ : M₁.IsWhole) (h₂ : M₂.IsWhole) (h₃ : slabs.IsWhole) (M₄ : Memref sig .tc .vmem S1x1024 .f32) (h₄ : M₄.IsWhole)
  (M₅ : Memref sig .tc .vmem S1024x1024 .f32) (h₅ : M₅.IsWhole) (h₆ : scr.IsWhole)

/-- The first loop, started. -/
theorem loop1_run (g : Buf (Elt F) (M₁.view.loc (c : Thread nD τ))) (X : Words) (hg : M₁.view.read (Elt F) g = X) (hX : Named X ix)
    (h1 : k0_cond1 (grid0.coords t) = 1#1) :
    iprop(idle c 0 ∗ sl c A Finset.univ q ∗ (M₁.view.loc (c : Thread nD τ) ↦[M₁.view.set]{fullShare} g))
      ⊢ wp frame (wpE (defs₀ (F := F)) Variants.none (c : Thread nD τ) none) Set.univ
        (Scf.Loop.for k0_t1_loop (k0_t1_ok (grid0.coords t) h1) ⟨⟩ (k0_t1_body (F := F) (grid0.coords t) M₁ h₁ M₂ h₂ slabs h₃ M₄ h₄ M₅ h₅ scr h₆ cc0_scratch1 h1))
        (fun _ => iprop(flying c A 0 q ix ∗ (M₁.view.loc (c : Thread nD τ) ↦[M₁.view.set]{fullShare} g))) := by
  have hb : ∀ (k : Fin k0_t1_loop.trips) (a : PUnit), issueAt c A 0 q ix M₁ g k.val a ⊢ wp frame (wpE (defs₀ (F := F)) Variants.none (c : Thread nD τ) none) Set.univ
      (k0_t1_body (F := F) (grid0.coords t) M₁ h₁ M₂ h₂ slabs h₃ M₄ h₄ M₅ h₅ scr h₆ cc0_scratch1 h1 k a) (issueAt c A 0 q ix M₁ g (k.val + 1)) := fun k a => by
    rw [t1_body_eq]; exact fetch1_step c A q ix t M₁ g X hg hX h1 k a
  iintro H
  ihave H' := (issue_start c A 0 q ix M₁ g ⟨⟩) $$ H
  imod H' with ⟨HI, HD⟩
  iapply (Scf.wp_for frame (wpE (defs₀ (F := F)) Variants.none (c : Thread nD τ) none) Set.univ _ _ _ (k0_t1_ok (grid0.coords t) h1) ⟨⟩ _ (issueAt c A 0 q ix M₁ g) hb)
  isplitl [HI]; · iexact HI
  iintro %a HI
  iapply (issue_end c A 0 q ix M₁ g a)
  isplitl [HI]
  · rw [show Scf.trips k0_t1_loop.lb k0_t1_loop.ub k0_t1_loop.st = 1024 from trips1]; iexact HI
  iexact HD

/-- The second. -/
theorem loop2_run (g : Buf (Elt F) (M₂.view.loc (c : Thread nD τ))) (X : Words) (hg : M₂.view.read (Elt F) g = X) (hX : Named X ix)
    (h2 : k0_cond2 (grid0.coords t) = 1#1) :
    iprop(idle c (next t) ∗ sl c A Finset.univ q ∗ (M₂.view.loc (c : Thread nD τ) ↦[M₂.view.set]{fullShare} g))
      ⊢ wp frame (wpE (defs₀ (F := F)) Variants.none (c : Thread nD τ) none) Set.univ
        (Scf.Loop.for k0_t2_loop (k0_t2_ok (grid0.coords t) h2) ⟨⟩ (k0_t2_body (F := F) (grid0.coords t) M₁ h₁ M₂ h₂ slabs h₃ M₄ h₄ M₅ h₅ scr h₆ cc0_scratch1 h2))
        (fun _ => iprop(flying c A (next t) q ix ∗ (M₂.view.loc (c : Thread nD τ) ↦[M₂.view.set]{fullShare} g))) := by
  have hb : ∀ (k : Fin k0_t2_loop.trips) (a : PUnit), issueAt c A (next t) q ix M₂ g k.val a ⊢ wp frame (wpE (defs₀ (F := F)) Variants.none (c : Thread nD τ) none) Set.univ
      (k0_t2_body (F := F) (grid0.coords t) M₁ h₁ M₂ h₂ slabs h₃ M₄ h₄ M₅ h₅ scr h₆ cc0_scratch1 h2 k a) (issueAt c A (next t) q ix M₂ g (k.val + 1)) := fun k a => by
    rw [t2_body_eq]; exact fetch2_step c A q ix t M₂ g X hg hX h2 k a
  iintro H
  ihave H' := (issue_start c A (next t) q ix M₂ g ⟨⟩) $$ H
  imod H' with ⟨HI, HD⟩
  iapply (Scf.wp_for frame (wpE (defs₀ (F := F)) Variants.none (c : Thread nD τ) none) Set.univ _ _ _ (k0_t2_ok (grid0.coords t) h2) ⟨⟩ _ (issueAt c A (next t) q ix M₂ g) hb)
  isplitl [HI]; · iexact HI
  iintro %a HI
  iapply (issue_end c A (next t) q ix M₂ g a)
  isplitl [HI]
  · rw [show Scf.trips k0_t2_loop.lb k0_t2_loop.ub k0_t2_loop.st = 1024 from trips2]; iexact HI
  iexact HD

/-- The draining loop. -/
theorem loop3_run :
    iprop(flying c A (here t) q ix ∗ ∃ W, owes (c : Thread nD τ) 0 W)
      ⊢ wp frame (wpE (defs₀ (F := F)) Variants.none (c : Thread nD τ) none) Set.univ
        (Scf.Loop.for k0_t3_loop k0_t3_ok ⟨⟩ (k0_t3_body (F := F) (grid0.coords t) M₁ h₁ M₂ h₂ slabs h₃ M₄ h₄ M₅ h₅ scr h₆ cc0_scratch1))
        (fun _ => iprop(semVal ((c : Thread nD τ), SemLoc.dma (cell (here t))) 0 ∗ pc c (slot (here t)) (filled A ix) ∗ sl c A Finset.univ q
          ∗ ∃ W, owes (c : Thread nD τ) 0 W)) := by
  unfold flying
  iintro ⟨⟨HB, HR, HD⟩, HO⟩
  iapply (Scf.wp_for frame (wpE (defs₀ (F := F)) Variants.none (c : Thread nD τ) none) Set.univ _ _ _ k0_t3_ok ⟨⟩ _ (drainAt c A (here t) q ix)
    (t3_step c A q ix t M₁ M₂ h₁ h₂ h₃ M₄ h₄ M₅ h₅ h₆))
  isplitl [HB HO]
  · unfold drainAt
    rw [if_pos (by decide), Nat.mul_zero]
    isplitl [HO]; · iexact HO
    iexact HB
  iintro %a HL
  rw [show Scf.trips k0_t3_loop.lb k0_t3_loop.ub k0_t3_loop.st = 1024 from trips3]
  unfold drainAt
  rw [if_neg (Nat.lt_irrefl _)]
  icases HL with ⟨HO, HC, HA⟩
  ihave HP := (landed c A (here t) q ix) $$ [HA HR HD]
  · isplitl [HA]; · iexact HA
    isplitl [HR]; · iexact HR
    iexact HD
  icases HP with ⟨HP, HS⟩
  isplitl [HC]; · iexact HC
  isplitl [HP]; · iexact HP
  isplitl [HS]; · iexact HS
  iexact HO

/-- Chunk `j` of the rows block `ix` names: row `r`, lane `l` is row `j` of the slab of token `r`. -/
def chunk (j : Fin 8) : Vec F S1x1024x128 .f32 := fun x =>
  A (ix2 (⟨9 * (ix ⟨(x 1).val, (x 1).isLt⟩).val + j.val, by have := (ix ⟨(x 1).val, (x 1).isLt⟩).isLt; omega⟩ : Fin 294912) (⟨(x 2).val, (x 2).isLt⟩ : Fin 128))

/-- A strided load from the filled slot is a chunk of it, -/
theorem chunk_read (j : Fin 8) (o : Fin 3 → Nat) (ho : o = ![s.val, j.val, 0])
    (inb) :
    scr.view.readAt (Elt F) (⟨o, S1x1024x128.size, ![1, 8, 1], inb⟩ : LoadRect S2x8192x128) (filled A ix) = chunk A ix j := by
  subst ho
  funext x
  have h1 : (x 1).val < 1024 := (x 1).isLt
  have hj := j.isLt
  show filled A ix ((⟨![s.val, j.val, 0], S1x1024x128.size, ![1, 8, 1], inb⟩ : LoadRect S2x8192x128).idx x) = _
  unfold filled chunk
  have e : (⟨(j.val + 8 * (x 1).val) / 8, by omega⟩ : Fin 1024) = ⟨(x 1).val, h1⟩ := Fin.ext (by show (j.val + 8 * (x 1).val) / 8 = (x 1).val; omega)
  refine congrArg A (congrArg₂ ix2 (Fin.ext ?_) (Fin.ext ?_))
  · show 9 * (ix ⟨(j.val + 8 * (x 1).val) / 8, _⟩).val + (j.val + 8 * (x 1).val) % 8 = 9 * (ix ⟨(x 1).val, _⟩).val + j.val
    rw [e]; omega
  · show 0 + 1 * (x 2).val = (x 2).val; omega

/-- and stays within it. -/
theorem chunk_sub (j : Fin 8) (o : Fin 3 → Nat) (ho : o = ![s.val, j.val, 0])
    (inb) :
    scr.view.setOn (⟨o, S1x1024x128.size, ![1, 8, 1], inb⟩ : LoadRect S2x8192x128).set ⊆ slot s := by
  subst ho
  intro y hy
  obtain ⟨y', hy', rfl⟩ := Finset.mem_map.mp hy
  obtain ⟨k, hk, e⟩ := (LoadRect.mem_set _).mp hy' 0
  rw [mem_slot]
  have hk' : k < 1 := hk
  refine Eq.trans e ?_
  show s.val + 1 * k = s.val
  omega

/-- One such load at the head of a program. -/
theorem load_chunk {α : Type} (f : S2x8192x128.Idx → Elt F .f32) (hf : f = filled A ix) (j : Fin 8) (o : Fin 3 → Nat) (ho : o = ![s.val, j.val, 0]) (inb) (hl)
    (k : Vec F S1x1024x128 .f32 → Prog (TpuEff nD τ sig (Elt F) Λ₀ .tc) α) (Q : α → sProp 𝕄) :
    pc c (slot s) f ⊢ iprop((pc c (slot s) f -∗ wp frame (wpE (defs₀ (F := F)) Variants.none (c : Thread nD τ) none) Set.univ (k (chunk A ix j)) Q)
      -∗ wp frame (wpE (defs₀ (F := F)) Variants.none (c : Thread nD τ) none) Set.univ
        (Prog.lift (.load scr (⟨o, S1x1024x128.size, ![1, 8, 1], inb⟩ : LoadRect S2x8192x128) hl) >>= k) Q) := by
  subst hf
  have h := wp_load (Γ := []) (defs := defs₀ (F := F)) Variants.none (c : Thread nD τ) none Set.univ (m := scr) (hl := hl) (q := fullShare) (k := k) (Q := Q) (f := filled A ix) (chunk_sub s j o ho inb)
  rw [chunk_read A s ix j o ho inb] at h
  exact h

/-! ## The body's first part -/

/-- The slot point `k` reads, on the natural numbers, and the half of the slabs' share its copies take. -/
def par (k : ℕ) : Fin 2 := ⟨k % 2, Nat.mod_lt _ Nat.two_pos⟩
def half (s : Fin 2) : PosShare TreeShare := if s = 0 then fullShare.left else fullShare.right

theorem here_eq : here t = par t.val := rfl
theorem next_eq : next t = par (t.val + 1) := Fin.ext (by show 1 - t.val % 2 = (t.val + 1) % 2; omega)
theorem next_next (k : ℕ) : par (k + 1 + 1) = par k := Fin.ext (by show (k + 1 + 1) % 2 = k % 2; omega)

variable (ixs : ℕ → Fin 1024 → Fin 32768)

/-- A slot that waits for its next round, with its half of the slabs. -/
abbrev ready (s : Fin 2) : sProp 𝕄 := iprop(idle c s ∗ sl c A Finset.univ (half s))
/-- A slot in flight with the rows of block `k`. -/
abbrev aloft (k : ℕ) : sProp 𝕄 := flying c A (par k) (half (par k)) (ixs k)
/-- Before point `k` both slots are ready (the first, and after the last), or this point's slot is in flight. -/
def slots (k : ℕ) : sProp 𝕄 :=
  if k = 0 ∨ k = 32 then iprop(ready c A (par k) ∗ ready c A (par (k + 1))) else iprop(aloft c A ixs k ∗ ready c A (par (k + 1)))
/-- The other slot, once point `k`'s second loop has run. -/
def ahead (k : ℕ) : sProp 𝕄 := if k + 1 < 32 then aloft c A ixs (k + 1) else ready c A (par (k + 1))

theorem slots_succ (k : ℕ) (hk : k < 32) : iprop(ready c A (par k) ∗ ahead c A ixs k) ⊢ (slots c A ixs (k + 1) : sProp 𝕄) := by
  unfold slots ahead
  rw [next_next]
  by_cases h : k + 1 < 32
  · rw [if_pos h, if_neg (by omega)]
    iintro ⟨H0, H1⟩
    isplitl [H1]; · iexact H1
    iexact H0
  · rw [if_neg h, if_pos (by omega)]
    iintro ⟨H0, H1⟩
    isplitl [H1]; · iexact H1
    iexact H0

/-- The program after the starting loops. -/
abbrev settle (v9 : BitVec 32) : Prog (TpuEff nD τ sig (Elt F) Λ₀ .tc)
    (Σ' (_ : BitVec 32) (_ : FVec F S1024x128 .f32) (_ : FVec F S1024x128 .f32) (_ : FVec F S1024x128 .f32) (_ : FVec F S1024x128 .f32), Vec F S1x1024x128 .f32) := do
  Scf.Loop.for k0_t3_loop k0_t3_ok ⟨⟩ (k0_t3_body (F := F) (grid0.coords t) M₁ h₁ M₂ h₂ slabs h₃ M₄ h₄ M₅ h₅ scr h₆ cc0_scratch1)
  let a0 : Vec F S1x1024x128 .f32 ← Prog.lift (.load scr (⟨k0_off10 (grid0.coords t), S1x1024x128.size, ![1, 8, 1], k0_off10_inb (grid0.coords t)⟩ : LoadRect S2x8192x128) (View.loadsAt_vmem h_S1x1024x128))
  let a1 : Vec F S1x1024x128 .f32 ← Prog.lift (.load scr (⟨k0_off11 (grid0.coords t), S1x1024x128.size, ![1, 8, 1], k0_off11_inb (grid0.coords t)⟩ : LoadRect S2x8192x128) (View.loadsAt_vmem h_S1x1024x128))
  let a2 : Vec F S1x1024x128 .f32 ← Prog.lift (.load scr (⟨k0_off12 (grid0.coords t), S1x1024x128.size, ![1, 8, 1], k0_off12_inb (grid0.coords t)⟩ : LoadRect S2x8192x128) (View.loadsAt_vmem h_S1x1024x128))
  let a3 : Vec F S1x1024x128 .f32 ← Prog.lift (.load scr (⟨k0_off13 (grid0.coords t), S1x1024x128.size, ![1, 8, 1], k0_off13_inb (grid0.coords t)⟩ : LoadRect S2x8192x128) (View.loadsAt_vmem h_S1x1024x128))
  let a4 : Vec F S1x1024x128 .f32 ← Prog.lift (.load scr (⟨k0_off14 (grid0.coords t), S1x1024x128.size, ![1, 8, 1], k0_off14_inb (grid0.coords t)⟩ : LoadRect S2x8192x128) (View.loadsAt_vmem h_S1x1024x128))
  pure ⟨v9, k0_pay3 a0, k0_pay4 a1, k0_pay5 a2, k0_pay6 a3, a4⟩

/-- This point's slot once drained: filled, its semaphore at zero, its half of the slabs back. -/
abbrev full : sProp 𝕄 :=
  iprop(semVal ((c : Thread nD τ), SemLoc.dma (cell (here t))) 0 ∗ pc c (slot (here t)) (filled A (ixs t.val)) ∗ sl c A Finset.univ (half (here t)))

/-- What the first part returns, but for its first value. -/
abbrev got (r : Σ' (_ : BitVec 32) (_ : FVec F S1024x128 .f32) (_ : FVec F S1024x128 .f32) (_ : FVec F S1024x128 .f32) (_ : FVec F S1024x128 .f32), Vec F S1x1024x128 .f32) : Prop :=
  r.2 = ⟨k0_pay3 (chunk A (ixs t.val) 0), k0_pay4 (chunk A (ixs t.val) 1), k0_pay5 (chunk A (ixs t.val) 2), k0_pay6 (chunk A (ixs t.val) 3), chunk A (ixs t.val) 4⟩

theorem settle_run (v9 : BitVec 32) :
    iprop(aloft c A ixs t.val ∗ ∃ W, owes (c : Thread nD τ) 0 W)
      ⊢ wp frame (wpE (defs₀ (F := F)) Variants.none (c : Thread nD τ) none) Set.univ (settle t M₁ M₂ h₁ h₂ h₃ M₄ h₄ M₅ h₅ h₆ v9)
        (fun r => iprop(⌜got A t ixs r⌝ ∗ full c A t ixs ∗ ∃ W, owes (c : Thread nD τ) 0 W)) := by
  unfold settle
  rw [wp_bind]
  refine (loop3_run c A (half (here t)) (ixs t.val) t M₁ M₂ h₁ h₂ h₃ M₄ h₄ M₅ h₅ h₆).trans (wp_mono _ _ _ fun _ => ?_)
  iintro ⟨HC, HP, HS, HO⟩
  iapply (load_chunk c A (here t) (ixs t.val) _ rfl 0 _ (off10_eq t) _ _ _ _) $$ HP
  iintro HP
  iapply (load_chunk c A (here t) (ixs t.val) _ rfl 1 _ (off11_eq t) _ _ _ _) $$ HP
  iintro HP
  iapply (load_chunk c A (here t) (ixs t.val) _ rfl 2 _ (off12_eq t) _ _ _ _) $$ HP
  iintro HP
  iapply (load_chunk c A (here t) (ixs t.val) _ rfl 3 _ (off13_eq t) _ _ _ _) $$ HP
  iintro HP
  iapply (load_chunk c A (here t) (ixs t.val) _ rfl 4 _ (off14_eq t) _ _ _ _) $$ HP
  iintro HP
  rw [wp_pure]
  imodintro
  isplitr; · ipureintro; rfl
  isplitr [HO]
  · isplitl [HC]; · iexact HC
    isplitl [HP]; · iexact HP
    iexact HS
  iexact HO

end Front

end Cert.Kernel3Ideal.Gather
-- ==== Proof.Gather.First.lean ====
/- The body's first part: the copies of a first point and of the next point started, this point's waited for, five chunks read. -/
module

public import proofs.«01_k».proof.Proof.Gather.Front

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

section First

variable (c : Dev nD) (A : S294912x128.Idx → Elt F .f32) (ixs : ℕ → Fin 1024 → Fin 32768) (t : Fin grid0.N)
  (M₁ M₂ : Memref sig .tc .smem S1x1x1024 .i32) (h₁ : M₁.IsWhole) (h₂ : M₂.IsWhole) (h₃ : slabs.IsWhole) (M₄ : Memref sig .tc .vmem S1x1024 .f32) (h₄ : M₄.IsWhole)
  (M₅ : Memref sig .tc .vmem S1024x1024 .f32) (h₅ : M₅.IsWhole) (h₆ : scr.IsWhole)
  (g₁ : Buf (Elt F) (M₁.view.loc (c : Thread nD τ))) (g₂ : Buf (Elt F) (M₂.view.loc (c : Thread nD τ)))

/-- What the first part leaves: its slot drained, the other under way, the two blocks of positions as they were. -/
abbrev left1 (r : Σ' (_ : BitVec 32) (_ : FVec F S1024x128 .f32) (_ : FVec F S1024x128 .f32) (_ : FVec F S1024x128 .f32) (_ : FVec F S1024x128 .f32), Vec F S1x1024x128 .f32) : sProp 𝕄 :=
  iprop(⌜got A t ixs r⌝ ∗ full c A t ixs ∗ ahead c A ixs t.val ∗ (M₁.view.loc (c : Thread nD τ) ↦[M₁.view.set]{fullShare} g₁)
    ∗ (M₂.view.loc (c : Thread nD τ) ↦[M₂.view.set]{fullShare} g₂) ∗ ∃ W, owes (c : Thread nD τ) 0 W)

/-- With the other slot under way already. -/
theorem settled (v9 : BitVec 32) :
    iprop(aloft c A ixs t.val ∗ ahead c A ixs t.val ∗ (M₁.view.loc (c : Thread nD τ) ↦[M₁.view.set]{fullShare} g₁)
      ∗ (M₂.view.loc (c : Thread nD τ) ↦[M₂.view.set]{fullShare} g₂) ∗ ∃ W, owes (c : Thread nD τ) 0 W)
      ⊢ wp frame (wpE (defs₀ (F := F)) Variants.none (c : Thread nD τ) none) Set.univ (settle t M₁ M₂ h₁ h₂ h₃ M₄ h₄ M₅ h₅ h₆ v9)
        (left1 c A ixs t M₁ M₂ g₁ g₂) := by
  iintro ⟨HF, HN, H1, H2, HO⟩
  iapply (wp_wand _ _ _) $$ [HF HO]
  · iapply (settle_run c A t M₁ M₂ h₁ h₂ h₃ M₄ h₄ M₅ h₅ h₆ ixs v9)
    isplitl [HF]; · iexact HF
    iexact HO
  iintro %r ⟨Hr, HF, HO⟩
  isplitl [Hr]; · iexact Hr
  isplitl [HF]; · iexact HF
  isplitl [HN]; · iexact HN
  isplitl [H1]; · iexact H1
  isplitl [H2]; · iexact H2
  iexact HO

variable (X₁ X₂ : Words) (hg₁ : M₁.view.read (Elt F) g₁ = X₁) (hg₂ : M₂.view.read (Elt F) g₂ = X₂)
  (hX₁ : Named X₁ (ixs t.val)) (hX₂ : t.val + 1 < 32 → Named X₂ (ixs (t.val + 1)))

include hg₂ hX₂ in
/-- From this point's slot in flight: the second loop, where there is a next point. -/
theorem second_run (v9 : BitVec 32) :
    iprop(aloft c A ixs t.val ∗ ready c A (par (t.val + 1)) ∗ (M₁.view.loc (c : Thread nD τ) ↦[M₁.view.set]{fullShare} g₁)
      ∗ (M₂.view.loc (c : Thread nD τ) ↦[M₂.view.set]{fullShare} g₂) ∗ ∃ W, owes (c : Thread nD τ) 0 W)
      ⊢ wp frame (wpE (defs₀ (F := F)) Variants.none (c : Thread nD τ) none) Set.univ
        (if h2 : k0_cond2 (grid0.coords t) = 1#1 then do
          Scf.Loop.for k0_t2_loop (k0_t2_ok (grid0.coords t) h2) ⟨⟩ (k0_t2_body (F := F) (grid0.coords t) M₁ h₁ M₂ h₂ slabs h₃ M₄ h₄ M₅ h₅ scr h₆ cc0_scratch1 h2)
          settle t M₁ M₂ h₁ h₂ h₃ M₄ h₄ M₅ h₅ h₆ v9
        else settle t M₁ M₂ h₁ h₂ h₃ M₄ h₄ M₅ h₅ h₆ v9)
        (left1 c A ixs t M₁ M₂ g₁ g₂) := by
  have ht : t.val < 32 := t.isLt
  by_cases h2 : k0_cond2 (grid0.coords t) = 1#1
  · rw [dif_pos h2, wp_bind]
    have h31 : t.val + 1 < 32 := by have := (cond2_iff t).mp h2; omega
    iintro ⟨HF, ⟨HI, HS⟩, H1, H2, HO⟩
    iapply (wp_wand _ _ _) $$ [HI HS H2]
    · iapply (loop2_run c A (half (par (t.val + 1))) (ixs (t.val + 1)) t M₁ M₂ h₁ h₂ h₃ M₄ h₄ M₅ h₅ h₆ g₂ X₂ hg₂ (hX₂ h31) h2)
      rw [next_eq]
      isplitl [HI]; · iexact HI
      isplitl [HS]; · iexact HS
      iexact H2
    iintro %a ⟨HN, H2⟩
    iapply (settled c A ixs t M₁ M₂ h₁ h₂ h₃ M₄ h₄ M₅ h₅ h₆ g₁ g₂ v9)
    isplitl [HF]; · iexact HF
    isplitl [HN]
    · unfold ahead
      rw [if_pos h31, show aloft c A ixs (t.val + 1) = flying c A (next t) (half (par (t.val + 1))) (ixs (t.val + 1)) by rw [next_eq]]
      iexact HN
    isplitl [H1]; · iexact H1
    isplitl [H2]; · iexact H2
    iexact HO
  · rw [dif_neg h2]
    have h31 : ¬ t.val + 1 < 32 := fun h => h2 ((cond2_iff t).mpr (by omega))
    iintro ⟨HF, HR, H1, H2, HO⟩
    iapply (settled c A ixs t M₁ M₂ h₁ h₂ h₃ M₄ h₄ M₅ h₅ h₆ g₁ g₂ v9)
    isplitl [HF]; · iexact HF
    isplitl [HR]
    · unfold ahead; rw [if_neg h31]; iexact HR
    isplitl [H1]; · iexact H1
    isplitl [H2]; · iexact H2
    iexact HO

include hg₁ hg₂ hX₁ hX₂ in
/-- The first part. -/
theorem part1_run :
    iprop(slots c A ixs t.val ∗ (M₁.view.loc (c : Thread nD τ) ↦[M₁.view.set]{fullShare} g₁)
      ∗ (M₂.view.loc (c : Thread nD τ) ↦[M₂.view.set]{fullShare} g₂) ∗ ∃ W, owes (c : Thread nD τ) 0 W)
      ⊢ wp frame (wpE (defs₀ (F := F)) Variants.none (c : Thread nD τ) none) Set.univ
        (k0_part1 (grid0.coords t) M₁ h₁ M₂ h₂ slabs h₃ M₄ h₄ M₅ h₅ scr h₆ cc0_scratch1)
        (left1 c A ixs t M₁ M₂ g₁ g₂) := by
  have ht : t.val < 32 := t.isLt
  rw [k0_part1_eq_skeleton]
  unfold k0_part1_skel
  by_cases h1 : k0_cond1 (grid0.coords t) = 1#1
  · have h0 : t.val = 0 := (cond1_iff t).mp h1
    have hs := second_run c A ixs t M₁ M₂ h₁ h₂ h₃ M₄ h₄ M₅ h₅ h₆ g₁ g₂ X₂ hg₂ hX₂
    simp only [dif_pos h1]
    rw [wp_bind]
    unfold slots
    rw [if_pos (.inl h0)]
    have hp : par t.val = 0 := by rw [h0]; rfl
    iintro ⟨⟨⟨HI, HS⟩, HR⟩, H1, H2, HO⟩
    iapply (wp_wand _ _ _) $$ [HI HS H1]
    · iapply (loop1_run c A (half (par t.val)) (ixs t.val) t M₁ M₂ h₁ h₂ h₃ M₄ h₄ M₅ h₅ h₆ g₁ X₁ hg₁ hX₁ h1)
      isplitl [HI]; · rw [← hp]; iexact HI
      isplitl [HS]; · iexact HS
      iexact H1
    iintro %a ⟨HN, H1⟩
    iapply (hs _)
    isplitl [HN]; · rw [← hp]; iexact HN
    isplitl [HR]; · iexact HR
    isplitl [H1]; · iexact H1
    isplitl [H2]; · iexact H2
    iexact HO
  · have h0 : t.val ≠ 0 := fun h => h1 ((cond1_iff t).mpr h)
    have hs := second_run c A ixs t M₁ M₂ h₁ h₂ h₃ M₄ h₄ M₅ h₅ h₆ g₁ g₂ X₂ hg₂ hX₂
    simp only [dif_neg h1]
    unfold slots
    rw [if_neg (by omega)]
    iintro ⟨⟨HN, HR⟩, H1, H2, HO⟩
    iapply (hs _)
    isplitl [HN]; · iexact HN
    isplitl [HR]; · iexact HR
    isplitl [H1]; · iexact H1
    isplitl [H2]; · iexact H2
    iexact HO

end First

end Cert.Kernel3Ideal.Gather
-- ==== Proof.Gather.Second.lean ====
/- The body after its first part: the remaining chunks read, and the eight columns of the output block stored. -/
module

public import proofs.«01_k».proof.Proof.Gather.First
public import Idealize.ShloMosaic.Lib.WritesUnit

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

section Cols

/-- Column block `j` of 128 lanes replaced. -/
def putc (j : ℕ) (w : FVec F S1024x128 .f32) (y : Vec F S1024x1024 .f32) : Vec F S1024x1024 .f32 := fun x =>
  if (x 1).val / 128 = j then w (ix2 (⟨(x 0).val, (x 0).isLt⟩ : Fin 1024) (⟨(x 1).val % 128, Nat.mod_lt _ (by decide)⟩ : Fin 128)) else y x
/-- Lanes `128 j` to `128 j + 127` of the gains. -/
def gain (j : ℕ) (g : Vec F S1x1024 .f32) : Vec F S1x128 .f32 := fun x =>
  g (ix2 (0 : Fin 1) (⟨(128 * j + (x 1).val) % 1024, Nat.mod_lt _ (by decide)⟩ : Fin 1024))
/-- The block whose column blocks are the given ones. -/
def cols (w : Fin 8 → FVec F S1024x128 .f32) : Vec F S1024x1024 .f32 := fun x =>
  w ⟨(x 1).val / 128, by have h : (x 1).val < 1024 := (x 1).isLt; omega⟩ (ix2 (⟨(x 0).val, (x 0).isLt⟩ : Fin 1024) (⟨(x 1).val % 128, Nat.mod_lt _ (by decide)⟩ : Fin 128))

theorem putc_all (w : Fin 8 → FVec F S1024x128 .f32) (y : Vec F S1024x1024 .f32) :
    putc 7 (w 7) (putc 6 (w 6) (putc 5 (w 5) (putc 4 (w 4) (putc 3 (w 3) (putc 2 (w 2) (putc 1 (w 1) (putc 0 (w 0) y))))))) = cols w := by
  funext x
  have h : (x 1).val < 1024 := (x 1).isLt
  have hq : (x 1).val / 128 < 8 := by omega
  unfold cols
  generalize hj : (⟨(x 1).val / 128, hq⟩ : Fin 8) = j
  have hv : (x 1).val / 128 = j.val := congrArg Fin.val hj
  unfold putc
  rw [hv]
  fin_cases j <;> simp

variable (c : Dev nD) (M : Memref sig .tc .vmem S1024x1024 .f32)

abbrev hasOut (y : Vec F S1024x1024 .f32) : sProp 𝕄 := owns (c : Thread nD τ) M fullShare y

/-- A load of the block whose value is not used. -/
theorem load_dead {α : Type} (y : Vec F S1024x1024 .f32) (r : LoadRect S1024x1024) (hl)
    (k : (r.shape.Idx → Elt F .f32) → Prog (TpuEff nD τ sig (Elt F) Λ₀ .tc) α) (Q : α → sProp 𝕄) :
    hasOut c M y ⊢ iprop((∀ v, hasOut c M y -∗ wp frame (wpE (defs₀ (F := F)) Variants.none (c : Thread nD τ) none) Set.univ (k v) Q)
      -∗ wp frame (wpE (defs₀ (F := F)) Variants.none (c : Thread nD τ) none) Set.univ (Prog.lift (.load M r hl) >>= k) Q) := by
  unfold hasOut owns
  iintro ⟨%f, %hf, H⟩ HK
  iapply (wp_load (Γ := []) (defs := defs₀ (F := F)) Variants.none (c : Thread nD τ) none Set.univ (m := M) (hl := hl) (q := fullShare) (k := k) (Q := Q) (f := f)
    (M.view.setOn_subset_set _)) $$ H
  iintro H
  iapply HK
  iexists f
  isplitr; · ipureintro; exact hf
  iexact H

/-- A store of column block `j`. -/
theorem store_col {α : Type} (y : Vec F S1024x1024 .f32) (j d : ℕ) (hd : d = 128 * j) (inb) (w : FVec F S1024x128 .f32) (hx hm)
    (k : PUnit → Prog (TpuEff nD τ sig (Elt F) Λ₀ .tc) α) (Q : α → sProp 𝕄) :
    hasOut c M y ⊢ iprop((hasOut c M (putc j w y) -∗ wp frame (wpE (defs₀ (F := F)) Variants.none (c : Thread nD τ) none) Set.univ (k ⟨⟩) Q)
      -∗ wp frame (wpE (defs₀ (F := F)) Variants.none (c : Thread nD τ) none) Set.univ
        (Prog.lift (.store M (Rect.unit (s := S1024x1024) ![0, d] S1024x128.size inb) w Finset.univ hx hm) >>= k) Q) := by
  subst hd
  unfold hasOut owns
  iintro ⟨%f, %hf, H⟩ HK
  iapply (wp_store (Γ := []) (defs := defs₀ (F := F)) Variants.none (c : Thread nD τ) none Set.univ (m := M) (hx := hx) (hm := hm) (k := k) (Q := Q) (f := f) (S := M.view.set)
    (((M.access _).setOn_subset_set _).trans (M.view.set_slice_subset _))) $$ H
  iintro H
  iapply HK
  iexists _
  isplitr
  rotate_left
  · iexact H
  ipureintro
  funext x
  have h0 : (x 0).val < 1024 := (x 0).isLt
  have h1 : (x 1).val < 1024 := (x 1).isLt
  show M.view.read (Elt F) (M.view.writes (Elt F) f [⟨Rect.unit (s := S1024x1024) ![0, 128 * j] S1024x128.size inb, w⟩]) x = _
  unfold putc
  split
  · next h =>
    refine View.read_writes_cons_unit_of_mem M.view f inb w [] x (ix2 (⟨(x 0).val, h0⟩ : Fin 1024) (⟨(x 1).val % 128, Nat.mod_lt _ (by decide)⟩ : Fin 128)) rfl fun a => ?_
    match a with
    | ⟨0, _⟩ => show (x 0).val = 0 + (x 0).val; omega
    | ⟨1, _⟩ => show (x 1).val = 128 * j + (x 1).val % 128; omega
  · next h =>
    refine (View.read_writes_cons_unit_of_not_mem M.view f inb w [] x rfl 1 ?_).trans ?_
    · show (x 1).val < 128 * j ∨ 128 * j + 128 ≤ (x 1).val; omega
    · rw [View.writes_nil]; exact congrFun hf x

/-- A load of one block of the gains. -/
theorem load_gain {α : Type} (M : Memref sig .tc .vmem S1x1024 .f32) (g : Vec F S1x1024 .f32) (j d : ℕ) (hd : d = 128 * j) (hj : j < 8) (inb) (hl)
    (k : Vec F S1x128 .f32 → Prog (TpuEff nD τ sig (Elt F) Λ₀ .tc) α) (Q : α → sProp 𝕄) :
    owns (c : Thread nD τ) M fullShare g ⊢ iprop((owns (c : Thread nD τ) M fullShare g -∗ wp frame (wpE (defs₀ (F := F)) Variants.none (c : Thread nD τ) none) Set.univ (k (gain j g)) Q)
      -∗ wp frame (wpE (defs₀ (F := F)) Variants.none (c : Thread nD τ) none) Set.univ
        (Prog.lift (.load M (Rect.unit (s := S1x1024) ![0, d] S1x128.size inb).toLoadRect hl) >>= k) Q) := by
  subst hd
  unfold owns
  iintro ⟨%f, %hf, H⟩ HK
  have e : M.view.readAt (Elt F) (Rect.unit (s := S1x1024) ![0, 128 * j] S1x128.size inb).toLoadRect f = gain j g := by
    rw [← hf]
    funext x
    have h1 : (x 1).val < 128 := (x 1).isLt
    have h0 : (x 0).val < 1 := (x 0).isLt
    show M.view.read (Elt F) f _ = M.view.read (Elt F) f _
    refine congrArg _ (funext fun a => ?_)
    match a with
    | ⟨0, _⟩ => exact Fin.ext (by show 0 + 1 * (x 0).val = 0; omega)
    | ⟨1, _⟩ => exact Fin.ext (by show 128 * j + 1 * (x 1).val = (128 * j + (x 1).val) % 1024; omega)
  rw [← e]
  iapply (wp_load (Γ := []) (defs := defs₀ (F := F)) Variants.none (c : Thread nD τ) none Set.univ (m := M) (hl := hl) (q := fullShare) (k := k) (Q := Q) (f := f)
    (M.view.setOn_subset_set _)) $$ H
  iintro H
  iapply HK
  iexists f
  isplitr; · ipureintro; exact hf
  iexact H

end Cols

/-! ## The parts -/

section Rows

variable (A : S294912x128.Idx → Elt F .f32) (ix : Fin 1024 → Fin 32768) (g : Vec F S1x1024 .f32)

/-- Chunk `j` as a matrix of rows and lanes. -/
def flat (j : Fin 8) : FVec F S1024x128 .f32 := shapeCast S1024x128 (chunk A ix j) shapeCasts_S1x1024x128_S1024x128
/-- Each row's scale. -/
def inv : FVec F S1024x1 .f32 :=
  k0_pay11 (flat A ix 0) (flat A ix 1) (flat A ix 2) (flat A ix 3) (chunk A ix 4) (chunk A ix 5) (chunk A ix 6) (chunk A ix 7)
/-- Chunk `j` scaled by row and by lane. -/
def blk (j : Fin 8) : FVec F S1024x128 .f32 :=
  mulf (mulf (flat A ix j) (broadcastTo S1024x128 (inv A ix) broadcasts_S1024x1_S1024x128))
    (broadcastTo S1024x128 (shapeCast S1x128 (gain j.val g) shapeCasts_S1x128_S1x128) broadcasts_S1x128_S1024x128)

variable (c : Dev nD) (t : Fin grid0.N)
  (M₁ M₂ : Memref sig .tc .smem S1x1x1024 .i32) (h₁ : M₁.IsWhole) (h₂ : M₂.IsWhole) (h₃ : slabs.IsWhole) (M₄ : Memref sig .tc .vmem S1x1024 .f32) (h₄ : M₄.IsWhole)
  (M₅ : Memref sig .tc .vmem S1024x1024 .f32) (h₅ : M₅.IsWhole) (h₆ : scr.IsWhole)

abbrev hasGain : sProp 𝕄 := owns (c : Thread nD τ) M₄ fullShare g

/-- The second part: three more chunks, the rows' scales, and the first column block. -/
theorem part2_run (v9 : BitVec 32) (y : Vec F S1024x1024 .f32) :
    iprop(pc c (slot (here t)) (filled A ix) ∗ hasGain g c M₄ ∗ hasOut c M₅ y)
      ⊢ wp frame (wpE (defs₀ (F := F)) Variants.none (c : Thread nD τ) none) Set.univ
        (k0_part2 (grid0.coords t) M₁ h₁ M₂ h₂ slabs h₃ M₄ h₄ M₅ h₅ scr h₆ cc0_scratch1 v9 (flat A ix 0) (flat A ix 1) (flat A ix 2) (flat A ix 3) (chunk A ix 4))
        (fun r => iprop(⌜r = ⟨flat A ix 4, flat A ix 5, flat A ix 6, flat A ix 7, inv A ix, k0_pay13 (flat A ix 0) (flat A ix 1) (flat A ix 2) (flat A ix 3) (chunk A ix 4) (chunk A ix 5) (chunk A ix 6) (chunk A ix 7), k0_pay14 (gain 1 g)⟩⌝
          ∗ pc c (slot (here t)) (filled A ix) ∗ hasGain g c M₄ ∗ hasOut c M₅ (putc 0 (blk A ix g 0) y))) := by
  rw [k0_part2_eq_skeleton]
  unfold k0_part2_skel
  iintro ⟨HP, HG, HY⟩
  iapply (load_chunk c A (here t) ix _ rfl 5 _ (off15_eq t) _ _ _ _) $$ HP
  iintro HP
  iapply (load_chunk c A (here t) ix _ rfl 6 _ (off16_eq t) _ _ _ _) $$ HP
  iintro HP
  iapply (load_chunk c A (here t) ix _ rfl 7 _ (off17_eq t) _ _ _ _) $$ HP
  iintro HP
  iapply (load_gain c M₄ g 0 0 rfl (by decide) _ _ _ _) $$ HG
  iintro HG
  iapply (load_dead c M₅ y _ _ _ _) $$ HY
  iintro %v HY
  iapply (store_col c M₅ y 0 0 rfl _ _ _ _ _ _) $$ HY
  iintro HY
  iapply (load_gain c M₄ g 1 128 rfl (by decide) _ _ _ _) $$ HG
  iintro HG
  rw [wp_pure]
  imodintro
  isplitr; · ipureintro; rfl
  isplitl [HP]; · iexact HP
  isplitl [HG]; · iexact HG
  iexact HY

/-- The third: column blocks 1 to 5. -/
theorem part3_run (y : Vec F S1024x1024 .f32) :
    iprop(hasGain g c M₄ ∗ hasOut c M₅ y)
      ⊢ wp frame (wpE (defs₀ (F := F)) Variants.none (c : Thread nD τ) none) Set.univ
        (k0_part3 (grid0.coords t) M₁ h₁ M₂ h₂ slabs h₃ M₄ h₄ M₅ h₅ scr h₆ cc0_scratch1 (flat A ix 2) (flat A ix 3) (flat A ix 4) (flat A ix 5) (flat A ix 6) (inv A ix)
          (k0_pay13 (flat A ix 0) (flat A ix 1) (flat A ix 2) (flat A ix 3) (chunk A ix 4) (chunk A ix 5) (chunk A ix 6) (chunk A ix 7)) (k0_pay14 (gain 1 g)))
        (fun r => iprop(⌜r = ⟨k0_pay20 (flat A ix 6) (inv A ix), k0_pay21 (gain 6 g)⟩⌝
          ∗ hasGain g c M₄ ∗ hasOut c M₅ (putc 5 (blk A ix g 5) (putc 4 (blk A ix g 4) (putc 3 (blk A ix g 3) (putc 2 (blk A ix g 2) (putc 1 (blk A ix g 1) y))))))) := by
  rw [k0_part3_eq_skeleton]
  unfold k0_part3_skel
  iintro ⟨HG, HY⟩
  iapply (load_dead c M₅ _ _ _ _ _) $$ HY
  iintro %v HY
  iapply (store_col c M₅ _ 1 128 rfl _ _ _ _ _ _) $$ HY
  iintro HY
  iapply (load_gain c M₄ g 2 256 rfl (by decide) _ _ _ _) $$ HG
  iintro HG
  iapply (load_dead c M₅ _ _ _ _ _) $$ HY
  iintro %v HY
  iapply (store_col c M₅ _ 2 256 rfl _ _ _ _ _ _) $$ HY
  iintro HY
  iapply (load_gain c M₄ g 3 384 rfl (by decide) _ _ _ _) $$ HG
  iintro HG
  iapply (load_dead c M₅ _ _ _ _ _) $$ HY
  iintro %v HY
  iapply (store_col c M₅ _ 3 384 rfl _ _ _ _ _ _) $$ HY
  iintro HY
  iapply (load_gain c M₄ g 4 512 rfl (by decide) _ _ _ _) $$ HG
  iintro HG
  iapply (load_dead c M₅ _ _ _ _ _) $$ HY
  iintro %v HY
  iapply (store_col c M₅ _ 4 512 rfl _ _ _ _ _ _) $$ HY
  iintro HY
  iapply (load_gain c M₄ g 5 640 rfl (by decide) _ _ _ _) $$ HG
  iintro HG
  iapply (load_dead c M₅ _ _ _ _ _) $$ HY
  iintro %v HY
  iapply (store_col c M₅ _ 5 640 rfl _ _ _ _ _ _) $$ HY
  iintro HY
  iapply (load_gain c M₄ g 6 768 rfl (by decide) _ _ _ _) $$ HG
  iintro HG
  rw [wp_pure]
  imodintro
  isplitr; · ipureintro; rfl
  isplitl [HG]; · iexact HG
  iexact HY

end Rows

end Cert.Kernel3Ideal.Gather
-- ==== Proof.Gather.Body.lean ====
/- The whole body at a point: from the slots before it to the slots after it, the output block filled. -/
module

public import proofs.«01_k».proof.Proof.Gather.Second

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

section Body

variable (c : Dev nD) (A : S294912x128.Idx → Elt F .f32) (ixs : ℕ → Fin 1024 → Fin 32768) (t : Fin grid0.N) (g : Vec F S1x1024 .f32)
  (M₁ M₂ : Memref sig .tc .smem S1x1x1024 .i32) (h₁ : M₁.IsWhole) (h₂ : M₂.IsWhole) (h₃ : slabs.IsWhole) (M₄ : Memref sig .tc .vmem S1x1024 .f32) (h₄ : M₄.IsWhole)
  (M₅ : Memref sig .tc .vmem S1024x1024 .f32) (h₅ : M₅.IsWhole) (h₆ : scr.IsWhole)

/-- The slot drained at this point is ready for its next round. -/
theorem full_ready : (full c A t ixs : sProp 𝕄) ⊢ ready c A (par t.val) := by
  unfold full ready idle
  rw [here_eq]
  iintro ⟨HC, HP, HS⟩
  isplitr [HS]
  · isplitl [HC]; · iexact HC
    iexists _
    iexact HP
  iexact HS

variable (X₁ X₂ : Words) (hX₁ : Named X₁ (ixs t.val)) (hX₂ : t.val + 1 < 32 → Named X₂ (ixs (t.val + 1)))

/-- The two blocks of positions, the gains, and what the core owes. -/
abbrev beside (y : Vec F S1024x1024 .f32) : sProp 𝕄 :=
  iprop(owns (c : Thread nD τ) M₁ fullShare X₁ ∗ owns (c : Thread nD τ) M₂ fullShare X₂ ∗ hasGain g c M₄ ∗ hasOut c M₅ y)

include hX₁ hX₂ in
theorem body_run (y : Vec F S1024x1024 .f32) :
    iprop(slots c A ixs t.val ∗ (∃ W, owes (c : Thread nD τ) 0 W) ∗ beside c g M₁ M₂ M₄ M₅ X₁ X₂ y)
      ⊢ wp frame (wpE (defs₀ (F := F)) Variants.none (c : Thread nD τ) none) Set.univ
        (cc0_slab_gather (grid0.coords t) M₁ h₁ M₂ h₂ slabs h₃ M₄ h₄ M₅ h₅ scr h₆ cc0_scratch1)
        (fun _ => iprop(slots c A ixs (t.val + 1) ∗ (∃ W, owes (c : Thread nD τ) 0 W) ∗ beside c g M₁ M₂ M₄ M₅ X₁ X₂ (cols (blk A (ixs t.val) g)))) := by
  rw [cc0_slab_gather_eq_skeleton]
  unfold cc0_slab_gather_skel beside
  rw [wp_bind]
  iintro ⟨HS, HO, H1, H2, HG, HY⟩
  unfold owns
  icases H1 with ⟨%g₁, %hg₁, H1⟩
  icases H2 with ⟨%g₂, %hg₂, H2⟩
  iapply (wp_wand _ _ _) $$ [HS HO H1 H2]
  · iapply (part1_run c A ixs t M₁ M₂ h₁ h₂ h₃ M₄ h₄ M₅ h₅ h₆ g₁ g₂ X₁ X₂ hg₁ hg₂ hX₁ hX₂)
    isplitl [HS]; · iexact HS
    isplitl [H1]; · iexact H1
    isplitl [H2]; · iexact H2
    iexact HO
  iintro %r ⟨%hr, ⟨HC, HP, HS⟩, HN, H1, H2, HO⟩
  obtain ⟨v9, r'⟩ := r
  obtain rfl : r' = _ := hr
  rw [wp_bind]
  iapply (wp_wand _ _ _) $$ [HP HG HY]
  · iapply (part2_run A (ixs t.val) g c t M₁ M₂ h₁ h₂ h₃ M₄ h₄ M₅ h₅ h₆ v9 y)
    unfold hasGain hasOut owns
    isplitl [HP]; · iexact HP
    isplitl [HG]; · iexact HG
    iexact HY
  iintro %r ⟨%hr, HP, HG, HY⟩
  subst hr
  rw [wp_bind]
  iapply (wp_wand _ _ _) $$ [HG HY]
  · iapply (part3_run A (ixs t.val) g c t M₁ M₂ h₁ h₂ h₃ M₄ h₄ M₅ h₅ h₆ _)
    isplitl [HG]; · iexact HG
    iexact HY
  iintro %r ⟨%hr, HG, HY⟩
  subst hr
  iapply (load_dead c M₅ _ _ _ _ _) $$ HY
  iintro %v HY
  iapply (store_col c M₅ _ 6 768 rfl _ _ _ _ _ _) $$ HY
  iintro HY
  iapply (load_gain c M₄ g 7 896 rfl (by decide) _ _ _ _) $$ HG
  iintro HG
  iapply (load_dead c M₅ _ _ _ _ _) $$ HY
  iintro %v HY
  iapply (store_col c M₅ _ 7 896 rfl _ _ _ _ _ _) $$ HY
  iintro HY
  rw [wp_pure]
  imodintro
  isplitl [HC HP HS HN]
  · iapply (slots_succ c A ixs t.val t.isLt)
    isplitr [HN]
    · iapply (full_ready c A ixs t)
      isplitl [HC]; · iexact HC
      isplitl [HP]; · iexact HP
      iexact HS
    iexact HN
  isplitl [HO]; · iexact HO
  isplitl [H1]
  · iexists g₁
    isplitr; · ipureintro; exact hg₁
    iexact H1
  isplitl [H2]
  · iexists g₂
    isplitr; · ipureintro; exact hg₂
    iexact H2
  isplitl [HG]; · iexact HG
  rw [← putc_all (blk A (ixs t.val) g) y]
  iexact HY

end Body

end Cert.Kernel3Ideal.Gather
-- ==== Proof.Gather.Base.lean ====
/- The gather up to its region: what the core's buffers hold there, the four windows' blocks, and the rows they name. -/
module

public import proofs.«01_k».proof.Proof.Gather.Body
public import proofs.«01_k».proof.Proof.Gen.Kernel3Ideal.Launch
public import Idealize.ShloMosaic.Lib.Pipeline.FrameBody
public import Idealize.ShloMosaic.Lib.StableHlo.Run
public import Idealize.ShloMosaic.Lib.Pointwise
public import Idealize.ShloMosaic.Lib.Pipeline.ValueKit.Geometry

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic Idealize.ShloMosaic.StableHlo
open Idealize.ShloMosaic.Pipeline (Dat Cfg Window)

variable {F : FTy → Type} [FloatOps F]

variable (m : (ℓ : Loc nD τ sig) → Buf (Elt F) ℓ) (c : Dev nD)

/-! ## @main up to the region -/

theorem hostOps0_fresh : (hostOps0 : List (HloOp τ sig (Elt F))).Forall fun op => op.fresh = ∅ := ⟨rfl, rfl⟩

/-- Core `c`'s buffers when the region is entered: the launch memory after the two reshapes. -/
abbrev V (b : Ref sig .tc) : Buf (Elt F) ((c : Thread nD τ).loc b) := StableHlo.after hostOps0 (fun b => m (c, b)) b

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev argP : S32768.Idx → BitVec 32 := m ((c : Thread nD τ).loc main_arg0)
abbrev argA : S294912x128.Idx → Elt F .f32 := m ((c : Thread nD τ).loc main_arg1)
abbrev argG : FVec F S1024 .f32 := m ((c : Thread nD τ).loc main_arg2)

theorem V_arg0 : V m c main_arg0 = m ((c : Thread nD τ).loc main_arg0) := rfl
theorem V_arg1 : V m c main_arg1 = m ((c : Thread nD τ).loc main_arg1) := rfl
theorem V_arg2 : V m c main_arg2 = m ((c : Thread nD τ).loc main_arg2) := rfl

theorem V_pos : V m c main_v1 = shapeCast S32x1x1024 (argP m c) shapeCasts_S32768_S32x1x1024 := by
  unfold V; after_results <;> rfl
theorem V_gain : V m c main_v0 = shapeCast S1x1024 (argG m c) shapeCasts_S1024_S1x1024 := by
  unfold V; after_results <;> rfl

theorem pos_apply (k : Fin 32) (j : Fin 1024) : V m c main_v1 (ix3 k (0 : Fin 1) j) = argP m c (ix1 (⟨k.val * 1024 + j.val, by omega⟩ : Fin 32768)) := by
  rw [V_pos]; pointwise []
theorem gain_apply (j : Fin 1024) : V m c main_v0 (ix2 (0 : Fin 1) j) = argG m c (ix1 j) := by
  rw [V_gain]; pointwise []

/-! ## The windows' blocks -/

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem index_0 (t : Fin grid0.N) : win0_0.index t = ![t.val, 0, 0] := (by decide +kernel : ∀ t : Fin grid0.N, win0_0.index t = ![t.val, 0, 0]) t
theorem index_1 (t : Fin grid0.N) : win0_1.index t = ![min (t.val + 1) 31, 0, 0] := (by decide +kernel : ∀ t : Fin grid0.N, win0_1.index t = ![min (t.val + 1) 31, 0, 0]) t
theorem index_3 (t : Fin grid0.N) : win0_3.index t = ![t.val, 0] := (by decide +kernel : ∀ t : Fin grid0.N, win0_3.index t = ![t.val, 0]) t

theorem idx3_of {A B C : ℕ} (i : (⟨3, ![A, B, C]⟩ : Shape).Idx) (a : Fin A) (b : Fin B) (d : Fin C) (h0 : (i 0).val = a.val) (h1 : (i 1).val = b.val) (h2 : (i 2).val = d.val) :
    i = ix3 a b d := by
  funext x
  match x with
  | ⟨0, _⟩ => exact Fin.ext h0
  | ⟨1, _⟩ => exact Fin.ext h1
  | ⟨2, _⟩ => exact Fin.ext h2
theorem idx2_of {A B : ℕ} (i : (⟨2, ![A, B]⟩ : Shape).Idx) (a : Fin A) (b : Fin B) (h0 : (i 0).val = a.val) (h1 : (i 1).val = b.val) : i = ix2 a b := by
  funext x
  match x with
  | ⟨0, _⟩ => exact Fin.ext h0
  | ⟨1, _⟩ => exact Fin.ext h1

variable (t : Fin cfg0.N)

theorem iblk_0 (j : Fin 1024) : iblk m c 0 t (ix3 (0 : Fin 1) (0 : Fin 1) j) = argP m c (ix1 (⟨t.val * 1024 + j.val, by have : t.val < 32 := t.isLt; omega⟩ : Fin 32768)) := by
  have ht : t.val < 32 := t.isLt
  have h : ∀ a : Fin 3, (((cfg0.win 0).rect t).emb (ix3 (0 : Fin 1) (0 : Fin 1) j) a : ℕ) = _ := fun a => Pipeline.Window.rect_emb_val (cfg0.win 0) t (ix3 (0 : Fin 1) (0 : Fin 1) j) a
  rw [show (cfg0.win 0).index t = (![t.val, 0, 0] : Fin 3 → ℕ) from index_0 t] at h
  exact (congrArg (V m c main_v1) (idx3_of _ (⟨t.val, ht⟩ : Fin 32) (0 : Fin 1) j ((h 0).trans (by show t.val * 1 + 0 = t.val; omega)) (h 1)
    ((h 2).trans (by show 0 * 1024 + j.val = j.val; omega)))).trans (pos_apply m c ⟨t.val, ht⟩ j)

theorem iblk_1 (h31 : t.val + 1 < 32) (j : Fin 1024) :
    iblk m c 1 t (ix3 (0 : Fin 1) (0 : Fin 1) j) = argP m c (ix1 (⟨(t.val + 1) * 1024 + j.val, by omega⟩ : Fin 32768)) := by
  have h : ∀ a : Fin 3, (((cfg0.win 1).rect t).emb (ix3 (0 : Fin 1) (0 : Fin 1) j) a : ℕ) = _ := fun a => Pipeline.Window.rect_emb_val (cfg0.win 1) t (ix3 (0 : Fin 1) (0 : Fin 1) j) a
  rw [show (cfg0.win 1).index t = (![min (t.val + 1) 31, 0, 0] : Fin 3 → ℕ) from index_1 t] at h
  exact (congrArg (V m c main_v1) (idx3_of _ (⟨t.val + 1, h31⟩ : Fin 32) (0 : Fin 1) j ((h 0).trans (by show min (t.val + 1) 31 * 1 + 0 = t.val + 1; omega)) (h 1)
    ((h 2).trans (by show 0 * 1024 + j.val = j.val; omega)))).trans (pos_apply m c ⟨t.val + 1, h31⟩ j)

theorem iblk_2 (j : Fin 1024) : iblk m c 2 t (ix2 (0 : Fin 1) j) = argG m c (ix1 j) := by
  refine (congrArg (V m c main_v0) (idx2_of _ (0 : Fin 1) j ?_ ?_)).trans (gain_apply m c j)
  · exact Pipeline.Window.rect_emb_val_of_index_zero (cfg0.win 2) t (0 : Fin 2) rfl (ix2 (0 : Fin 1) j)
  · exact Pipeline.Window.rect_emb_val_of_index_zero (cfg0.win 2) t (1 : Fin 2) rfl (ix2 (0 : Fin 1) j)

/-! ## The rows named -/

/-- Every position names one of the sorted tokens. -/
structure Placed : Prop where
  lt : ∀ i : Fin 32768, (argP m c (ix1 i)).toNat < 32768

/-- The token position `j` of block `k` names. -/
def ixs (k : ℕ) (j : Fin 1024) : Fin 32768 :=
  ⟨(argP m c (ix1 (⟨(k * 1024 + j.val) % 32768, Nat.mod_lt _ (by decide)⟩ : Fin 32768))).toNat % 32768, Nat.mod_lt _ (by decide)⟩

variable (hP : Placed m c)

include hP in
theorem ixs_val (k : ℕ) (hk : k < 32) (j : Fin 1024) : (ixs m c k j).val = (argP m c (ix1 (⟨k * 1024 + j.val, by omega⟩ : Fin 32768))).toNat := by
  have e : (⟨(k * 1024 + j.val) % 32768, Nat.mod_lt _ (by decide)⟩ : Fin 32768) = ⟨k * 1024 + j.val, by omega⟩ :=
    Fin.ext (Nat.mod_eq_of_lt (by omega))
  exact (congrArg (fun x => (argP m c (ix1 x)).toNat % 32768) e).trans (Nat.mod_eq_of_lt (hP.lt _))

include hP in
theorem named_0 : Named (iblk m c 0 t) (ixs m c t.val) := ⟨fun j => (congrArg BitVec.toNat (iblk_0 m c t j)).trans (ixs_val m c hP t.val t.isLt j).symm⟩
include hP in
theorem named_1 (h31 : t.val + 1 < 32) : Named (iblk m c 1 t) (ixs m c (t.val + 1)) := ⟨fun j => (congrArg BitVec.toNat (iblk_1 m c t h31 j)).trans (ixs_val m c hP (t.val + 1) h31 j).symm⟩

end Cert.Kernel3Ideal.Gather
-- ==== Proof.Gather.Run.lean ====
/- The gather run: the pipeline's proof data, the body obligation, the two slots at launch and at the end, and the frame. -/
module

public import proofs.«01_k».proof.Proof.Gather.Base
public import Idealize.ShloMosaic.Lib.Claim

@[expose] public section

set_option maxRecDepth 16384

noncomputable section

namespace Cert.Kernel3Ideal.Gather

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- What the output block holds after point `t`. -/
def outAt (c : Dev nD) (t : Fin cfg0.N) : Vec F S1024x1024 .f32 := cols (blk (argA m c) (ixs m c t.val) (iblk m c 2 t))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := iprop((∃ r, prngReg c r) ∗ slots c (argA m c) (ixs m c) t.val)
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

section Before

variable {c : Dev nD} (dat : Dat τ (Elt F) Unit ℕ (Pipeline.UD sig nD τ) ℕ cfg0 c)

theorem before_0 (hA : dat.A 0 = V m c (Pipeline.arrRef spec0 0)) (ha : ∀ t, dat.after 0 t = iblk m c 0 t) (t : Fin cfg0.N) (d) : dat.before 0 t d = iblk m c 0 t :=
  (dat.before_in_eq_fetched 0 rfl (fun _ => rfl) (fun _ _ _ => rfl) (fun t => by rw [ha]; unfold Dat.blockOf iblk; rw [hA]) t d).trans
    (by unfold Dat.fetched Dat.blockOf iblk; rw [hA]; rfl)
theorem before_1 (hA : dat.A 1 = V m c (Pipeline.arrRef spec0 1)) (ha : ∀ t, dat.after 1 t = iblk m c 1 t) (t : Fin cfg0.N) (d) : dat.before 1 t d = iblk m c 1 t :=
  (dat.before_in_eq_fetched 1 rfl (fun _ => rfl) (fun _ _ _ => rfl) (fun t => by rw [ha]; unfold Dat.blockOf iblk; rw [hA]) t d).trans
    (by unfold Dat.fetched Dat.blockOf iblk; rw [hA]; rfl)
theorem before_2 (hA : dat.A 2 = V m c (Pipeline.arrRef spec0 2)) (ha : ∀ t, dat.after 2 t = iblk m c 2 t) (t : Fin cfg0.N) (d) : dat.before 2 t d = iblk m c 2 t :=
  (dat.before_in_eq_fetched 2 rfl (fun _ => rfl) (fun _ _ _ => rfl) (fun t => by rw [ha]; unfold Dat.blockOf iblk; rw [hA]) t d).trans
    (by unfold Dat.fetched Dat.blockOf iblk; rw [hA]; rfl)

end Before

theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d

/-! ## The body obligation -/

abbrev ms0 (t : Fin cfg0.N) : Memref sig .tc .smem S1x1x1024 .i32 := win0_0.stage (cfg0.slots t 0)
abbrev ms1 (t : Fin cfg0.N) : Memref sig .tc .smem S1x1x1024 .i32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1024 .f32 := win0_3.stage (cfg0.slots t 3)

/-- The body at point `t`, on what the pipeline calls it with. -/
abbrev bodyAt (t : Fin cfg0.N) : Prog (TpuEff nD τ sig (Elt F) Λ₀ .tc) PUnit :=
  cc0_slab_gather (grid0.coords t) (ms0 t) (hstage0_0 ((cfg0.slots t 0).cast nbuf0_0)) (ms1 t) (hstage0_1 ((cfg0.slots t 1).cast nbuf0_1))
    slabs (Memref.isWhole_whole _) (ms2 t) (hstage0_2 ((cfg0.slots t 2).cast nbuf0_2)) (ms3 t) (hstage0_3 ((cfg0.slots t 3).cast nbuf0_3))
    scr (Memref.isWhole_whole _) cc0_scratch1

theorem defs₀_row (t : Fin cfg0.N) : defs₀ (F := F) .tc cfg0.body (cfg0.bodyArgs t (cfg0.slots t)) = bodyAt t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem owes_out (c : Dev nD) (t : Fin (cfg0.N + 1)) : (dats m 0 c).owesAt () t ⊢ (iprop(∃ W, owes (c : Thread nD τ) 0 W) : sProp 𝕄) := by
  unfold Dat.owesAt Pipeline.owesWithin
  show iprop(∃ W, ⌜_⌝ ∗ owes (c : Thread nD τ) 0 W) ⊢ (_ : sProp 𝕄)
  iintro ⟨%W, -, H⟩
  iexists W
  iexact H

theorem owes_in (c : Dev nD) (t : Fin (cfg0.N + 1)) : (iprop(∃ W, owes (c : Thread nD τ) 0 W) : sProp 𝕄) ⊢ (dats m 0 c).owesAt () t := by
  unfold Dat.owesAt Pipeline.owesWithin
  show (_ : sProp 𝕄) ⊢ iprop(∃ W, ⌜_⌝ ∗ owes (c : Thread nD τ) 0 W)
  iintro ⟨%W, H⟩
  iexists W
  isplitr [H]
  · ipureintro
    exact fun x _ => Or.inl trivial
  iexact H

set_option maxHeartbeats 800000 in
theorem sound_body (c : Dev nD) (hP : Placed m c) (t : Fin cfg0.N) :
    bodyPre m c t ⊢ wp frame (wpE (defs₀ (F := F)) Variants.none (c : Thread nD τ) none) Set.univ (bodyAt t) (fun _ => bodyPost m c t) := by
  unfold bodyPre bodyPost
  simp only [bef_0, bef_1, bef_2]
  rw [after_0, after_1, after_2, after_3,
    show (dats m 0 c).Φ t.castSucc = iprop((∃ r, prngReg c r) ∗ slots c (argA m c) (ixs m c) t.val) from rfl,
    show (dats m 0 c).Φ t.succ = iprop((∃ r, prngReg c r) ∗ slots c (argA m c) (ixs m c) (t.val + 1)) from rfl]
  iintro ⟨⟨HR, HS⟩, HO, ⟨%d0, H0⟩, ⟨%d1, H1⟩, ⟨%d2, H2⟩, ⟨%d3, H3⟩⟩
  ihave HO := (owes_out m c t.castSucc) $$ HO
  have hb := body_run c (argA m c) (ixs m c) t (iblk m c 2 t) (ms0 t) (ms1 t) (hstage0_0 ((cfg0.slots t 0).cast nbuf0_0)) (hstage0_1 ((cfg0.slots t 1).cast nbuf0_1))
    (Memref.isWhole_whole _) (ms2 t) (hstage0_2 ((cfg0.slots t 2).cast nbuf0_2)) (ms3 t) (hstage0_3 ((cfg0.slots t 3).cast nbuf0_3)) (Memref.isWhole_whole _)
    (iblk m c 0 t) (iblk m c 1 t) (named_0 m c t hP) (named_1 m c t hP) ((dats m 0 c).before 3 t d3)
  iapply (wp_wand _ _ _) $$ [HS HO H0 H1 H2 H3]
  · iapply hb
    isplitl [HS]; · iexact HS
    isplitl [HO]; · iexact HO
    isplitl [H0]; · iexact H0
    isplitl [H1]; · iexact H1
    isplitl [H2]; · iexact H2
    iexact H3
  iintro %v ⟨HS, HO, H0, H1, H2, H3⟩
  isplitl [HR HS]
  · isplitl [HR]; · iexact HR
    iexact HS
  isplitl [HO]
  · iapply (owes_in m c t.succ); iexact HO
  isplitl [H0]; · iexact H0
  isplitl [H1]; · iexact H1
  isplitl [H2]; · iexact H2
  iexact H3

theorem body_obligation (c : Dev nD) (hP : Placed m c) : BodyObligation (dats (F := F) m 0 c) (defs₀ (F := F)) Variants.none () Set.univ := fun t => by
  rw [bigSep_W0, bigSep_W0, defs₀_row]
  exact triple_restated (sound_body m c hP t) rfl .rfl fun _ => .rfl

/-! ## The two slots at launch and at the end -/

abbrev osem : Fin 2 → SemLoc sig := fun s => .dma (cell s)

theorem osem_facts : Pipeline.OwnSemFacts spec0 osem := by decide

/-- Both slots ready, side by side. -/
abbrev both (c : Dev nD) : sProp 𝕄 := iprop(ready c (argA m c) 0 ∗ ready c (argA m c) 1)

theorem slots_first (c : Dev nD) : (slots c (argA m c) (ixs m c) 0 : sProp 𝕄) = both m c := by unfold slots; exact if_pos (Or.inl rfl)
theorem slots_last (c : Dev nD) : (slots c (argA m c) (ixs m c) 32 : sProp 𝕄) = both m c := by unfold slots; exact if_pos (Or.inr rfl)

theorem two {M : Type} [URA M] (Φ : Fin 2 → sProp M) : bigSep Finset.univ Φ = iprop(Φ 0 ∗ Φ 1) :=
  bigSep_univ_eq_bigSepL [0, 1] (by decide) (by decide) Φ

/-- What the region lends the kernel, spelled out. -/
theorem lent (c : Dev nD) : (Pipeline.ΦD osem spec0 {main_arg1} (V m) c : sProp 𝕄)
    = iprop((∃ f, pc c Finset.univ f) ∗ (∃ r, prngReg c r) ∗ (semVal ((c : Thread nD τ), osem 0) 0 ∗ semVal ((c : Thread nD τ), osem 1) 0)
        ∗ sl c (argA m c) Finset.univ fullShare) := by
  rw [Pipeline.ΦD_eq, scopedRest0_eq, Pipeline.ownSems0, two, bigSep_singleton]
  rfl

theorem slab_halves (c : Dev nD) : (sl c (argA m c) Finset.univ fullShare : sProp 𝕄) ⊣⊢ iprop(sl c (argA m c) Finset.univ (half 0) ∗ sl c (argA m c) Finset.univ (half 1)) :=
  pointsTo_share (PosShare.mem_left_op_right _)

theorem scratch_split (c : Dev nD) (f) : (pc c Finset.univ f : sProp 𝕄) ⊢ iprop((∃ f, pc c (slot 0) f) ∗ (∃ f, pc c (slot 1) f)) := by
  have e : (pc c Finset.univ f : sProp 𝕄) = iprop(pc c (slot 0) f ∗ pc c (slot 1) f) := by
    have e := Ring.pointsTo_sub_blocks (ℓ := scr.view.loc (c : Thread nD τ)) (Ix := Unit) (Name := ℕ) (U := Pipeline.UD sig nD τ) (Lvl := ℕ) slot slot_disjoint Finset.univ slot_cover (q := fullShare) f
    rw [two] at e
    exact e
  rw [e]
  iintro ⟨H0, H1⟩
  isplitl [H0]
  · iexists f; iexact H0
  iexists f; iexact H1

theorem scratch_join (c : Dev nD) : (iprop((∃ f, pc c (slot 0) f) ∗ (∃ f, pc c (slot 1) f)) : sProp 𝕄) ⊢ iprop(∃ f, pc c Finset.univ f) := by
  iintro ⟨⟨%f, H0⟩, H1⟩
  have e := Ring.pointsTo_sub_blocks_join_exists (ℓ := scr.view.loc (c : Thread nD τ)) (Ix := Unit) (Name := ℕ) (U := Pipeline.UD sig nD τ) (Lvl := ℕ) slot slot_disjoint Finset.univ slot_cover (q := fullShare) f
  rw [two] at e
  iapply e
  isplitl [H0]
  · iexists f; iexact H0
  iexact H1

theorem enter (c : Dev nD) : (Pipeline.ΦD osem spec0 {main_arg1} (V m) c : sProp 𝕄) ⊢ (dats m 0 c).Φ 0 := by
  show _ ⊢ iprop((∃ r, prngReg c r) ∗ slots c (argA m c) (ixs m c) 0)
  rw [lent, slots_first]
  iintro ⟨⟨%f, HF⟩, HR, ⟨HC0, HC1⟩, HA⟩
  ihave HF := (scratch_split c f) $$ HF
  icases HF with ⟨HF0, HF1⟩
  ihave HA := (slab_halves m c).1 $$ HA
  icases HA with ⟨HA0, HA1⟩
  isplitl [HR]; · iexact HR
  unfold both ready idle
  isplitl [HC0 HF0 HA0]
  · isplitl [HC0 HF0]
    · isplitl [HC0]; · iexact HC0
      iexact HF0
    iexact HA0
  isplitl [HC1 HF1]
  · isplitl [HC1]; · iexact HC1
    iexact HF1
  iexact HA1

theorem leave (c : Dev nD) : ((dats m 0 c).Φ (Fin.last cfg0.N) : sProp 𝕄) ⊢ Pipeline.ΦD osem spec0 {main_arg1} (V m) c := by
  show iprop((∃ r, prngReg c r) ∗ slots c (argA m c) (ixs m c) 32) ⊢ _
  rw [lent, slots_last]
  unfold both ready idle
  iintro ⟨HR, ⟨⟨HC0, HF0⟩, HA0⟩, ⟨HC1, HF1⟩, HA1⟩
  isplitl [HF0 HF1]
  · iapply (scratch_join c)
    isplitl [HF0]; · iexact HF0
    iexact HF1
  isplitl [HR]; · iexact HR
  isplitl [HC0 HC1]
  · isplitl [HC0]; · iexact HC0
    iexact HC1
  iapply (slab_halves m c).2
  isplitl [HA0]; · iexact HA0
  iexact HA1

/-! ## The launch -/

set_option backward.isDefEq.respectTransparency.types false in
theorem run_main_quiescent (hP : ∀ c, Placed m c) : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem defs₀ Variants.none osem_facts {main_arg1} (by decide) m ρ main
    (hbody := fun c => (body_obligation m c (hP c)).loose) (hq := fun _ _ _ => rfl)
    (howed := fun _ _ => rfl) (V := V m) (hmain := hmain m Variants.none) (hA := A_eq m) (hin := enter m) (hout := leave m)

/-- Every argument array of core `c` is what it was at launch. -/
def Kept (mem : (ℓ : Loc nD τ sig) → Buf (Elt F) ℓ) (c : Dev nD) : Prop :=
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)

theorem run (hP : ∀ c, Placed m c) : θ_run defs (onTc (τ := τ) (main (F := F))) ⟨m, fun _ => 0, ρ⟩ (fun r => (∀ c : Dev nD,
      r.2.mem ((c.tc : Thread nD τ).loc main_v2) = (dats m 0 c).arrAt 3 cfg0.N ∧ Kept m r.2.mem c)
      ∧ r.2.sem = fun _ => 0) := by
  refine (θ_run defs _ _).mono (fun r h => ⟨fun c => ?_, h.2⟩) (run_main_quiescent m ρ hP)
  obtain ⟨h, -⟩ := h
  exact ⟨(h c).1 3, ((h c).2 main_arg0 (by decide : main_arg0 ∈ Pipeline.restRefs sig spec0)).trans (V_arg0 m c),
    ((h c).2 main_arg1 (by decide : main_arg1 ∈ Pipeline.restRefs sig spec0)).trans (V_arg1 m c),
    ((h c).2 main_arg2 (by decide : main_arg2 ∈ Pipeline.restRefs sig spec0)).trans (V_arg2 m c)⟩

theorem frame (hP : ∀ c, Placed m c) : θ_run defs (onTc (τ := τ) (main (F := F))) ⟨m, fun _ => 0, ρ⟩ (fun r => (∀ c : Dev nD,
      Kept m r.2.mem c) ∧ r.2.sem = fun _ => 0) :=
  (θ_run defs _ _).mono (fun _ h => ⟨fun c => (h.1 c).2, h.2⟩) (run m ρ hP)

end Cert.Kernel3Ideal.Gather
end
-- ==== Proof.Gather.Frames.lean ====
/- The gather's frames: the ideal reading's from the run, the program's from it since both are one text, the reference's. -/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.Gen.Pre_positions
public import proofs.«01_k».proof.Proof.Experts.Items
public import proofs.«01_k».proof.Proof.Gather.Run

@[expose] public section

noncomputable section

namespace Cert.Proof.Gathering

open Idealize.ShloMosaic Idealize.ShloMosaic.TcCoe Idealize.SL.Sem
open Cert.Kernel3Ideal.Gather

/-- Positions the printed predicate admits are below the number of tokens. -/
theorem below {F : FTy → Type} [FloatOps F] (p : Cert.Pre_positions.S32768.Idx → BitVec 32) (a : FVec F Cert.Pre_positions.S294912x128 .f32) (g : FVec F Cert.Pre_positions.S1024 .f32)
    (h : Cert.Pre_positions.fn (F := F) p a g = fun _ => 1#1) (i : Fin 32768) : (p (ix1 i)).toNat < 32768 := by
  have e := Cert.Items.and_one.mp (congrFun h (ix1 i))
  have e1 : 0 ≤ (p (ix1 i)).toInt := Cert.Items.sge_int.mp e.1
  have e2 : (p (ix1 i)).toInt < 32768 := Cert.Items.slt_int.mp e.2
  have := (Cert.Items.toInt_nonneg e1).1
  omega

/-- The two mains are one text. -/
theorem main_eq : Cert.Kernel3.main (F := Bits) = Cert.Kernel3Ideal.main (F := Bits) := rfl

set_option maxHeartbeats 4000000 in
/-- The body tables agree, label by label. -/
theorem defs0_eq : Cert.Kernel3.defs₀ (F := Bits) = Cert.Kernel3Ideal.defs₀ (F := Bits) := by
  refine congrArg (Defs.onTc (nD := 1) (τ := Topo.v7x) (sig := Cert.Kernel3Ideal.sig) (Val := Elt Bits) (Λ := Cert.Kernel3Ideal.Λ₀)) ?_
  funext l a
  match l, a with
  | ⟨0, _⟩, (t, s) => with_unfolding_all rfl
  | ⟨n + 1, h⟩, _ => exact absurd h (by omega)

theorem defs_eq : Cert.Kernel3.defs (F := Bits) = Cert.Kernel3Ideal.defs (F := Bits) :=
  congrArg (Pipeline.defs (Cert.Kernel3Ideal.pcfgs (F := Bits))) defs0_eq

/-- The program's memory as the ideal reading's. -/
abbrev asIdeal (m : (ℓ : Loc Cert.Kernel3.nD Cert.Kernel3.τ Cert.Kernel3.sig) → Buf (Elt Bits) ℓ) :
  (ℓ : Loc Cert.Kernel3Ideal.nD Cert.Kernel3Ideal.τ Cert.Kernel3Ideal.sig) → Buf (Elt Bits) ℓ := m

theorem placed_kernel (m : (ℓ : Loc Cert.Kernel3.nD Cert.Kernel3.τ Cert.Kernel3.sig) → Buf (Elt Bits) ℓ)
    (h : Cert.Pre_Kernel3 (hPre_positions := Cert.Pre_positions.Gen.facts) m) (c : Dev Cert.Kernel3.nD) : Placed (asIdeal m) c :=
  ⟨below _ _ _ (h c)⟩

theorem placed_ideal (m : (ℓ : Loc Cert.Kernel3Ideal.nD Cert.Kernel3Ideal.τ Cert.Kernel3Ideal.sig) → Buf (Elt Ideal) ℓ)
    (h : Cert.Pre_Kernel3Ideal (hPre_positions := Cert.Pre_positions.Gen.facts) m) (c : Dev Cert.Kernel3Ideal.nD) : Placed m c :=
  ⟨below _ _ _ (h c)⟩

set_option maxHeartbeats 4000000 in
/-- The frame of the program over words. -/
theorem frame_kernel : Cert.quiescent_Kernel3 (hKernel3 := Cert.Kernel3.Gen.facts) (hPre_positions := Cert.Pre_positions.Gen.facts) := by
  intro m g h
  have e := Cert.Kernel3Ideal.Gather.frame (F := Bits) (asIdeal m) g (placed_kernel m h)
  rw [← defs_eq, ← main_eq] at e
  exact e

/-- The frame of the ideal reading. -/
theorem frame_ideal : Cert.quiescent_Kernel3Ideal (hKernel3Ideal := Cert.Kernel3Ideal.Gen.facts) (hPre_positions := Cert.Pre_positions.Gen.facts) :=
  fun m g h => Cert.Kernel3Ideal.Gather.frame m g (placed_ideal m h)

/-- The frame of the reference: it has no semaphore at all. -/
theorem frame_reference : Cert.quiescent_Reference3Ideal (hReference3Ideal := Cert.Reference3Ideal.Gen.facts) (hPre_positions := Cert.Pre_positions.Gen.facts) :=
  fun m g _ => (θ_run Cert.Reference3Ideal.defs _ _).mono (fun _ h => ⟨fun c => (h c).2, sem_eq_zero_of_no_sems rfl _⟩)
    (Cert.Reference3Ideal.Value.run m g)

end Cert.Proof.Gathering
end
-- ==== Proof.Gather.Value.lean ====
/- The gather's result over the extended reals: what each block holds is the named rows normalised, and so is the array. -/
module

public import proofs.«01_k».proof.Proof.Gather.Run
public import proofs.«01_k».proof.Proof.Experts.Spec

@[expose] public section

set_option maxRecDepth 16384

noncomputable section

namespace Cert.Kernel3Ideal.Gather

open Cert.Kernel3Ideal Cert.Kernel3Ideal.Gen
open Idealize.ShloMosaic Idealize.ShloMosaic.TcCoe
open Cert.Routed

/-! ## The scale of a row -/

/-- Times the word of 1/1024 is divided by the word of 1024. -/
theorem mul_inv_1024 (x : EReal) : x * Ideal.ofBits .f32 0x3A800000#32 = Ideal.div x (Ideal.ofBits .f32 0x44800000#32) := by
  have e : Ideal.ofBits .f32 0x44800000#32 = ((1024 : ℝ) : EReal) := by simp [Ideal.ofBits, Ideal.ieee, -EReal.coe_mul]; norm_num
  have e' : Ideal.ofBits .f32 0x3A800000#32 = (((1024 : ℝ)⁻¹ : ℝ) : EReal) := by simp [Ideal.ofBits, Ideal.ieee, -EReal.coe_mul]; norm_num
  rw [e, e', EReal.coe_inv]
  unfold Ideal.div
  rw [if_neg (by exact_mod_cast (by norm_num : (1024 : ℝ) ≠ 0))]

/-- A row's sum chunk by chunk: lane by lane over the eight chunks. -/
theorem sum_lanes (f : Fin 1024 → EReal) :
    ∑ l : Fin 128, (f ⟨l.val, by omega⟩ + f ⟨128 + l.val, by omega⟩ + f ⟨256 + l.val, by omega⟩ + f ⟨384 + l.val, by omega⟩
      + f ⟨512 + l.val, by omega⟩ + f ⟨640 + l.val, by omega⟩ + f ⟨768 + l.val, by omega⟩ + f ⟨896 + l.val, by omega⟩) = ∑ k, f k := by
  rw [Idealize.ShloMosaic.Fin.sum_univ_tiles 8 128 rfl f, Finset.sum_comm]
  refine Finset.sum_congr rfl fun l _ => ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact congrArg f (Fin.ext (by simp))

/-! ## A block -/

variable (A : S294912x128.Idx → EReal) (ix : Fin 1024 → Fin 32768) (g : Vec Ideal S1x1024 .f32)

/-- Token `k`'s row of the slabs. -/
def slabRow (k : Fin 32768) (d : Fin 1024) : EReal := A (ix2 (⟨9 * k.val + d.val / 128, by omega⟩ : Fin 294912) (⟨d.val % 128, by omega⟩ : Fin 128))

theorem chunk_apply (j : Fin 8) (r : Fin 1024) (l : Fin 128) :
    chunk (F := Ideal) A ix j (ix3 (0 : Fin 1) r l) = slabRow A (ix r) ⟨128 * j.val + l.val, by omega⟩ := by
  refine congrArg A ?_
  refine congrArg₂ (fun a b => ix2 a b) (Fin.ext ?_) (Fin.ext ?_)
  · show 9 * (ix r).val + j.val = 9 * (ix r).val + (128 * j.val + l.val) / 128; omega
  · show l.val = (128 * j.val + l.val) % 128; omega

theorem flat_apply (j : Fin 8) (r : Fin 1024) (l : Fin 128) :
    flat (F := Ideal) A ix j (ix2 r l) = slabRow A (ix r) ⟨128 * j.val + l.val, by omega⟩ := by
  pointwise [flat]
  exact chunk_apply A ix j r l

theorem inv_apply (r : Fin 1024) : inv (F := Ideal) A ix (ix2 r (0 : Fin 1)) = scaleOf (slabRow A (ix r)) := by
  unfold scaleOf
  rw [← sum_lanes (fun k => slabRow A (ix r) k * slabRow A (ix r) k), ← mul_inv_1024]
  pointwise [inv, k0_pay11, k0_pay7, k0_pay8, k0_pay9, k0_pay10, flat_apply, chunk_apply]

theorem blk_apply (j : Fin 8) (r : Fin 1024) (l : Fin 128) :
    blk (F := Ideal) A ix g j (ix2 r l) = normed (slabRow A (ix r)) (fun d => g (ix2 (0 : Fin 1) d)) ⟨128 * j.val + l.val, by omega⟩ := by
  unfold normed
  rw [← inv_apply]
  pointwise [blk, flat_apply]
  refine congrArg (fun z => _ * z) (congrArg g (congrArg (fun z => ix2 (0 : Fin 1) z) (Fin.ext ?_)))
  show (128 * j.val + l.val) % 1024 = 128 * j.val + l.val
  omega

theorem cols_apply (r d : Fin 1024) :
    cols (F := Ideal) (blk A ix g) (ix2 r d) = normed (slabRow A (ix r)) (fun d => g (ix2 (0 : Fin 1) d)) d := by
  refine (blk_apply A ix g ⟨d.val / 128, by omega⟩ r ⟨d.val % 128, by omega⟩).trans ?_
  refine congrArg (normed _ _) (Fin.ext ?_)
  show 128 * (d.val / 128) + d.val % 128 = d.val
  omega

/-! ## The array -/

variable (m : (ℓ : Loc nD τ sig) → Buf (Elt Ideal) ℓ) (c : Dev nD) (t : Fin cfg0.N)

/-- The result: token by token the row its position names, normalised. -/
def outArr : FVec Ideal S32768x1024 .f32 := fun i =>
  normed (slabRow (argA m c) ⟨(argP m c (ix1 (i 0))).toNat % 32768, Nat.mod_lt _ (by decide)⟩) (fun d => argG m c (ix1 d)) (i 1)

/-- Row `r` of block `t`, as a token. -/
def placeOf (r : Fin 1024) : Fin 32768 := ⟨t.val * 1024 + r.val, by have : t.val < 32 := t.isLt; omega⟩

theorem ixs_tok (r : Fin 1024) : ixs m c t.val r = ⟨(argP m c (ix1 (placeOf t r))).toNat % 32768, Nat.mod_lt _ (by decide)⟩ := by
  have e : (⟨(t.val * 1024 + r.val) % 32768, Nat.mod_lt _ (by decide)⟩ : Fin 32768) = placeOf t r :=
    Fin.ext (Nat.mod_eq_of_lt (placeOf t r).isLt)
  exact Fin.ext (congrArg (fun x => (argP m c (ix1 x)).toNat % 32768) e)

theorem point_out (r d : Fin 1024) : outAt m c t (ix2 r d) = outArr m c (ix2 (placeOf t r) d) := by
  refine (cols_apply (argA m c) (ixs m c t.val) (iblk m c 2 t) r d).trans ?_
  rw [ixs_tok]
  exact congrArg (fun z => normed _ z d) (funext fun d => iblk_2 m c t d)

theorem emb_3 (r d : Fin 1024) : ((cfg0.win 3).blk t).view.emb (ix2 r d) = ix2 (placeOf t r) d := by
  have h : ∀ a : Fin 2, (((cfg0.win 3).rect t).emb (ix2 r d) a : ℕ) = _ := fun a => Pipeline.Window.rect_emb_val (cfg0.win 3) t (ix2 r d) a
  rw [show (cfg0.win 3).index t = (![t.val, 0] : Fin 2 → ℕ) from index_3 t] at h
  exact idx2_of _ _ _ (h 0) ((h 1).trans (by show 0 * 1024 + d.val = d.val; omega))

theorem flush_3 (t : Fin cfg0.N) : (cfg0.win 3).flush t = true := (by decide +kernel : ∀ t : Fin cfg0.N, (cfg0.win 3).flush t = true) t
theorem index_inj (t t' : Fin grid0.N) (h : win0_3.index t = win0_3.index t') : t = t' := by
  rw [index_3, index_3] at h
  exact Fin.ext (congrFun h 0)

theorem blocks : ((cfg0.win 3).blk t).view.read (Elt Ideal) ((dats m 0 c).arrAt 3 cfg0.N) = (cfg0.win 3).cut (grid0.coords t) (outAt m c t) := by
  refine ((dats m 0 c).read_blk_arrAt_eq_flushed 3 (fun t t' _ _ hne => (cfg0.win 3).disjoint_blk fun h => hne (index_inj t t' h)) cfg0.N t t.isLt (flush_3 t)).trans ?_
  show (cfg0.win 3).cut (grid0.coords t) ((dats m 0 c).after 3 t) = _
  rw [after_3]

/-- The point whose block holds a token. -/
def pointOf (k : Fin 32768) : Fin cfg0.N := ⟨k.val / 1024, by show k.val / 1024 < 32; omega⟩
theorem placeOf_pointOf (k : Fin 32768) : placeOf (pointOf k) ⟨k.val % 1024, by omega⟩ = k := Fin.ext (by show k.val / 1024 * 1024 + k.val % 1024 = k.val; omega)

theorem final : (dats m 0 c).arrAt 3 cfg0.N = outArr m c := by
  refine funext fun (i : S32768x1024.Idx) => ?_
  have q := (congrArg (fun k => ix2 k (i 1)) (placeOf_pointOf (i 0))).trans (eq_ix2 i).symm
  have e := (emb_3 (pointOf (i 0)) ⟨(i 0).val % 1024, by omega⟩ (i 1)).trans q
  have b := congrFun (blocks m c (pointOf (i 0))) (ix2 ⟨(i 0).val % 1024, by omega⟩ (i 1))
  exact (congrArg ((dats m 0 c).arrAt 3 cfg0.N) e).symm.trans (b.trans ((point_out m c _ _ _).trans (congrArg (outArr m c) q)))

end Cert.Kernel3Ideal.Gather
end
-- ==== Proof.Gather.Reference.lean ====
/- The gather's reference, element by element: the row the position names, normalised. -/
module

public import proofs.«01_k».proof.Proof.Gen.Reference3Ideal.Run
public import proofs.«01_k».proof.Proof.Experts.Spec
public import Idealize.ShloMosaic.Lib.Routing.Ops

@[expose] public section

set_option maxRecDepth 16384

noncomputable section

namespace Cert.Reference3Ideal.Pieces

open Cert.Reference3Ideal Cert.Reference3Ideal.Gen Idealize.ShloMosaic Idealize.ShloMosaic.TcCoe Idealize.ShloMosaic.StableHlo
open Cert.Routed

variable (p : IVec S32768 32) (a : FVec Ideal S294912x128 .f32) (g : FVec Ideal S1024 .f32)

/-- All rows, without the ninth slab of each. -/
def rows : FVec Ideal S32768x1024 .f32 :=
  shapeCast _ (extractStridedSlice S32768x8x128 ![0, 0, 0] (shapeCast _ a shapeCasts_S294912x128_S32768x9x128) slices_S32768x9x128_S32768x8x128_0_0_0) shapeCasts_S32768x8x128_S32768x1024

/-- The positions, a negative one counted from the end. -/
def places : IVec S32768x1 32 :=
  broadcastInDim S32768x1 ![0] bcast_S32768_S32768x1_0 (select (cmpi .slt p (broadcastInDim S32768 ![] bcast_S_S32768 (constantI S_ 32 0#32))) (addi p (broadcastInDim S32768 ![] bcast_S_S32768 (constantI S_ 32 32768#32))) p)

/-- The rows named. -/
def named : FVec Ideal S32768x1024 .f32 := Host.gather gather_S32768x1024_S32768x1_S32768x1024_1_0_n_n_0_1_11024 (rows a) (places p)

/-- A batch of rows normalised. -/
def norms (h : FVec Ideal S32768x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem norms_apply (h : FVec Ideal S32768x1024 .f32) (t : Fin 32768) (d : Fin 1024) :
    norms g h (ix2 t d) = normed (fun d => h (ix2 t d)) (fun d => g (ix1 d)) d := by
  pointwise [norms]
  rfl

theorem rows_apply (k : Fin 32768) (d : Fin 1024) :
    rows a (ix2 k d) = a (ix2 (⟨9 * k.val + d.val / 128, by omega⟩ : Fin 294912) (⟨d.val % 128, by omega⟩ : Fin 128)) := by
  pointwise [rows]
  refine congrArg a (congrArg₂ (fun a b => ix2 a b) (Fin.ext ?_) (Fin.ext ?_))
  · simp; omega
  · simp

variable (hp : ∀ i : Fin 32768, (p (ix1 i)).toNat < 32768)

include hp in
theorem places_apply (i : Fin 32768) : places p (ix2 i (0 : Fin 1)) = BitVec.ofNat 32 (p (ix1 i)).toNat := by
  have h := hp i
  have e : places p (ix2 i (0 : Fin 1)) = if IntOp.cmpi .slt (p (ix1 i)) 0#32 = 1#1 then p (ix1 i) + 32768#32 else p (ix1 i) := by
    pointwise [places]
    rfl
  rw [e, if_neg, BitVec.ofNat_toNat, BitVec.setWidth_eq]
  show ¬ BitVec.ofBool ((p (ix1 i)).slt 0#32) = 1#1
  rw [StableHlo.Predicate.ofBool_eq_one_iff]
  simp only [BitVec.slt, decide_eq_true_eq, BitVec.toInt_eq_toNat_cond]
  rw [if_pos (by omega)]
  simp

include hp in
theorem named_apply (t : Fin 32768) (d : Fin 1024) :
    named p a (ix2 t d) = a (ix2 (⟨9 * (p (ix1 t)).toNat + d.val / 128, by have := hp t; omega⟩ : Fin 294912) (⟨d.val % 128, by omega⟩ : Fin 128)) :=
  (Routing.gather_row gather_S32768x1024_S32768x1_S32768x1024_1_0_n_n_0_1_11024 rfl rfl rfl rfl rfl (rows a) (places p) t d ⟨_, hp t⟩ (places_apply p hp t) (by decide)).trans
    (rows_apply a _ _)

end Cert.Reference3Ideal.Pieces
end
-- ==== Proof.Gather.Equal.lean ====
/- The gather's value claim: from the same arguments kernel and reference end with the same array. -/
module

public import proofs.«01_k».proof.Proof.Gather.Frames
public import proofs.«01_k».proof.Proof.Gather.Value
public import proofs.«01_k».proof.Proof.Gather.Reference

@[expose] public section

set_option maxRecDepth 16384

noncomputable section

namespace Cert.Proof.Gathering

open Idealize.ShloMosaic Idealize.ShloMosaic.TcCoe Idealize.SL.Sem
open Cert.Kernel3Ideal.Gather Cert.Reference3Ideal.Pieces

/-- The reference's array on the kernel's arguments is the kernel's. -/
theorem reference_eq (m : (ℓ : Loc Cert.Kernel3Ideal.nD Cert.Kernel3Ideal.τ Cert.Kernel3Ideal.sig) → Buf (Elt Ideal) ℓ) (c : Dev Cert.Kernel3Ideal.nD) (hP : Placed m c) :
    norms (argG m c) (named (argP m c) (argA m c)) = outArr m c :=
  funext fun (i : Cert.Kernel3Ideal.S32768x1024.Idx) => by
    refine (congrArg _ (eq_ix2 i)).trans ((norms_apply _ _ (i 0) (i 1)).trans ?_)
    refine congrArg (fun h => Cert.Routed.normed h _ (i 1)) (funext fun d => (named_apply _ _ hP.lt (i 0) d).trans ?_)
    refine congrArg (argA m c) (congrArg (fun k => ix2 k _) (Fin.ext ?_))
    show 9 * (argP m c (ix1 (i 0))).toNat + d.val / 128 = 9 * ((argP m c (ix1 (i 0))).toNat % 32768) + d.val / 128
    rw [Nat.mod_eq_of_lt (hP.lt (i 0))]

theorem algebraic : Cert.algebraic_Kernel3Ideal_Reference3Ideal (hKernel3Ideal := Cert.Kernel3Ideal.Gen.facts)
    (hReference3Ideal := Cert.Reference3Ideal.Gen.facts) (hPre_positions := Cert.Pre_positions.Gen.facts) := by
  intro m g m' g' pre args
  refine ⟨fun c => outArr m c, ?_, ?_⟩
  · refine (θ_run Cert.Kernel3Ideal.defs _ _).mono (fun r h c => ⟨?_, (h.1 c).2⟩) (Cert.Kernel3Ideal.Gather.run m g (placed_ideal m pre))
    exact (h.1 c).1.trans (final m c)
  · refine (θ_run Cert.Reference3Ideal.defs _ _).mono (fun r h c => ⟨?_, (h c).2⟩) (Cert.Reference3Ideal.Value.run m' g')
    have h0 := (h c).1
    obtain ⟨e0, e1, e2⟩ := args c
    obtain rfl : c = 0 := Subsingleton.elim _ _
    rw [e0, e1, e2] at h0
    exact h0.trans (reference_eq m 0 (placed_ideal m pre 0))

end Cert.Proof.Gathering
end
-- ==== Proof.Router.Body.lean ====
/- The output projection and routing call: its printed parts keep the input blocks and hold the output blocks. -/
module

public import proofs.«01_k».proof.Proof.Gen.Kernel5Ideal
public import proofs.«01_k».proof.Proof.Gen.Kernel5Ideal.Skeleton
public import proofs.«01_k».proof.Proof.Gen.Kernel5Ideal.Frame
public import Idealize.ShloMosaic.Lib.Claim
@[expose] public section

set_option maxRecDepth 16384

noncomputable section

namespace Cert.Kernel5Ideal.Router

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A buffer held whole at contents `f`. -/
abbrev held (c : Dev nD) {sp : Space} {s : Shape} {e : EltTy} (M : Memref sig .tc sp s e) (f : M.view.ty.Contents (Elt F)) : sProp 𝕄 :=
  M.view.loc (c : Thread nD τ) ↦[M.view.set]{fullShare} f

variable (c : Dev nD) (i : grid0.Coords)
  (arg1 : Memref sig .tc .vmem S1024x1024 .f32) (harg1 : arg1.IsWhole)
  (arg2 : Memref sig .tc .vmem S1024x512 .bf16) (harg2 : arg2.IsWhole)
  (arg3 : Memref sig .tc .vmem S1024x512 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S96x1024 .bf16) (harg6 : arg6.IsWhole)
  (arg7 : Memref sig .tc .vmem S48x1024 .bf16) (harg7 : arg7.IsWhole)
  (arg8 : Memref sig .tc .vmem S48x128 .f32) (harg8 : arg8.IsWhole)
  (arg9 : Memref sig .tc .vmem S9216x128 .f32) (harg9 : arg9.IsWhole)
  (arg10 : Memref sig .tc .vmem S1x8x1024 .i32) (harg10 : arg10.IsWhole)
  (arg11 : Memref sig .tc .vmem S128x128 .f32) (harg11 : arg11.IsWhole)
  (arg12 : Memref sig .tc .vmem S128x128 .f32) (harg12 : arg12.IsWhole)
  (f1 : arg1.view.ty.Contents (Elt F))
  (f2 : arg2.view.ty.Contents (Elt F))
  (f3 : arg3.view.ty.Contents (Elt F))
  (f4 : arg4.view.ty.Contents (Elt F))
  (f5 : arg5.view.ty.Contents (Elt F))
  (f6 : arg6.view.ty.Contents (Elt F))
  (f7 : arg7.view.ty.Contents (Elt F))
  (f8 : arg8.view.ty.Contents (Elt F))

/-- What the body holds between two of its operations: the inputs at their contents, the outputs and the carried tile at any. -/
def state : sProp 𝕄 :=
  iprop(held c arg1 f1 ∗ held c arg2 f2 ∗ held c arg3 f3 ∗ held c arg4 f4 ∗ held c arg5 f5 ∗ held c arg6 f6 ∗ held c arg7 f7 ∗ held c arg8 f8
    ∗ (∃ f, held c arg9 f) ∗ (∃ f, held c arg10 f) ∗ (∃ f, held c arg11 f) ∗ (∃ f, held c arg12 f))

/-- Two steps that keep a state, one after the other, keep it. -/
theorem then_state {α β : Type} {S : sProp 𝕄} {p : Prog (TpuEff nD τ sig (Elt F) Λ₀ .tc) α} {k : α → Prog (TpuEff nD τ sig (Elt F) Λ₀ .tc) β} {E : Set ℕ}
    (h : S ⊢ wp frame (wpE (defs₀ (F := F)) Variants.none c none) E p (fun _ => S))
    (hk : ∀ x, S ⊢ wp frame (wpE (defs₀ (F := F)) Variants.none c none) E (k x) (fun _ => S)) :
    S ⊢ wp frame (wpE (defs₀ (F := F)) Variants.none c none) E (p >>= k) (fun _ => S) := by
  rw [wp_bind]
  exact h.trans (wp_mono _ _ _ hk)

set_option maxHeartbeats 4000000 in
/-- Part 1 of the body keeps the input blocks and holds the output blocks. -/
theorem part1  (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part1 i arg1 harg1 arg2 harg2 arg3 harg3 arg4 harg4 arg5 harg5 arg6 harg6 arg7 harg7 arg8 harg8 arg9 harg9 arg10 harg10 arg11 harg11 arg12 harg12 ) (fun _ => state c arg1 arg2 arg3 arg4 arg5 arg6 arg7 arg8 arg9 arg10 arg11 arg12 f1 f2 f3 f4 f5 f6 f7 f8) := by
  rw [k0_part1_eq_skeleton]
  unfold k0_part1_skel
  unfold state
  iintro ⟨H1, H2, H3, H4, H5, H6, H7, H8, ⟨%f9, H9⟩, ⟨%f10, H10⟩, ⟨%f11, H11⟩, ⟨%f12, H12⟩⟩
  rcases eq_or_ne (Scalar.cmpi .ne (Scalar.extui (Scalar.cmpi .eq (BitVec.ofNat 32 (i 0).val) 0#32) : BitVec 32) 0#32) 1#1 with h | h
  · sl_exec (disch := sl_exact h)
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12
  · sl_exec (disch := sl_exact h)
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12

set_option maxHeartbeats 4000000 in
/-- Part 2 of the body keeps the input blocks and holds the output blocks. -/
theorem part2 (v16 : FVec F S512x1024 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part2 i arg1 harg1 arg2 harg2 arg3 harg3 arg4 harg4 arg5 harg5 arg6 harg6 arg7 harg7 arg8 harg8 arg9 harg9 arg10 harg10 arg11 harg11 arg12 harg12 v16) (fun _ => state c arg1 arg2 arg3 arg4 arg5 arg6 arg7 arg8 arg9 arg10 arg11 arg12 f1 f2 f3 f4 f5 f6 f7 f8) := by
  rw [k0_part2_eq_skeleton]
  unfold k0_part2_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 3 of the body keeps the input blocks and holds the output blocks. -/
theorem part3 (v64 : FVec F S48x512 .f32) (v66 : FVec F S8x512 .f32) (v71 : FVec F S8x512 .f32) (v73 : FVec F S1x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part3 i arg1 harg1 arg2 harg2 arg3 harg3 arg4 harg4 arg5 harg5 arg6 harg6 arg7 harg7 arg8 harg8 arg9 harg9 arg10 harg10 arg11 harg11 arg12 harg12 v64 v66 v71 v73) (fun _ => state c arg1 arg2 arg3 arg4 arg5 arg6 arg7 arg8 arg9 arg10 arg11 arg12 f1 f2 f3 f4 f5 f6 f7 f8) := by
  rw [k0_part3_eq_skeleton]
  unfold k0_part3_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 4 of the body keeps the input blocks and holds the output blocks. -/
theorem part4 (v66 : FVec F S8x512 .f32) (v82 : FVec F S1x512 .f32) (v88 : FVec F S1x512 .f32) (v122 : FVec F S8x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part4 i arg1 harg1 arg2 harg2 arg3 harg3 arg4 harg4 arg5 harg5 arg6 harg6 arg7 harg7 arg8 harg8 arg9 harg9 arg10 harg10 arg11 harg11 arg12 harg12 v66 v82 v88 v122) (fun _ => state c arg1 arg2 arg3 arg4 arg5 arg6 arg7 arg8 arg9 arg10 arg11 arg12 f1 f2 f3 f4 f5 f6 f7 f8) := by
  rw [k0_part4_eq_skeleton]
  unfold k0_part4_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 5 of the body keeps the input blocks and holds the output blocks. -/
theorem part5 (v16 : FVec F S512x1024 .f32) (v31 : Vec F S128x128 .f32) (v151 : FVec F S1x512 .f32) (v152 : FVec F S1x512 .f32) (v164 : FVec F S1x512 .f32) (v168 : IVec S128x512 1) (cst_63 : F .f32) (v169 : FVec F S128x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part5 i arg1 harg1 arg2 harg2 arg3 harg3 arg4 harg4 arg5 harg5 arg6 harg6 arg7 harg7 arg8 harg8 arg9 harg9 arg10 harg10 arg11 harg11 arg12 harg12 v16 v31 v151 v152 v164 v168 cst_63 v169) (fun _ => state c arg1 arg2 arg3 arg4 arg5 arg6 arg7 arg8 arg9 arg10 arg11 arg12 f1 f2 f3 f4 f5 f6 f7 f8) := by
  rw [k0_part5_eq_skeleton]
  unfold k0_part5_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 6 of the body keeps the input blocks and holds the output blocks. -/
theorem part6 (v16 : FVec F S512x1024 .f32) (v30 : FVec F S512x1024 .f32) (v31 : Vec F S128x128 .f32) (v181 : FVec F S128x128 .f32) (v197 : FVec F S128x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part6 i arg1 harg1 arg2 harg2 arg3 harg3 arg4 harg4 arg5 harg5 arg6 harg6 arg7 harg7 arg8 harg8 arg9 harg9 arg10 harg10 arg11 harg11 arg12 harg12 v16 v30 v31 v181 v197) (fun _ => state c arg1 arg2 arg3 arg4 arg5 arg6 arg7 arg8 arg9 arg10 arg11 arg12 f1 f2 f3 f4 f5 f6 f7 f8) := by
  rw [k0_part6_eq_skeleton]
  unfold k0_part6_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 7 of the body keeps the input blocks and holds the output blocks. -/
theorem part7 (v234 : FVec F S512x1024 .bf16) (v240 : FVec F S48x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part7 i arg1 harg1 arg2 harg2 arg3 harg3 arg4 harg4 arg5 harg5 arg6 harg6 arg7 harg7 arg8 harg8 arg9 harg9 arg10 harg10 arg11 harg11 arg12 harg12 v234 v240) (fun _ => state c arg1 arg2 arg3 arg4 arg5 arg6 arg7 arg8 arg9 arg10 arg11 arg12 f1 f2 f3 f4 f5 f6 f7 f8) := by
  rw [k0_part7_eq_skeleton]
  unfold k0_part7_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 8 of the body keeps the input blocks and holds the output blocks. -/
theorem part8 (v249 : FVec F S48x512 .f32) (v251 : FVec F S8x512 .f32) (v267 : FVec F S1x512 .f32) (v273 : FVec F S1x512 .f32) (v286 : FVec F S8x512 .f32) (cst_108 : F .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part8 i arg1 harg1 arg2 harg2 arg3 harg3 arg4 harg4 arg5 harg5 arg6 harg6 arg7 harg7 arg8 harg8 arg9 harg9 arg10 harg10 arg11 harg11 arg12 harg12 v249 v251 v267 v273 v286 cst_108) (fun _ => state c arg1 arg2 arg3 arg4 arg5 arg6 arg7 arg8 arg9 arg10 arg11 arg12 f1 f2 f3 f4 f5 f6 f7 f8) := by
  rw [k0_part8_eq_skeleton]
  unfold k0_part8_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 9 of the body keeps the input blocks and holds the output blocks. -/
theorem part9 (v216 : FVec F S128x128 .f32) (v273 : FVec F S1x512 .f32) (v330 : FVec F S1x512 .f32) (v332 : FVec F S1x512 .f32) (v333 : IVec S1x512 1) (v334 : FVec F S1x512 .f32) (v335 : FVec F S1x512 .f32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part9 i arg1 harg1 arg2 harg2 arg3 harg3 arg4 harg4 arg5 harg5 arg6 harg6 arg7 harg7 arg8 harg8 arg9 harg9 arg10 harg10 arg11 harg11 arg12 harg12 v216 v273 v330 v332 v333 v334 v335) (fun _ => state c arg1 arg2 arg3 arg4 arg5 arg6 arg7 arg8 arg9 arg10 arg11 arg12 f1 f2 f3 f4 f5 f6 f7 f8) := by
  rw [k0_part9_eq_skeleton]
  unfold k0_part9_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 4000000 in
/-- Part 10 of the body keeps the input blocks and holds the output blocks. -/
theorem part10 (v30 : FVec F S512x1024 .f32) (v216 : FVec F S128x128 .f32) (v336 : FVec F S1x512 .f32) (v337 : FVec F S1x512 .f32) (v366 : FVec F S128x128 .f32) (v380 : IVec S1x8x512 32) (E : Set ℕ) :
    state c arg1 arg2 arg3 arg4 arg5 arg6 arg7 arg8 arg9 arg10 arg11 arg12 f1 f2 f3 f4 f5 f6 f7 f8
      ⊢ wp frame (wpE (defs₀ (F := F)) Variants.none c none) E
          (k0_part10 i arg1 harg1 arg2 harg2 arg3 harg3 arg4 harg4 arg5 harg5 arg6 harg6 arg7 harg7 arg8 harg8 arg9 harg9 arg10 harg10 arg11 harg11 arg12 harg12 v30 v216 v336 v337 v366 v380) (fun _ => state c arg1 arg2 arg3 arg4 arg5 arg6 arg7 arg8 arg9 arg10 arg11 arg12 f1 f2 f3 f4 f5 f6 f7 f8) := by
  rw [k0_part10_eq_skeleton]
  unfold k0_part10_skel
  unfold state
  iintro ⟨H1, H2, H3, H4, H5, H6, H7, H8, ⟨%f9, H9⟩, ⟨%f10, H10⟩, ⟨%f11, H11⟩, ⟨%f12, H12⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The body keeps the input blocks and holds the output blocks. -/
theorem whole (E : Set ℕ) :
    state c arg1 arg2 arg3 arg4 arg5 arg6 arg7 arg8 arg9 arg10 arg11 arg12 f1 f2 f3 f4 f5 f6 f7 f8
      ⊢ wp frame (wpE (defs₀ (F := F)) Variants.none c none) E (cc0_out_router i arg1 harg1 arg2 harg2 arg3 harg3 arg4 harg4 arg5 harg5 arg6 harg6 arg7 harg7 arg8 harg8 arg9 harg9 arg10 harg10 arg11 harg11 arg12 harg12) (fun _ => state c arg1 arg2 arg3 arg4 arg5 arg6 arg7 arg8 arg9 arg10 arg11 arg12 f1 f2 f3 f4 f5 f6 f7 f8) := by
  rw [cc0_out_router_eq_skeleton]
  unfold cc0_out_router_skel
  refine then_state c (part1 c i arg1 harg1 arg2 harg2 arg3 harg3 arg4 harg4 arg5 harg5 arg6 harg6 arg7 harg7 arg8 harg8 arg9 harg9 arg10 harg10 arg11 harg11 arg12 harg12 f1 f2 f3 f4 f5 f6 f7 f8 E) (fun _ => ?_)
  refine then_state c (part2 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ E) (fun _ => ?_)
  refine then_state c (part3 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ E) (fun _ => ?_)
  refine then_state c (part4 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ E) (fun _ => ?_)
  refine then_state c (part5 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ _ _ _ _ E) (fun _ => ?_)
  refine then_state c (part6 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ _ E) (fun _ => ?_)
  refine then_state c (part7 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ E) (fun _ => ?_)
  refine then_state c (part8 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ _ _ E) (fun _ => ?_)
  refine then_state c (part9 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ _ _ _ E) (fun _ => ?_)
  refine then_state c (part10 c i arg1 harg1 arg2 harg2 arg3 harg3 arg4 harg4 arg5 harg5 arg6 harg6 arg7 harg7 arg8 harg8 arg9 harg9 arg10 harg10 arg11 harg11 arg12 harg12 f1 f2 f3 f4 f5 f6 f7 f8 _ _ _ _ _ _ E) (fun _ => ?_)
  iintro H
  sl_step
  iexact H

end Cert.Kernel5Ideal.Router
end
-- ==== Proof.Router.Run.lean ====
/- The output projection and routing call run: the pipeline's proof data with the outputs left open, the launch, and the frame. -/
module

public import proofs.«01_k».proof.Proof.Router.Body
@[expose] public section

set_option maxRecDepth 16384

noncomputable section

namespace Cert.Kernel5Ideal.Router

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the run does not name: the three outputs. -/
def spare (w : Fin cfg0.W) : Bool := match w with
  | ⟨8, _⟩ => true
  | ⟨9, _⟩ => true
  | ⟨10, _⟩ => true
  | _ => false

/-- The proof data: the inputs stay at their blocks, the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem bef_0 (c : Dev nD) (t : Fin cfg0.N) (d) : (dats m 0 c).before 0 t d = iblk m c 0 t :=
  before0_0_of m (dats m 0 c) (A_eq m c 0) (after_0 m c) t d
theorem bef_1 (c : Dev nD) (t : Fin cfg0.N) (d) : (dats m 0 c).before 1 t d = iblk m c 1 t :=
  before0_1_of m (dats m 0 c) (A_eq m c 1) (after_1 m c) t d
theorem bef_2 (c : Dev nD) (t : Fin cfg0.N) (d) : (dats m 0 c).before 2 t d = iblk m c 2 t :=
  before0_2_of m (dats m 0 c) (A_eq m c 2) (after_2 m c) t d
theorem bef_3 (c : Dev nD) (t : Fin cfg0.N) (d) : (dats m 0 c).before 3 t d = iblk m c 3 t :=
  before0_3_of m (dats m 0 c) (A_eq m c 3) (after_3 m c) t d
theorem bef_4 (c : Dev nD) (t : Fin cfg0.N) (d) : (dats m 0 c).before 4 t d = iblk m c 4 t :=
  before0_4_of m (dats m 0 c) (A_eq m c 4) (after_4 m c) t d
theorem bef_5 (c : Dev nD) (t : Fin cfg0.N) (d) : (dats m 0 c).before 5 t d = iblk m c 5 t :=
  before0_5_of m (dats m 0 c) (A_eq m c 5) (after_5 m c) t d
theorem bef_6 (c : Dev nD) (t : Fin cfg0.N) (d) : (dats m 0 c).before 6 t d = iblk m c 6 t :=
  before0_6_of m (dats m 0 c) (A_eq m c 6) (after_6 m c) t d
theorem bef_7 (c : Dev nD) (t : Fin cfg0.N) (d) : (dats m 0 c).before 7 t d = iblk m c 7 t :=
  before0_7_of m (dats m 0 c) (A_eq m c 7) (after_7 m c) t d

/-- The body at point `t`, on what the pipeline calls it with. -/
abbrev bodyAt (t : Fin cfg0.N) : Prog (TpuEff nD τ sig (Elt F) Λ₀ .tc) PUnit :=
  cc0_out_router (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _)

theorem defs₀_row (t : Fin cfg0.N) : defs₀ (F := F) .tc cfg0.body (cfg0.bodyArgs t (cfg0.slots t)) = bodyAt t := by
  unfold defs₀; rw [Defs.onTc_tc]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X))

/-- What is carried from point to point: the tile at any contents, and the generator register. -/
theorem tile_eq (c : Dev nD) : (Pipeline.ΦA spec0 c : sProp 𝕄) = iprop((∃ f, held c (Memref.whole cc0_scratch0) f) ∗ (∃ r, prngReg c r)) := by
  unfold Pipeline.ΦA
  rw [scopedRest0_eq c]
  unfold held
  simp only [Memref.view_whole, View.set_whole]

set_option maxHeartbeats 800000 in
/-- The body runs at every point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [bef_0, bef_1, bef_2, bef_3, bef_4, bef_5, bef_6, bef_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, tile_eq]
  unfold owns
  iintro ⟨⟨H12, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩, ⟨%d9, %f9, -, H9⟩, ⟨%d10, %f10, -, H10⟩⟩
  have hb := whole (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) f0 f1 f2 f3 f4 f5 f6 f7 Set.univ
  iapply (wp_wand_r _ _ _ (Q := fun _ => state c (st0_0 t) (st0_1 t) (st0_2 t) (st0_3 t) (st0_4 t) (st0_5 t) (st0_6 t) (st0_7 t) (st0_8 t) (st0_9 t) (st0_10 t) (Memref.whole cc0_scratch0) f0 f1 f2 f3 f4 f5 f6 f7))
  isplitl [H0 H1 H2 H3 H4 H5 H6 H7 H8 H9 H10 H12]
  · iapply hb
    unfold state
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexact H12
  iintro %_
  unfold state
  iintro ⟨H0, H1, H2, H3, H4, H5, H6, H7, ⟨%e8, H8⟩, ⟨%e9, H9⟩, ⟨%e10, H10⟩, H12⟩
  isplitl [H12 Hg]
  · isplitl [H12]
    · iexact H12
    iexact Hg
  isplitl [Ho]; · iexact Ho
  isplitl [H0]
  · iexists f0
    isplitr
    · ipureintro; exact h0
    iexact H0
  isplitl [H1]
  · iexists f1
    isplitr
    · ipureintro; exact h1
    iexact H1
  isplitl [H2]
  · iexists f2
    isplitr
    · ipureintro; exact h2
    iexact H2
  isplitl [H3]
  · iexists f3
    isplitr
    · ipureintro; exact h3
    iexact H3
  isplitl [H4]
  · iexists f4
    isplitr
    · ipureintro; exact h4
    iexact H4
  isplitl [H5]
  · iexists f5
    isplitr
    · ipureintro; exact h5
    iexact H5
  isplitl [H6]
  · iexists f6
    isplitr
    · ipureintro; exact h6
    iexact H6
  isplitl [H7]
  · iexists f7
    isplitr
    · ipureintro; exact h7
    iexact H7
  isplitl [H8]
  · iexists _, e8
    isplitr
    · ipureintro; rfl
    iexact H8
  isplitl [H9]
  · iexists _, e9
    isplitr
    · ipureintro; rfl
    iexact H9
  iexists _, e10
  isplitr
  · ipureintro; rfl
  iexact H10

/-- The body obligation of the pipeline. -/
theorem body_obligation (c : Dev nD) : BodyObligation (dats (F := F) m 0 c) (defs₀ (F := F)) Variants.none () Set.univ spare := fun t => by
  rw [bigSep_W0, bigSep_W0, defs₀_row]
  exact triple_restated (sound_body m c t) rfl .rfl fun _ => .rfl

/-! ## The launch and the frame -/

set_option backward.isDefEq.respectTransparency.types false in
/-- The launch: every array that is not an output of the call ends as it was when the call began. -/
theorem run_main : θ_run defs (onTc (τ := τ) (main (F := F))) (s₀ m ρ)
    (fun r => Pipeline.RDat.FramePost cfg0 (fun c => (dats m 0 c).toRForget spare) (V m) r ∧ r.2.sem = fun _ => 0) :=
  Pipeline.θ_run_frame_forget (Q' := _) cfgs (dats m) (0 : Fin 1) launch0 defs₀ Variants.none spare m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends unchanged and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩) (run_main m ρ)

end Cert.Kernel5Ideal.Router
end
-- ==== Proof.Router.Frames.lean ====
/- The routing call's frames: the ideal reading's from the run, the program's from it since both are one text. -/
module

public import proofs.«01_k».proof.Defs
public import proofs.«01_k».proof.Proof.Gen.Kernel5
public import proofs.«01_k».proof.Proof.Router.Run

@[expose] public section

noncomputable section

namespace Cert.Proof.Routing

open Idealize.ShloMosaic Idealize.ShloMosaic.TcCoe Idealize.SL.Sem

/-- The two mains are one text. -/
theorem main_eq : Cert.Kernel5.main (F := Bits) = Cert.Kernel5Ideal.main (F := Bits) := rfl

set_option maxHeartbeats 4000000 in
/-- The body tables agree, label by label. -/
theorem defs0_eq : Cert.Kernel5.defs₀ (F := Bits) = Cert.Kernel5Ideal.defs₀ (F := Bits) := by
  refine congrArg (Defs.onTc (nD := 1) (τ := Topo.v7x) (sig := Cert.Kernel5Ideal.sig) (Val := Elt Bits) (Λ := Cert.Kernel5Ideal.Λ₀)) ?_
  funext l a
  match l, a with
  | ⟨0, _⟩, (t, s) => with_unfolding_all rfl
  | ⟨n + 1, h⟩, _ => exact absurd h (by omega)

theorem defs_eq : Cert.Kernel5.defs (F := Bits) = Cert.Kernel5Ideal.defs (F := Bits) :=
  congrArg (Pipeline.defs (Cert.Kernel5Ideal.pcfgs (F := Bits))) defs0_eq

/-- The program's memory as the ideal reading's. -/
abbrev asIdeal (m : (ℓ : Loc Cert.Kernel5.nD Cert.Kernel5.τ Cert.Kernel5.sig) → Buf (Elt Bits) ℓ) :
  (ℓ : Loc Cert.Kernel5Ideal.nD Cert.Kernel5Ideal.τ Cert.Kernel5Ideal.sig) → Buf (Elt Bits) ℓ := m

set_option maxHeartbeats 4000000 in
/-- The frame of the program over words. -/
theorem frame_kernel : Cert.quiescent_Kernel5 (hKernel5 := Cert.Kernel5.Gen.facts) := by
  intro m g _
  have e := Cert.Kernel5Ideal.Router.frame (F := Bits) (asIdeal m) g
  rw [← defs_eq, ← main_eq] at e
  exact e

/-- The frame of the ideal reading. -/
theorem frame_ideal : Cert.quiescent_Kernel5Ideal (hKernel5Ideal := Cert.Kernel5Ideal.Gen.facts) :=
  fun m g _ => Cert.Kernel5Ideal.Router.frame m g

end Cert.Proof.Routing
end
-- ==== Proof.lean ====
module

public import proofs.«01_k».proof.Proof.Equal
public import proofs.«01_k».proof.Proof.Project.Equal
public import proofs.«01_k».proof.Proof.Gather.Equal
public import proofs.«01_k».proof.Proof.Router.Frames
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Kernel5.Gen.facts, Cert.Kernel5Ideal.Gen.facts, Cert.Pre_work_items.Gen.facts, Cert.Pre_positions.Gen.facts,
  frame_kernel, frame_ideal, frame_reference, Projection.frame_kernel, Projection.frame_ideal, Projection.frame_reference,
  Gathering.frame_kernel, Gathering.frame_ideal, Gathering.frame_reference,
  fun m g _ => Cert.Kernel4.Gen.frame m g, fun m g _ => Cert.Kernel4Ideal.Gen.frame m g,
  Routing.frame_kernel, Routing.frame_ideal,
  trivial, algebraic, trivial, Projection.algebraic, trivial, Gathering.algebraic, trivial, trivial⟩

end Cert.Proof

end
